-- ==== Defs.lean ====
def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_logits [hPre_finite_logits : Cert.Pre_finite_logits.Facts] (m : (ℓ : Loc Cert.CtxIdeal.nD Cert.CtxIdeal.τ Cert.CtxIdeal.sig) → Buf (Elt Ideal) ℓ) : Prop :=
  ∀ c : Dev Cert.CtxIdeal.nD,
    (Cert.Pre_finite_logits.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_logits [hPre_finite_logits : Cert.Pre_finite_logits.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_logits.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_heads [hPre_finite_heads : Cert.Pre_finite_heads.Facts] (m : (ℓ : Loc Cert.MixIdeal.nD Cert.MixIdeal.τ Cert.MixIdeal.sig) → Buf (Elt Ideal) ℓ) : Prop :=
  ∀ c : Dev Cert.MixIdeal.nD,
    (Cert.Pre_finite_heads.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_heads [hPre_finite_heads : Cert.Pre_finite_heads.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_heads.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Moe [hPre_expert_tables : Cert.Pre_expert_tables.Facts] (m : (ℓ : Loc Cert.Moe.nD Cert.Moe.τ Cert.Moe.sig) → Buf (Elt Bits) ℓ) : Prop :=
  ∀ c : Dev Cert.Moe.nD,
    (Cert.Pre_expert_tables.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7)) (m ((c.tc : Thread Cert.Moe.nD Cert.Moe.τ).loc Cert.Moe.main_arg8))) = (fun _ => 1#1)

def Pre_MoeIdeal [hPre_expert_tables : Cert.Pre_expert_tables.Facts] (m : (ℓ : Loc Cert.MoeIdeal.nD Cert.MoeIdeal.τ Cert.MoeIdeal.sig) → Buf (Elt Ideal) ℓ) : Prop :=
  ∀ c : Dev Cert.MoeIdeal.nD,
    (Cert.Pre_expert_tables.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_expert_tables [hPre_expert_tables : Cert.Pre_expert_tables.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_expert_tables.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7)) (m ((c.tc : Thread Cert.MoeRefIdeal.nD Cert.MoeRefIdeal.τ).loc Cert.MoeRefIdeal.main_arg8))) = (fun _ => 1#1)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ r.2.sem = fun _ => 0)

def quiescent_CtxIdeal_pre_finite_logits [hCtxIdeal : Cert.CtxIdeal.Facts] [hPre_finite_logits : Cert.Pre_finite_logits.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_logits m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1))
      ∧ r.2.sem = fun _ => 0)

def quiescent_CtxRefIdeal_pre_finite_logits [hCtxRefIdeal : Cert.CtxRefIdeal.Facts] [hPre_finite_logits : Cert.Pre_finite_logits.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_logits m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2)
      ∧ r.2.mem ((c.tc : Thread Cert.Res.nD Cert.Res.τ).loc Cert.Res.main_arg3) = m ((c.tc : Thread Cert.Res.nD Cert.Res.τ).loc Cert.Res.main_arg3)
      ∧ r.2.mem ((c.tc : Thread Cert.Res.nD Cert.Res.τ).loc Cert.Res.main_arg4) = m ((c.tc : Thread Cert.Res.nD Cert.Res.τ).loc Cert.Res.main_arg4)
      ∧ r.2.mem ((c.tc : Thread Cert.Res.nD Cert.Res.τ).loc Cert.Res.main_arg5) = m ((c.tc : Thread Cert.Res.nD Cert.Res.τ).loc Cert.Res.main_arg5))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
      ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
      ∧ r.2.mem ((c.tc : Thread Cert.ResIdeal.nD Cert.ResIdeal.τ).loc Cert.ResIdeal.main_arg4) = m ((c.tc : Thread Cert.ResIdeal.nD Cert.ResIdeal.τ).loc Cert.ResIdeal.main_arg4)
      ∧ r.2.mem ((c.tc : Thread Cert.ResIdeal.nD Cert.ResIdeal.τ).loc Cert.ResIdeal.main_arg5) = m ((c.tc : Thread Cert.ResIdeal.nD Cert.ResIdeal.τ).loc Cert.ResIdeal.main_arg5))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2)
      ∧ r.2.mem ((c.tc : Thread Cert.ResRefIdeal.nD Cert.ResRefIdeal.τ).loc Cert.ResRefIdeal.main_arg3) = m ((c.tc : Thread Cert.ResRefIdeal.nD Cert.ResRefIdeal.τ).loc Cert.ResRefIdeal.main_arg3)
      ∧ r.2.mem ((c.tc : Thread Cert.ResRefIdeal.nD Cert.ResRefIdeal.τ).loc Cert.ResRefIdeal.main_arg4) = m ((c.tc : Thread Cert.ResRefIdeal.nD Cert.ResRefIdeal.τ).loc Cert.ResRefIdeal.main_arg4)
      ∧ r.2.mem ((c.tc : Thread Cert.ResRefIdeal.nD Cert.ResRefIdeal.τ).loc Cert.ResRefIdeal.main_arg5) = m ((c.tc : Thread Cert.ResRefIdeal.nD Cert.ResRefIdeal.τ).loc Cert.ResRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ r.2.sem = fun _ => 0)

def quiescent_MixIdeal_pre_finite_heads [hMixIdeal : Cert.MixIdeal.Facts] [hPre_finite_heads : Cert.Pre_finite_heads.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_heads m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17))
      ∧ r.2.sem = fun _ => 0)

def quiescent_MixRefIdeal_pre_finite_heads [hMixRefIdeal : Cert.MixRefIdeal.Facts] [hPre_finite_heads : Cert.Pre_finite_heads.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_heads m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3))
      ∧ r.2.sem = fun _ => 0)

def quiescent_Moe [hMoe : Cert.Moe.Facts] [hPre_expert_tables : Cert.Pre_expert_tables.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] [hPre_expert_tables : Cert.Pre_expert_tables.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_MoeRefIdeal_pre_expert_tables [hMoeRefIdeal : Cert.MoeRefIdeal.Facts] [hPre_expert_tables : Cert.Pre_expert_tables.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_expert_tables m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def preserves_Ctx_CtxIdeal : Prop :=
  True

def algebraic_CtxIdeal_CtxRefIdeal_pre_finite_logits [hCtxIdeal : Cert.CtxIdeal.Facts] [hCtxRefIdeal : Cert.CtxRefIdeal.Facts] [hPre_finite_logits : Cert.Pre_finite_logits.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_logits m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v30) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v60) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)
      ∧ m' ((c.tc : Thread Cert.ResRefIdeal.nD Cert.ResRefIdeal.τ).loc Cert.ResRefIdeal.main_arg3) = m ((c.tc : Thread Cert.ResIdeal.nD Cert.ResIdeal.τ).loc Cert.ResIdeal.main_arg3)
      ∧ m' ((c.tc : Thread Cert.ResRefIdeal.nD Cert.ResRefIdeal.τ).loc Cert.ResRefIdeal.main_arg4) = m ((c.tc : Thread Cert.ResIdeal.nD Cert.ResIdeal.τ).loc Cert.ResIdeal.main_arg4)
      ∧ m' ((c.tc : Thread Cert.ResRefIdeal.nD Cert.ResRefIdeal.τ).loc Cert.ResRefIdeal.main_arg5) = m ((c.tc : Thread Cert.ResIdeal.nD Cert.ResIdeal.τ).loc Cert.ResIdeal.main_arg5)) →
    ∃ (v0 : (c : Dev Cert.ResIdeal.nD) → Buf (Elt Ideal) ((c.tc : Thread Cert.ResIdeal.nD Cert.ResIdeal.τ).loc Cert.ResIdeal.main_v1_0)) (v1 : (c : Dev Cert.ResIdeal.nD) → Buf (Elt Ideal) ((c.tc : Thread Cert.ResIdeal.nD Cert.ResIdeal.τ).loc Cert.ResIdeal.main_v1_1)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v1_0) = v0 c
          ∧ r.2.mem ((c.tc : Thread Cert.ResIdeal.nD Cert.ResIdeal.τ).loc Cert.ResIdeal.main_v1_1) = v1 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2)
          ∧ r.2.mem ((c.tc : Thread Cert.ResIdeal.nD Cert.ResIdeal.τ).loc Cert.ResIdeal.main_arg3) = m ((c.tc : Thread Cert.ResIdeal.nD Cert.ResIdeal.τ).loc Cert.ResIdeal.main_arg3)
          ∧ r.2.mem ((c.tc : Thread Cert.ResIdeal.nD Cert.ResIdeal.τ).loc Cert.ResIdeal.main_arg4) = m ((c.tc : Thread Cert.ResIdeal.nD Cert.ResIdeal.τ).loc Cert.ResIdeal.main_arg4)
          ∧ r.2.mem ((c.tc : Thread Cert.ResIdeal.nD Cert.ResIdeal.τ).loc Cert.ResIdeal.main_arg5) = m ((c.tc : Thread Cert.ResIdeal.nD Cert.ResIdeal.τ).loc Cert.ResIdeal.main_arg5))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v80) = v0 c
          ∧ r.2.mem ((c.tc : Thread Cert.ResRefIdeal.nD Cert.ResRefIdeal.τ).loc Cert.ResRefIdeal.main_v81) = v1 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2)
          ∧ r.2.mem ((c.tc : Thread Cert.ResRefIdeal.nD Cert.ResRefIdeal.τ).loc Cert.ResRefIdeal.main_arg3) = m' ((c.tc : Thread Cert.ResRefIdeal.nD Cert.ResRefIdeal.τ).loc Cert.ResRefIdeal.main_arg3)
          ∧ r.2.mem ((c.tc : Thread Cert.ResRefIdeal.nD Cert.ResRefIdeal.τ).loc Cert.ResRefIdeal.main_arg4) = m' ((c.tc : Thread Cert.ResRefIdeal.nD Cert.ResRefIdeal.τ).loc Cert.ResRefIdeal.main_arg4)
          ∧ r.2.mem ((c.tc : Thread Cert.ResRefIdeal.nD Cert.ResRefIdeal.τ).loc Cert.ResRefIdeal.main_arg5) = m' ((c.tc : Thread Cert.ResRefIdeal.nD Cert.ResRefIdeal.τ).loc Cert.ResRefIdeal.main_arg5))

def preserves_Mix_MixIdeal : Prop :=
  True

def algebraic_MixIdeal_MixRefIdeal_pre_finite_heads [hMixIdeal : Cert.MixIdeal.Facts] [hMixRefIdeal : Cert.MixRefIdeal.Facts] [hPre_finite_heads : Cert.Pre_finite_heads.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_heads m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)) →
    ∃ (v0 : (c : Dev Cert.MixIdeal.nD) → Buf (Elt Ideal) ((c.tc : Thread Cert.MixIdeal.nD Cert.MixIdeal.τ).loc Cert.MixIdeal.main_v18)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v18) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v214) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v50) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3))

def preserves_Moe_MoeIdeal : Prop :=
  True

def algebraic_MoeIdeal_MoeRefIdeal [hMoeIdeal : Cert.MoeIdeal.Facts] [hMoeRefIdeal : Cert.MoeRefIdeal.Facts] [hPre_expert_tables : Cert.Pre_expert_tables.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v64) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8))

def Claim : Prop :=
  ∃ (hCtx : Cert.Ctx.Facts) (hCtxIdeal : Cert.CtxIdeal.Facts) (hCtxRefIdeal : Cert.CtxRefIdeal.Facts) (hProj : Cert.Proj.Facts) (hProjIdeal : Cert.ProjIdeal.Facts) (hProjRefIdeal : Cert.ProjRefIdeal.Facts) (hRes : Cert.Res.Facts) (hResIdeal : Cert.ResIdeal.Facts) (hResRefIdeal : Cert.ResRefIdeal.Facts) (hMix : Cert.Mix.Facts) (hMixIdeal : Cert.MixIdeal.Facts) (hMixRefIdeal : Cert.MixRefIdeal.Facts) (hLast : Cert.Last.Facts) (hLastIdeal : Cert.LastIdeal.Facts) (hLastRefIdeal : Cert.LastRefIdeal.Facts) (hMoe : Cert.Moe.Facts) (hMoeIdeal : Cert.MoeIdeal.Facts) (hMoeRefIdeal : Cert.MoeRefIdeal.Facts) (hPre_finite_logits : Cert.Pre_finite_logits.Facts) (hPre_finite_heads : Cert.Pre_finite_heads.Facts) (hPre_expert_tables : Cert.Pre_expert_tables.Facts),
    quiescent_Ctx (hCtx := hCtx)
    ∧ quiescent_CtxIdeal (hCtxIdeal := hCtxIdeal)
    ∧ quiescent_CtxIdeal_pre_finite_logits (hCtxIdeal := hCtxIdeal) (hPre_finite_logits := hPre_finite_logits)
    ∧ quiescent_CtxRefIdeal (hCtxRefIdeal := hCtxRefIdeal)
    ∧ quiescent_CtxRefIdeal_pre_finite_logits (hCtxRefIdeal := hCtxRefIdeal) (hPre_finite_logits := hPre_finite_logits)
    ∧ quiescent_Proj (hProj := hProj)
    ∧ quiescent_ProjIdeal (hProjIdeal := hProjIdeal)
    ∧ quiescent_ProjRefIdeal (hProjRefIdeal := hProjRefIdeal)
    ∧ quiescent_Res (hRes := hRes)
    ∧ quiescent_ResIdeal (hResIdeal := hResIdeal)
    ∧ quiescent_ResRefIdeal (hResRefIdeal := hResRefIdeal)
    ∧ quiescent_Mix (hMix := hMix)
    ∧ quiescent_MixIdeal (hMixIdeal := hMixIdeal)
    ∧ quiescent_MixIdeal_pre_finite_heads (hMixIdeal := hMixIdeal) (hPre_finite_heads := hPre_finite_heads)
    ∧ quiescent_MixRefIdeal (hMixRefIdeal := hMixRefIdeal)
    ∧ quiescent_MixRefIdeal_pre_finite_heads (hMixRefIdeal := hMixRefIdeal) (hPre_finite_heads := hPre_finite_heads)
    ∧ quiescent_Last (hLast := hLast)
    ∧ quiescent_LastIdeal (hLastIdeal := hLastIdeal)
    ∧ quiescent_LastRefIdeal (hLastRefIdeal := hLastRefIdeal)
    ∧ quiescent_Moe (hMoe := hMoe) (hPre_expert_tables := hPre_expert_tables)
    ∧ quiescent_MoeIdeal (hMoeIdeal := hMoeIdeal) (hPre_expert_tables := hPre_expert_tables)
    ∧ quiescent_MoeRefIdeal (hMoeRefIdeal := hMoeRefIdeal)
    ∧ quiescent_MoeRefIdeal_pre_expert_tables (hMoeRefIdeal := hMoeRefIdeal) (hPre_expert_tables := hPre_expert_tables)
    ∧ preserves_Ctx_CtxIdeal
    ∧ algebraic_CtxIdeal_CtxRefIdeal_pre_finite_logits (hCtxIdeal := hCtxIdeal) (hCtxRefIdeal := hCtxRefIdeal) (hPre_finite_logits := hPre_finite_logits)
    ∧ preserves_Proj_ProjIdeal
    ∧ algebraic_ProjIdeal_ProjRefIdeal (hProjIdeal := hProjIdeal) (hProjRefIdeal := hProjRefIdeal)
    ∧ preserves_Res_ResIdeal
    ∧ algebraic_ResIdeal_ResRefIdeal (hResIdeal := hResIdeal) (hResRefIdeal := hResRefIdeal)
    ∧ preserves_Mix_MixIdeal
    ∧ algebraic_MixIdeal_MixRefIdeal_pre_finite_heads (hMixIdeal := hMixIdeal) (hMixRefIdeal := hMixRefIdeal) (hPre_finite_heads := hPre_finite_heads)
    ∧ preserves_Last_LastIdeal
    ∧ algebraic_LastIdeal_LastRefIdeal (hLastIdeal := hLastIdeal) (hLastRefIdeal := hLastRefIdeal)
    ∧ preserves_Moe_MoeIdeal
    ∧ algebraic_MoeIdeal_MoeRefIdeal (hMoeIdeal := hMoeIdeal) (hMoeRefIdeal := hMoeRefIdeal) (hPre_expert_tables := hPre_expert_tables)
-- ==== Pre_expert_tables.lean ====
abbrev S90112x1024 : Shape := ⟨2, ![90112, 1024]⟩
abbrev S90112 : Shape := ⟨1, ![90112]⟩
abbrev S352 : Shape := ⟨1, ![352]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S351 : Shape := ⟨1, ![351]⟩

class Facts : Prop where
  bcast_S_S352 : S_.BroadcastsInDim S352 (![] : Fin 0 → Fin S352.rank)
  slices_S352_S1_0 : S352.Slices ![0] S1
  bcast_S_S1 : S_.BroadcastsInDim S1 (![] : Fin 0 → Fin S1.rank)
  slices_S352_S351_0 : S352.Slices ![0] S351
  concatenates_S1_S351_S352_d0 : Shape.Concatenates [S1, S351] S352 0

variable [Facts]

def fn {F : FTy → Type} [FloatOps F] (main_arg0 : FVec F S90112x1024 .bf16) (main_arg1 : FVec F S90112 .f32) (main_arg2 : IVec S352 32) (main_arg3 : IVec S352 32) (main_arg4 : IVec S1 32) (main_arg5 : FVec F S32x1024x2048 .f32) (main_arg6 : FVec F S32x2048 .f32) (main_arg7 : FVec F S32x1024x1024 .f32) (main_arg8 : FVec F S32x1024 .f32) : IVec S352 1 :=
  let main_c : IVec S_ 32 := constantI S_ 32 0#32
  let main_v0 : IVec S352 32 := broadcastInDim S352 ![] bcast_S_S352 main_c
  let main_v1 : IVec S352 1 := cmpi .sge main_arg2 main_v0
  let main_c_0 : IVec S_ 32 := constantI S_ 32 32#32
  let main_v2 : IVec S352 32 := broadcastInDim S352 ![] bcast_S_S352 main_c_0
  let main_v3 : IVec S352 1 := cmpi .slt main_arg2 main_v2
  let main_v4 : IVec S352 1 := andi main_v1 main_v3
  let main_v5 : IVec S1 32 := (extractStridedSlice S1 ![0] · slices_S352_S1_0) main_arg2
  let main_c_1 : IVec S_ 32 := constantI S_ 32 1#32
  let main_v6 : IVec S1 32 := broadcastInDim S1 ![] bcast_S_S1 main_c_1
  let main_v7 : IVec S1 32 := subi main_v5 main_v6
  let main_v8 : IVec S351 32 := (extractStridedSlice S351 ![0] · slices_S352_S351_0) main_arg2
  let main_v9 : IVec S352 32 := (fun a b => concatenate S352 0 [⟨S1, a⟩, ⟨S351, b⟩] concatenates_S1_S351_S352_d0) main_v7 main_v8
  let main_v10 : IVec S352 1 := cmpi .eq main_arg2 main_v9
  let main_c_2 : IVec S_ 32 := constantI S_ 32 1#32
  let main_v11 : IVec S352 32 := broadcastInDim S352 ![] bcast_S_S352 main_c_2
  let main_v12 : IVec S352 1 := cmpi .eq main_arg3 main_v11
  let main_v13 : IVec S352 1 := ori main_v10 main_v12
  let main_v14 : IVec S352 1 := andi main_v4 main_v13
  main_v14
-- ==== Pre_finite_heads.lean ====
abbrev S20480x1024 : Shape := ⟨2, ![20480, 1024]⟩
abbrev S20480x7296 : Shape := ⟨2, ![20480, 7296]⟩
abbrev S20480x512 : Shape := ⟨2, ![20480, 512]⟩
abbrev S16x6x1024 : Shape := ⟨3, ![16, 6, 1024]⟩
abbrev S3x512 : Shape := ⟨2, ![3, 512]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S512x1024 : Shape := ⟨2, ![512, 1024]⟩
abbrev S1024x1024 : Shape := ⟨2, ![1024, 1024]⟩
abbrev S_ : Shape := ⟨0, ![]⟩

class Facts : Prop where
  slices_S20480x7296_S20480x1024_0_0 : S20480x7296.Slices ![0, 0] S20480x1024
  bcast_S_S20480x1024 : S_.BroadcastsInDim S20480x1024 (![] : Fin 0 → Fin S20480x1024.rank)
  reducesTo_S20480x1024_S_d0_1 : S20480x1024.ReducesTo [0, 1] S_
  h_S_ : 0 < S_.numel
  bcast_S_S20480x512 : S_.BroadcastsInDim S20480x512 (![] : Fin 0 → Fin S20480x512.rank)
  reducesTo_S20480x512_S_d0_1 : S20480x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg11 : FVec F S512 .f32) (main_v4 : IVec S_ 1) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : FVec F S512 .f32 := Host.absf main_arg11
  let main_cst_6 : FVec F S_ .f32 := constant S_ .f32 0x7F800000#32
  let main_v19 : FVec F S512 .f32 := broadcastInDim S512 ![] bcast_S_S512 main_cst_6
  let main_v20 : IVec S512 1 := cmpf .olt main_v18 main_v19
  let main_c_7 : IVec S_ 1 := constantI S_ 1 1#1
  let main_v21 : IVec S_ 1 := (fun x v => Host.reduce IntOp.andi x v reducesTo_S512_S_d0 h_S_) main_v20 main_c_7
  let main_v22 : IVec S_ 1 := andi main_v17 main_v21
  let main_v23 : IVec S_ 1 := andi main_v13 main_v22
  let main_v24 : IVec S_ 1 := andi main_v4 main_v23
  main_v24

def fn {F : FTy → Type} [FloatOps F] (main_arg0 : FVec F S20480x1024 .f32) (main_arg1 : FVec F S20480x7296 .f32) (main_arg2 : FVec F S20480x512 .f32) (main_arg3 : FVec F S20480x512 .f32) (main_arg4 : FVec F S20480x512 .bf16) (main_arg5 : FVec F S16x6x1024 .f32) (main_arg6 : FVec F S3x512 .f32) (main_arg7 : FVec F S2x512 .f32) (main_arg8 : FVec F S2x64x512 .f32) (main_arg9 : FVec F S128x512 .f32) (main_arg10 : FVec F S512 .f32) (main_arg11 : FVec F S512 .f32) (main_arg12 : FVec F S512 .f32) (main_arg13 : FVec F S512 .f32) (main_arg14 : FVec F S512x1024 .bf16) (main_arg15 : FVec F S512x1024 .bf16) (main_arg16 : FVec F S512x1024 .bf16) (main_arg17 : FVec F S1024x1024 .bf16) : IVec S_ 1 :=
  let main_v0 : FVec F S20480x1024 .f32 := (extractStridedSlice S20480x1024 ![0, 0] · slices_S20480x7296_S20480x1024_0_0) main_arg1
  let main_v1 : FVec F S20480x1024 .f32 := Host.absf main_v0
  let main_cst : FVec F S_ .f32 := constant S_ .f32 0x7F800000#32
  let main_v2 : FVec F S20480x1024 .f32 := broadcastInDim S20480x1024 ![] bcast_S_S20480x1024 main_cst
  let main_v3 : IVec S20480x1024 1 := cmpf .olt main_v1 main_v2
  let main_c : IVec S_ 1 := constantI S_ 1 1#1
  let main_v4 : IVec S_ 1 := (fun x v => Host.reduce IntOp.andi x v reducesTo_S20480x1024_S_d0_1 h_S_) main_v3 main_c
  let main_v5 : FVec F S20480x512 .f32 := Host.absf main_arg2
  let main_cst_0 : FVec F S_ .f32 := constant S_ .f32 0x7F800000#32
  let main_v6 : FVec F S20480x512 .f32 := broadcastInDim S20480x512 ![] bcast_S_S20480x512 main_cst_0
  let main_v7 : IVec S20480x512 1 := cmpf .olt main_v5 main_v6
  let main_c_1 : IVec S_ 1 := constantI S_ 1 1#1
  let main_v8 : IVec S_ 1 := (fun x v => Host.reduce IntOp.andi x v reducesTo_S20480x512_S_d0_1 h_S_) main_v7 main_c_1
  let main_v9 : FVec F S20480x512 .f32 := Host.absf main_arg3
  let main_cst_2 : FVec F S_ .f32 := constant S_ .f32 0x7F800000#32
  let main_v10 : FVec F S20480x512 .f32 := broadcastInDim S20480x512 ![] bcast_S_S20480x512 main_cst_2
  let main_v11 : IVec S20480x512 1 := cmpf .olt main_v9 main_v10
  let main_c_3 : IVec S_ 1 := constantI S_ 1 1#1
  let main_v12 : IVec S_ 1 := (fun x v => Host.reduce IntOp.andi x v reducesTo_S20480x512_S_d0_1 h_S_) main_v11 main_c_3
  let main_v13 : IVec S_ 1 := andi main_v8 main_v12
  let main_v14 : FVec F S512 .f32 := Host.absf main_arg10
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg11 main_v4 main_v13 main_v16
-- ==== Pre_finite_logits.lean ====
abbrev S20480x7296 : Shape := ⟨2, ![20480, 7296]⟩
abbrev S8 : Shape := ⟨1, ![8]⟩
abbrev S4096x640 : Shape := ⟨2, ![4096, 640]⟩
abbrev S_ : Shape := ⟨0, ![]⟩

class Facts : Prop where
  slices_S20480x7296_S4096x640_0_6144 : S20480x7296.Slices ![0, 6144] S4096x640
  bcast_S_S4096x640 : S_.BroadcastsInDim S4096x640 (![] : Fin 0 → Fin S4096x640.rank)
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S20480x7296 .f32) (main_arg1 : FVec F S8 .f32) : IVec S4096x640 1 :=
  let main_v0 : FVec F S4096x640 .f32 := (extractStridedSlice S4096x640 ![0, 6144] · slices_S20480x7296_S4096x640_0_6144) main_arg0
  let main_v1 : FVec F S4096x640 .f32 := Host.absf main_v0
  let main_cst : FVec F S_ .f32 := constant S_ .f32 0x7F800000#32
  let main_v2 : FVec F S4096x640 .f32 := broadcastInDim S4096x640 ![] bcast_S_S4096x640 main_cst
  let main_v3 : IVec S4096x640 1 := cmpf .olt main_v1 main_v2
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c : IVec S_ 1 := constantI S_ 1 1#1
  let main_v7 : IVec S_ 1 := (fun x v => Host.reduce IntOp.andi x v reducesTo_S8_S_d0 h_S_) main_v6 main_c
  let main_v8 : IVec S4096x640 1 := broadcastInDim S4096x640 ![] bcast_S_S4096x640 main_v7
  let main_v9 : IVec S4096x640 1 := andi main_v3 main_v8
  main_v9
-- ==== Ctx.lean ====
abbrev S20480x7296 : Shape := ⟨2, ![20480, 7296]⟩
abbrev S8 : Shape := ⟨1, ![8]⟩
abbrev S4096x512 : Shape := ⟨2, ![4096, 512]⟩
abbrev S256x512 : Shape := ⟨2, ![256, 512]⟩
abbrev S256x256 : Shape := ⟨2, ![256, 256]⟩
abbrev S256x64 : Shape := ⟨2, ![256, 64]⟩
abbrev S1 : Shape := ⟨1, ![1]⟩
abbrev S256 : Shape := ⟨1, ![256]⟩
abbrev S256x1 : Shape := ⟨2, ![256, 1]⟩

abbrev nBuf : Space → Nat
  | .hbm => 3
  | .vmem => 6
  | .smem => 1
  | _ => 0

abbrev bufTy : (tb : Table) → Fin (tcTables nBuf tb) → BufTy
  | .hbm, ⟨0, _⟩ => ⟨S20480x7296, .f32⟩
  | .hbm, ⟨1, _⟩ => ⟨S8, .f32⟩
  | .hbm, ⟨2, _⟩ => ⟨S4096x512, .bf16⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S256x512, .bf16⟩
  | .local _ .vmem, ⟨5, _⟩ => ⟨S256x512, .bf16⟩
  | .local _ .smem, ⟨0, _⟩ => ⟨S8, .f32⟩
  | _, _ => ⟨S20480x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CtxRefIdeal.lean ====
abbrev S20480x7296 : Shape := ⟨2, ![20480, 7296]⟩
abbrev S8 : Shape := ⟨1, ![8]⟩
abbrev S4096x512 : Shape := ⟨2, ![4096, 512]⟩
abbrev S16x256x8x64 : Shape := ⟨4, ![16, 256, 8, 64]⟩
abbrev S4096x128 : Shape := ⟨2, ![4096, 128]⟩
abbrev S16x256x2x64 : Shape := ⟨4, ![16, 256, 2, 64]⟩
abbrev S16x256x2x4x64 : Shape := ⟨5, ![16, 256, 2, 4, 64]⟩
abbrev S16x2x256x256x4 : Shape := ⟨5, ![16, 2, 256, 256, 4]⟩
abbrev S16x2x4x256x256 : Shape := ⟨5, ![16, 2, 4, 256, 256]⟩
abbrev S_ : Shape := ⟨0, ![]⟩
abbrev S2x4 : Shape := ⟨2, ![2, 4]⟩
abbrev S1x2x4x1x1 : Shape := ⟨5, ![1, 2, 4, 1, 1]⟩
abbrev S16x2x4x256x1 : Shape := ⟨5, ![16, 2, 4, 256, 1]⟩
abbrev S16x2x4x256x257 : Shape := ⟨5, ![16, 2, 4, 256, 257]⟩
abbrev S16x2x4x256 : Shape := ⟨4, ![16, 2, 4, 256]⟩
abbrev S16x2x64x4x256 : Shape := ⟨5, ![16, 2, 64, 4, 256]⟩

abbrev nBuf : Space → Nat
  | .hbm => 37
  | .vmem => 0
  | .smem => 0
  | _ => 0

abbrev bufTy : (tb : Table) → Fin (tcTables nBuf tb) → BufTy
  | .hbm, ⟨0, _⟩ => ⟨S20480x7296, .f32⟩
  | .hbm, ⟨1, _⟩ => ⟨S8, .f32⟩
  | .hbm, ⟨2, _⟩ => ⟨S4096x512, .f32⟩
  | .hbm, ⟨3, _⟩ => ⟨S16x256x8x64, .f32⟩
  | .hbm, ⟨4, _⟩ => ⟨S4096x128, .f32⟩
  | .hbm, ⟨5, _⟩ => ⟨S16x256x2x64, .f32⟩
  | .hbm, ⟨6, _⟩ => ⟨S4096x128, .f32⟩
  | .hbm, ⟨7, _⟩ => ⟨S16x256x2x64, .f32⟩
  | .hbm, ⟨8, _⟩ => ⟨S16x256x2x4x64, .f32⟩
  | .hbm, ⟨9, _⟩ => ⟨S16x2x256x256x4, .f32⟩
  | .hbm, ⟨10, _⟩ => ⟨S16x2x4x256x256, .f32⟩
  | .hbm, ⟨11, _⟩ => ⟨S_, .f32⟩
  | .hbm, ⟨12, _⟩ => ⟨S16x2x4x256x256, .f32⟩
  | .hbm, ⟨13, _⟩ => ⟨S16x2x4x256x256, .f32⟩
  | .hbm, ⟨14, _⟩ => ⟨S2x4, .f32⟩
  | .hbm, ⟨15, _⟩ => ⟨S1x2x4x1x1, .f32⟩
  | .hbm, ⟨16, _⟩ => ⟨S16x2x4x256x1, .f32⟩
  | .hbm, ⟨17, _⟩ => ⟨S16x2x4x256x257, .f32⟩
  | .hbm, ⟨18, _⟩ => ⟨S_, .f32⟩
  | .hbm, ⟨19, _⟩ => ⟨S16x2x4x256, .f32⟩
  | .hbm, ⟨20, _⟩ => ⟨S_, .f32⟩
  | .hbm, ⟨21, _⟩ => ⟨S16x2x4x256, .f32⟩
  | .hbm, ⟨22, _⟩ => ⟨S16x2x4x256, .f32⟩
  | .hbm, ⟨23, _⟩ => ⟨S16x2x4x256x1, .f32⟩
  | .hbm, ⟨24, _⟩ => ⟨S16x2x4x256x257, .f32⟩
  | .hbm, ⟨25, _⟩ => ⟨S16x2x4x256x257, .f32⟩
  | .hbm, ⟨26, _⟩ => ⟨S16x2x4x256x257, .f32⟩
  | .hbm, ⟨27, _⟩ => ⟨S_, .f32⟩
  | .hbm, ⟨28, _⟩ => ⟨S16x2x4x256, .f32⟩
  | .hbm, ⟨29, _⟩ => ⟨S16x2x4x256x1, .f32⟩
  | .hbm, ⟨30, _⟩ => ⟨S16x2x4x256x257, .f32⟩
  | .hbm, ⟨31, _⟩ => ⟨S16x2x4x256x257, .f32⟩
  | .hbm, ⟨32, _⟩ => ⟨S16x2x4x256x256, .f32⟩
  | .hbm, ⟨33, _⟩ => ⟨S16x2x64x4x256, .f32⟩
  | .hbm, ⟨34, _⟩ => ⟨S16x256x2x4x64, .f32⟩
  | .hbm, ⟨35, _⟩ => ⟨S4096x512, .f32⟩
  | .hbm, ⟨36, _⟩ => ⟨S4096x512, .bf16⟩
  | _, _ => ⟨S20480x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== Proj.lean ====
abbrev S20480x1024 : Shape := ⟨2, ![20480, 1024]⟩
abbrev S16x6x1024 : Shape := ⟨3, ![16, 6, 1024]⟩
abbrev S1024 : Shape := ⟨1, ![1024]⟩
abbrev S1024x7296 : Shape := ⟨2, ![1024, 7296]⟩
abbrev S1x1024 : Shape := ⟨2, ![1, 1024]⟩
abbrev S20480x7296 : Shape := ⟨2, ![20480, 7296]⟩
abbrev S512x1024 : Shape := ⟨2, ![512, 1024]⟩
abbrev S1x6x1024 : Shape := ⟨3, ![1, 6, 1024]⟩
abbrev S1024x2432 : Shape := ⟨2, ![1024, 2432]⟩
abbrev S512x2432 : Shape := ⟨2, ![512, 2432]⟩
abbrev S1x1x1024 : Shape := ⟨3, ![1, 1, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S20480x1024, .f32⟩
  | .hbm, ⟨1, _⟩ => ⟨S16x6x1024, .f32⟩
  | .hbm, ⟨2, _⟩ => ⟨S1024, .f32⟩
  | .hbm, ⟨3, _⟩ => ⟨S1024x7296, .bf16⟩
  | .hbm, ⟨4, _⟩ => ⟨S1x1024, .f32⟩
  | .hbm, ⟨5, _⟩ => ⟨S20480x7296, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2432, .bf16⟩
  | .local _ .vmem, ⟨6, _⟩ => ⟨S1024x2432, .bf16⟩
  | .local _ .vmem, ⟨7, _⟩ => ⟨S512x2432, .f32⟩
  | .local _ .vmem, ⟨8, _⟩ => ⟨S512x2432, .f32⟩
  | .local _ .vmem, ⟨9, _⟩ => ⟨S512x1024, .bf16⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![40, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2432 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S20480x1024 : Shape := ⟨2, ![20480, 1024]⟩
abbrev S16x6x1024 : Shape := ⟨3, ![16, 6, 1024]⟩
abbrev S1024 : Shape := ⟨1, ![1024]⟩
abbrev S1024x7296 : Shape := ⟨2, ![1024, 7296]⟩
abbrev S4096x1024 : Shape := ⟨2, ![4096, 1024]⟩
abbrev S16x256x1024 : Shape := ⟨3, ![16, 256, 1024]⟩
abbrev S1x6x1024 : Shape := ⟨3, ![1, 6, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S16384x1024 : Shape := ⟨2, ![16384, 1024]⟩
abbrev S8x2048x1024 : Shape := ⟨3, ![8, 2048, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x2048 : Shape := ⟨2, ![8, 2048]⟩
abbrev S8x2048x1 : Shape := ⟨3, ![8, 2048, 1]⟩
abbrev S20480x7296 : Shape := ⟨2, ![20480, 7296]⟩

abbrev nBuf : Space → Nat
  | .hbm => 73
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S16x6x1024, .f32⟩
  | .hbm, ⟨2, _⟩ => ⟨S1024, .f32⟩
  | .hbm, ⟨3, _⟩ => ⟨S1024x7296, .bf16⟩
  | .hbm, ⟨4, _⟩ => ⟨S4096x1024, .f32⟩
  | .hbm, ⟨5, _⟩ => ⟨S16x256x1024, .f32⟩
  | .hbm, ⟨6, _⟩ => ⟨S1x6x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S16x256x1024, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S4096x1024, .f32⟩
  | .hbm, ⟨37, _⟩ => ⟨S16384x1024, .f32⟩
  | .hbm, ⟨38, _⟩ => ⟨S8x2048x1024, .f32⟩
  | .hbm, ⟨39, _⟩ => ⟨S8x6x1024, .f32⟩
  | .hbm, ⟨40, _⟩ => ⟨S8x1x1024, .f32⟩
  | .hbm, ⟨41, _⟩ => ⟨S8x1024, .f32⟩
  | .hbm, ⟨42, _⟩ => ⟨S8x1x1024, .f32⟩
  | .hbm, ⟨43, _⟩ => ⟨S8x1x1024, .f32⟩
  | .hbm, ⟨44, _⟩ => ⟨S8x1024, .f32⟩
  | .hbm, ⟨45, _⟩ => ⟨S8x1x1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x1x1024, .f32⟩
  | .hbm, ⟨64, _⟩ => ⟨S8x1x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S16384x1024, .f32⟩
  | .hbm, ⟨70, _⟩ => ⟨S20480x1024, .f32⟩
  | .hbm, ⟨71, _⟩ => ⟨S1024x7296, .f32⟩
  | .hbm, ⟨72, _⟩ => ⟨S20480x7296, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Res.lean ====
abbrev S20480x1024 : Shape := ⟨2, ![20480, 1024]⟩
abbrev S16x6x1024 : Shape := ⟨3, ![16, 6, 1024]⟩
abbrev S1024 : Shape := ⟨1, ![1024]⟩
abbrev S1024x7296 : Shape := ⟨2, ![1024, 7296]⟩
abbrev S1x1024 : Shape := ⟨2, ![1, 1024]⟩
abbrev S20480x7296 : Shape := ⟨2, ![20480, 7296]⟩
abbrev S512x1024 : Shape := ⟨2, ![512, 1024]⟩
abbrev S1x6x1024 : Shape := ⟨3, ![1, 6, 1024]⟩
abbrev S1024x2432 : Shape := ⟨2, ![1024, 2432]⟩
abbrev S512x2432 : Shape := ⟨2, ![512, 2432]⟩
abbrev S1x1x1024 : Shape := ⟨3, ![1, 1, 1024]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S20480x1024, .f32⟩
  | .hbm, ⟨1, _⟩ => ⟨S20480x1024, .f32⟩
  | .hbm, ⟨2, _⟩ => ⟨S16x6x1024, .f32⟩
  | .hbm, ⟨3, _⟩ => ⟨S16x6x1024, .f32⟩
  | .hbm, ⟨4, _⟩ => ⟨S1024, .f32⟩
  | .hbm, ⟨5, _⟩ => ⟨S1024x7296, .bf16⟩
  | .hbm, ⟨6, _⟩ => ⟨S1x1024, .f32⟩
  | .hbm, ⟨7, _⟩ => ⟨S20480x7296, .f32⟩
  | .hbm, ⟨8, _⟩ => ⟨S20480x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x2432, .bf16⟩
  | .local _ .vmem, ⟨10, _⟩ => ⟨S1024x2432, .bf16⟩
  | .local _ .vmem, ⟨11, _⟩ => ⟨S512x2432, .f32⟩
  | .local _ .vmem, ⟨12, _⟩ => ⟨S512x2432, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![40, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2432 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2432 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ResRefIdeal.lean ====
abbrev S20480x1024 : Shape := ⟨2, ![20480, 1024]⟩
abbrev S16x6x1024 : Shape := ⟨3, ![16, 6, 1024]⟩
abbrev S1024 : Shape := ⟨1, ![1024]⟩
abbrev S1024x7296 : Shape := ⟨2, ![1024, 7296]⟩
abbrev S4096x1024 : Shape := ⟨2, ![4096, 1024]⟩
abbrev S16x256x1024 : Shape := ⟨3, ![16, 256, 1024]⟩
abbrev S1x6x1024 : Shape := ⟨3, ![1, 6, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S16384x1024 : Shape := ⟨2, ![16384, 1024]⟩
abbrev S8x2048x1024 : Shape := ⟨3, ![8, 2048, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x2048 : Shape := ⟨2, ![8, 2048]⟩
abbrev S8x2048x1 : Shape := ⟨3, ![8, 2048, 1]⟩
abbrev S20480x7296 : Shape := ⟨2, ![20480, 7296]⟩

abbrev nBuf : Space → Nat
  | .hbm => 96
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S20480x1024, .f32⟩
  | .hbm, ⟨2, _⟩ => ⟨S16x6x1024, .f32⟩
  | .hbm, ⟨3, _⟩ => ⟨S16x6x1024, .f32⟩
  | .hbm, ⟨4, _⟩ => ⟨S1024, .f32⟩
  | .hbm, ⟨5, _⟩ => ⟨S1024x7296, .bf16⟩
  | .hbm, ⟨6, _⟩ => ⟨S4096x1024, .f32⟩
  | .hbm, ⟨7, _⟩ => ⟨S16x256x1024, .f32⟩
  | .hbm, ⟨8, _⟩ => ⟨S4096x1024, .f32⟩
  | .hbm, ⟨9, _⟩ => ⟨S16x256x1024, .f32⟩
  | .hbm, ⟨10, _⟩ => ⟨S1x6x1024, .f32⟩
  | .hbm, ⟨11, _⟩ => ⟨S1x6x1024, .f32⟩
  | .hbm, ⟨12, _⟩ => ⟨S1x1x1024, .f32⟩
  | .hbm, ⟨13, _⟩ => ⟨S1x1024, .f32⟩
  | .hbm, ⟨14, _⟩ => ⟨S1x1x1024, .f32⟩
  | .hbm, ⟨15, _⟩ => ⟨S16x256x1024, .f32⟩
  | .hbm, ⟨16, _⟩ => ⟨S16x256x1024, .f32⟩
  | .hbm, ⟨17, _⟩ => ⟨S16x256x1024, .f32⟩
  | .hbm, ⟨18, _⟩ => ⟨S1x1x1024, .f32⟩
  | .hbm, ⟨19, _⟩ => ⟨S1x1024, .f32⟩
  | .hbm, ⟨20, _⟩ => ⟨S1x1x1024, .f32⟩
  | .hbm, ⟨21, _⟩ => ⟨S1x1x1024, .f32⟩
  | .hbm, ⟨22, _⟩ => ⟨S1x1024, .f32⟩
  | .hbm, ⟨23, _⟩ => ⟨S1x1x1024, .f32⟩
  | .hbm, ⟨24, _⟩ => ⟨S16x256x1024, .f32⟩
  | .hbm, ⟨25, _⟩ => ⟨S_, .f32⟩
  | .hbm, ⟨26, _⟩ => ⟨S16x256, .f32⟩
  | .hbm, ⟨27, _⟩ => ⟨S16x256x1, .f32⟩
  | .hbm, ⟨28, _⟩ => ⟨S_, .f32⟩
  | .hbm, ⟨29, _⟩ => ⟨S16x256x1, .f32⟩
  | .hbm, ⟨30, _⟩ => ⟨S16x256x1, .f32⟩
  | .hbm, ⟨31, _⟩ => ⟨S_, .f32⟩
  | .hbm, ⟨32, _⟩ => ⟨S16x256x1, .f32⟩
  | .hbm, ⟨33, _⟩ => ⟨S16x256x1, .f32⟩
  | .hbm, ⟨34, _⟩ => ⟨S16x256x1, .f32⟩
  | .hbm, ⟨35, _⟩ => ⟨S16x256x1024, .f32⟩
  | .hbm, ⟨36, _⟩ => ⟨S16x256x1024, .f32⟩
  | .hbm, ⟨37, _⟩ => ⟨S1x1x1024, .f32⟩
  | .hbm, ⟨38, _⟩ => ⟨S16x256x1024, .f32⟩
  | .hbm, ⟨39, _⟩ => ⟨S16x256x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | .hbm, ⟨46, _⟩ => ⟨S16x256x1024, .f32⟩
  | .hbm, ⟨47, _⟩ => ⟨S4096x1024, .f32⟩
  | .hbm, ⟨48, _⟩ => ⟨S4096x1024, .f32⟩
  | .hbm, ⟨49, _⟩ => ⟨S16384x1024, .f32⟩
  | .hbm, ⟨50, _⟩ => ⟨S8x2048x1024, .f32⟩
  | .hbm, ⟨51, _⟩ => ⟨S16384x1024, .f32⟩
  | .hbm, ⟨52, _⟩ => ⟨S8x2048x1024, .f32⟩
  | .hbm, ⟨53, _⟩ => ⟨S8x6x1024, .f32⟩
  | .hbm, ⟨54, _⟩ => ⟨S8x6x1024, .f32⟩
  | .hbm, ⟨55, _⟩ => ⟨S8x1x1024, .f32⟩
  | .hbm, ⟨56, _⟩ => ⟨S8x1024, .f32⟩
  | .hbm, ⟨57, _⟩ => ⟨S8x1x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x1x1024, .f32⟩
  | .hbm, ⟨62, _⟩ => ⟨S8x1024, .f32⟩
  | .hbm, ⟨63, _⟩ => ⟨S8x1x1024, .f32⟩
  | .hbm, ⟨64, _⟩ => ⟨S8x1x1024, .f32⟩
  | .hbm, ⟨65, _⟩ => ⟨S8x1024, .f32⟩
  | .hbm, ⟨66, _⟩ => ⟨S8x1x1024, .f32⟩
  | .hbm, ⟨67, _⟩ => ⟨S8x2048x1024, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S8x2048x1024, .f32⟩
  | .hbm, ⟨79, _⟩ => ⟨S8x2048x1024, .f32⟩
  | .hbm, ⟨80, _⟩ => ⟨S1x1x1024, .f32⟩
  | .hbm, ⟨81, _⟩ => ⟨S8x2048x1024, .f32⟩
  | .hbm, ⟨82, _⟩ => ⟨S8x2048x1024, .f32⟩
  | .hbm, ⟨83, _⟩ => ⟨S_, .f32⟩
  | .hbm, ⟨84, _⟩ => ⟨S8x1x1024, .f32⟩
  | .hbm, ⟨85, _⟩ => ⟨S8x1x1024, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S16384x1024, .f32⟩
  | .hbm, ⟨91, _⟩ => ⟨S16384x1024, .f32⟩
  | .hbm, ⟨92, _⟩ => ⟨S20480x1024, .f32⟩
  | .hbm, ⟨93, _⟩ => ⟨S1024x7296, .f32⟩
  | .hbm, ⟨94, _⟩ => ⟨S20480x7296, .f32⟩
  | .hbm, ⟨95, _⟩ => ⟨S20480x1024, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_3 : Ref sig .tc := ⟨.hbm, 68, rfl⟩
abbrev main_v58 : Ref sig .tc := ⟨.hbm, 69, rfl⟩
abbrev main_v59 : Ref sig .tc := ⟨.hbm, 70, rfl⟩
abbrev main_cst_4 : Ref sig .tc := ⟨.hbm, 71, rfl⟩
abbrev main_v60 : Ref sig .tc := ⟨.hbm, 72, rfl⟩
abbrev main_v61 : Ref sig .tc := ⟨.hbm, 73, rfl⟩
abbrev main_cst_5 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_6 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩

abbrev nD : Nat := 1
abbrev τ : Topo := Topo.v7x

variable {F : FTy → Type} [FloatOps F]
-- ==== Mix.lean ====
abbrev S20480x1024 : Shape := ⟨2, ![20480, 1024]⟩
abbrev S20480x7296 : Shape := ⟨2, ![20480, 7296]⟩
abbrev S20480x512 : Shape := ⟨2, ![20480, 512]⟩
abbrev S16x6x1024 : Shape := ⟨3, ![16, 6, 1024]⟩
abbrev S3x512 : Shape := ⟨2, ![3, 512]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S512x1024 : Shape := ⟨2, ![512, 1024]⟩
abbrev S1024x1024 : Shape := ⟨2, ![1024, 1024]⟩
abbrev S8x8 : Shape := ⟨2, ![8, 8]⟩
abbrev S_ : Shape := ⟨0, ![]⟩
abbrev S8x1x8x1 : Shape := ⟨4, ![8, 1, 8, 1]⟩
abbrev S8x64x8x64 : Shape := ⟨4, ![8, 64, 8, 64]⟩
abbrev S512x512 : Shape := ⟨2, ![512, 512]⟩
abbrev S1x512 : Shape := ⟨2, ![1, 512]⟩
abbrev S256x1024 : Shape := ⟨2, ![256, 1024]⟩
abbrev S256x1536 : Shape := ⟨2, ![256, 1536]⟩
abbrev S8x1536 : Shape := ⟨2, ![8, 1536]⟩
abbrev S256x384 : Shape := ⟨2, ![256, 384]⟩
abbrev S256x3072 : Shape := ⟨2, ![256, 3072]⟩
abbrev S256x512 : Shape := ⟨2, ![256, 512]⟩
abbrev S1x6x1024 : Shape := ⟨3, ![1, 6, 1024]⟩
abbrev S256x64 : Shape := ⟨2, ![256, 64]⟩
abbrev S1x64x512 : Shape := ⟨3, ![1, 64, 512]⟩
abbrev S64x512 : Shape := ⟨2, ![64, 512]⟩
abbrev S256x128 : Shape := ⟨2, ![256, 128]⟩
abbrev S1x1x1024 : Shape := ⟨3, ![1, 1, 1024]⟩
abbrev S1x1024 : Shape := ⟨2, ![1, 1024]⟩

abbrev nBuf : Space → Nat
  | .hbm => 39
  | .vmem => 38
  | .smem => 0
  | _ => 0

abbrev bufTy : (tb : Table) → Fin (tcTables nBuf tb) → BufTy
  | .hbm, ⟨0, _⟩ => ⟨S20480x1024, .f32⟩
  | .hbm, ⟨1, _⟩ => ⟨S20480x7296, .f32⟩
  | .hbm, ⟨2, _⟩ => ⟨S20480x512, .f32⟩
  | .hbm, ⟨3, _⟩ => ⟨S20480x512, .f32⟩
  | .hbm, ⟨4, _⟩ => ⟨S20480x512, .bf16⟩
  | .hbm, ⟨5, _⟩ => ⟨S16x6x1024, .f32⟩
  | .hbm, ⟨6, _⟩ => ⟨S3x512, .f32⟩
  | .hbm, ⟨7, _⟩ => ⟨S2x512, .f32⟩
  | .hbm, ⟨8, _⟩ => ⟨S2x64x512, .f32⟩
  | .hbm, ⟨9, _⟩ => ⟨S128x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S8x1x8x1, .f32⟩
  | .hbm, ⟨26, _⟩ => ⟨S8x64x8x64, .f32⟩
  | .hbm, ⟨27, _⟩ => ⟨S512x512, .f32⟩
  | .hbm, ⟨28, _⟩ => ⟨S512x512, .bf16⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .bf16⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S20480x1024, .f32⟩
  | .local _ .vmem, ⟨0, _⟩ => ⟨S256x1024, .f32⟩
  | .local _ .vmem, ⟨1, _⟩ => ⟨S256x1024, .f32⟩
  | .local _ .vmem, ⟨2, _⟩ => ⟨S256x1536, .f32⟩
  | .local _ .vmem, ⟨3, _⟩ => ⟨S256x1536, .f32⟩
  | .local _ .vmem, ⟨4, _⟩ => ⟨S8x1536, .f32⟩
  | .local _ .vmem, ⟨5, _⟩ => ⟨S8x1536, .f32⟩
  | .local _ .vmem, ⟨6, _⟩ => ⟨S8x1536, .f32⟩
  | .local _ .vmem, ⟨7, _⟩ => ⟨S8x1536, .f32⟩
  | .local _ .vmem, ⟨8, _⟩ => ⟨S256x1536, .f32⟩
  | .local _ .vmem, ⟨9, _⟩ => ⟨S256x1536, .f32⟩
  | .local _ .vmem, ⟨10, _⟩ => ⟨S256x384, .f32⟩
  | .local _ .vmem, ⟨11, _⟩ => ⟨S256x384, .f32⟩
  | .local _ .vmem, ⟨12, _⟩ => ⟨S256x3072, .f32⟩
  | .local _ .vmem, ⟨13, _⟩ => ⟨S256x3072, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S1x6x1024, .f32⟩
  | .local _ .vmem, ⟨21, _⟩ => ⟨S1x6x1024, .f32⟩
  | .local _ .vmem, ⟨22, _⟩ => ⟨S3x512, .f32⟩
  | .local _ .vmem, ⟨23, _⟩ => ⟨S2x512, .f32⟩
  | .local _ .vmem, ⟨24, _⟩ => ⟨S2x64x512, .f32⟩
  | .local _ .vmem, ⟨25, _⟩ => ⟨S128x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S512x512, .bf16⟩
  | .local _ .vmem, ⟨31, _⟩ => ⟨S512x512, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S1024x1024, .bf16⟩
  | .local _ .vmem, ⟨36, _⟩ => ⟨S256x1024, .f32⟩
  | .local _ .vmem, ⟨37, _⟩ => ⟨S256x1024, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg25_0 : Ref sig .tc := ⟨.vmem, 36, rfl⟩
abbrev cc0_stg25_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem23_0 : DmaSem sig := 34
abbrev cc0_sem24_0 : DmaSem sig := 35
abbrev cc0_sem25_0 : DmaSem sig := 36
abbrev cc0_sem25_1 : DmaSem sig := 37

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2559_i32 : BitVec 32 := 2559#32
  let v2 : BitVec 32 := Scalar.minsi v1 c2559_i32
  let c1_i32_0 : BitVec 32 := 1#32
  let c0_i32 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x6x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x64x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1024x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== MixRefIdeal.lean ====
abbrev S20480x1024 : Shape := ⟨2, ![20480, 1024]⟩
abbrev S20480x7296 : Shape := ⟨2, ![20480, 7296]⟩
abbrev S20480x512 : Shape := ⟨2, ![20480, 512]⟩
abbrev S16x6x1024 : Shape := ⟨3, ![16, 6, 1024]⟩
abbrev S3x512 : Shape := ⟨2, ![3, 512]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S512x1024 : Shape := ⟨2, ![512, 1024]⟩
abbrev S1024x1024 : Shape := ⟨2, ![1024, 1024]⟩
abbrev S20480x64 : Shape := ⟨2, ![20480, 64]⟩
abbrev S20480x128 : Shape := ⟨2, ![20480, 128]⟩
abbrev S4096x512 : Shape := ⟨2, ![4096, 512]⟩
abbrev S16x256x512 : Shape := ⟨3, ![16, 256, 512]⟩
abbrev S_ : Shape := ⟨0, ![]⟩
abbrev S16x258x512 : Shape := ⟨3, ![16, 258, 512]⟩
abbrev S1x512 : Shape := ⟨2, ![1, 512]⟩
abbrev S1x1x512 : Shape := ⟨3, ![1, 1, 512]⟩
abbrev S16384x512 : Shape := ⟨2, ![16384, 512]⟩
abbrev S8x2048x512 : Shape := ⟨3, ![8, 2048, 512]⟩
abbrev S8x2050x512 : Shape := ⟨3, ![8, 2050, 512]⟩
abbrev S20480x8x64 : Shape := ⟨3, ![20480, 8, 64]⟩
abbrev S20480x8 : Shape := ⟨2, ![20480, 8]⟩
abbrev S20480x8x1 : Shape := ⟨3, ![20480, 8, 1]⟩
abbrev S1x64x512 : Shape := ⟨3, ![1, 64, 512]⟩
abbrev S64x512 : Shape := ⟨2, ![64, 512]⟩
abbrev S1x1x1024 : Shape := ⟨3, ![1, 1, 1024]⟩
abbrev S1x1024 : Shape := ⟨2, ![1, 1024]⟩
abbrev S1x4096x1024 : Shape := ⟨3, ![1, 4096, 1024]⟩
abbrev S4096x1024 : Shape := ⟨2, ![4096, 1024]⟩
abbrev S8x1x1024 : Shape := ⟨3, ![8, 1, 1024]⟩
abbrev S8x1024 : Shape := ⟨2, ![8, 1024]⟩
abbrev S8x2048x1024 : Shape := ⟨3, ![8, 2048, 1024]⟩
abbrev S16384x1024 : Shape := ⟨2, ![16384, 1024]⟩

abbrev nBuf : Space → Nat
  | .hbm => 260
  | .vmem => 0
  | .smem => 0
  | _ => 0

abbrev hbmTy0_0 (i : Nat) : BufTy := match i % 128 with
  | 0 => ⟨S20480x1024, .f32⟩
  | 1 => ⟨S20480x7296, .f32⟩
  | 2 => ⟨S20480x512, .f32⟩
  | 3 => ⟨S20480x512, .f32⟩
  | 4 => ⟨S20480x512, .bf16⟩
  | 5 => ⟨S16x6x1024, .f32⟩
  | 6 => ⟨S3x512, .f32⟩
  | 7 => ⟨S2x512, .f32⟩
  | 8 => ⟨S2x64x512, .f32⟩
  | 9 => ⟨S128x512, .f32⟩
  | 10 => ⟨S512, .f32⟩
  | 11 => ⟨S512, .f32⟩
  | 12 => ⟨S512, .f32⟩
  | 13 => ⟨S512, .f32⟩
  | 14 => ⟨S512x1024, .bf16⟩
  | 15 => ⟨S512x1024, .bf16⟩
  | 16 => ⟨S512x1024, .bf16⟩
  | 17 => ⟨S1024x1024, .bf16⟩
  | 18 => ⟨S20480x512, .f32⟩
  | 19 => ⟨S20480x512, .f32⟩
  | 20 => ⟨S20480x512, .f32⟩
  | 21 => ⟨S20480x512, .f32⟩
  | 22 => ⟨S20480x512, .f32⟩
  | 23 => ⟨S20480x512, .f32⟩
  | 24 => ⟨S20480x1024, .f32⟩
  | 25 => ⟨S20480x1024, .f32⟩
  | 26 => ⟨S20480x1024, .f32⟩
  | 27 => ⟨S20480x64, .f32⟩
  | 28 => ⟨S20480x64, .f32⟩
  | 29 => ⟨S20480x128, .f32⟩
  | 30 => ⟨S20480x512, .f32⟩
  | 31 => ⟨S4096x512, .f32⟩
  | 32 => ⟨S4096x512, .f32⟩
  | 33 => ⟨S16x256x512, .f32⟩
  | 34 => ⟨S_, .i32⟩
  | 35 => ⟨S_, .f32⟩
  | 36 => ⟨S16x258x512, .f32⟩
  | 37 => ⟨S1x512, .f32⟩
  | 38 => ⟨S512, .f32⟩
  | 39 => ⟨S16x256x512, .f32⟩
  | 40 => ⟨S1x1x512, .f32⟩
  | 41 => ⟨S16x256x512, .f32⟩
  | 42 => ⟨S16x256x512, .f32⟩
  | 43 => ⟨S1x512, .f32⟩
  | 44 => ⟨S512, .f32⟩
  | 45 => ⟨S16x256x512, .f32⟩
  | 46 => ⟨S1x1x512, .f32⟩
  | 47 => ⟨S16x256x512, .f32⟩
  | 48 => ⟨S16x256x512, .f32⟩
  | 49 => ⟨S16x256x512, .f32⟩
  | 50 => ⟨S1x512, .f32⟩
  | 51 => ⟨S512, .f32⟩
  | 52 => ⟨S16x256x512, .f32⟩
  | 53 => ⟨S1x1x512, .f32⟩
  | 54 => ⟨S16x256x512, .f32⟩
  | 55 => ⟨S16x256x512, .f32⟩
  | 56 => ⟨S16x256x512, .f32⟩
  | 57 => ⟨S16x256x512, .f32⟩
  | 58 => ⟨S16x256x512, .f32⟩
  | 59 => ⟨S4096x512, .f32⟩
  | 60 => ⟨S16384x512, .f32⟩
  | 61 => ⟨S16384x512, .f32⟩
  | 62 => ⟨S8x2048x512, .f32⟩
  | 63 => ⟨S_, .i32⟩
  | 64 => ⟨S_, .f32⟩
  | 65 => ⟨S8x2050x512, .f32⟩
  | 66 => ⟨S1x512, .f32⟩
  | 67 => ⟨S512, .f32⟩
  | 68 => ⟨S8x2048x512, .f32⟩
  | 69 => ⟨S1x1x512, .f32⟩
  | 70 => ⟨S8x2048x512, .f32⟩
  | 71 => ⟨S8x2048x512, .f32⟩
  | 72 => ⟨S1x512, .f32⟩
  | 73 => ⟨S512, .f32⟩
  | 74 => ⟨S8x2048x512, .f32⟩
  | 75 => ⟨S1x1x512, .f32⟩
  | 76 => ⟨S8x2048x512, .f32⟩
  | 77 => ⟨S8x2048x512, .f32⟩
  | 78 => ⟨S8x2048x512, .f32⟩
  | 79 => ⟨S1x512, .f32⟩
  | 80 => ⟨S512, .f32⟩
  | 81 => ⟨S8x2048x512, .f32⟩
  | 82 => ⟨S1x1x512, .f32⟩
  | 83 => ⟨S8x2048x512, .f32⟩
  | 84 => ⟨S8x2048x512, .f32⟩
  | 85 => ⟨S8x2048x512, .f32⟩
  | 86 => ⟨S8x2048x512, .f32⟩
  | 87 => ⟨S8x2048x512, .f32⟩
  | 88 => ⟨S16384x512, .f32⟩
  | 89 => ⟨S20480x512, .f32⟩
  | 90 => ⟨S20480x512, .f32⟩
  | 91 => ⟨S20480x8x64, .f32⟩
  | 92 => ⟨S_, .f32⟩
  | 93 => ⟨S20480x8, .f32⟩
  | 94 => ⟨S20480x8x1, .f32⟩
  | 95 => ⟨S_, .f32⟩
  | 96 => ⟨S20480x8x1, .f32⟩
  | 97 => ⟨S20480x8x1, .f32⟩
  | 98 => ⟨S20480x8x64, .f32⟩
  | 99 => ⟨S20480x8x64, .f32⟩
  | 100 => ⟨S20480x8x64, .f32⟩
  | 101 => ⟨S_, .f32⟩
  | 102 => ⟨S20480x8, .f32⟩
  | 103 => ⟨S20480x8x1, .f32⟩
  | 104 => ⟨S_, .f32⟩
  | 105 => ⟨S20480x8x1, .f32⟩
  | 106 => ⟨S20480x8x1, .f32⟩
  | 107 => ⟨S20480x8x64, .f32⟩
  | 108 => ⟨S20480x8x64, .f32⟩
  | 109 => ⟨S_, .f32⟩
  | 110 => ⟨S20480x8x1, .f32⟩
  | 111 => ⟨S20480x8x1, .f32⟩
  | 112 => ⟨S20480x8x1, .f32⟩
  | 113 => ⟨S20480x8x64, .f32⟩
  | 114 => ⟨S20480x8x64, .f32⟩
  | 115 => ⟨S20480x512, .f32⟩
  | 116 => ⟨S1x512, .f32⟩
  | 117 => ⟨S20480x512, .f32⟩
  | 118 => ⟨S20480x512, .f32⟩
  | 119 => ⟨S1x512, .f32⟩
  | 120 => ⟨S20480x512, .f32⟩
  | 121 => ⟨S20480x512, .f32⟩
  | 122 => ⟨S1x512, .f32⟩
  | 123 => ⟨S512, .f32⟩
  | 124 => ⟨S1x64x512, .f32⟩
  | 125 => ⟨S64x512, .f32⟩
  | 126 => ⟨S20480x512, .f32⟩
  | 127 => ⟨S1x512, .f32⟩
  | _ => ⟨S20480x1024, .f32⟩

abbrev hbmTy0_1 (i : Nat) : BufTy := match i % 128 with
  | 0 => ⟨S20480x512, .f32⟩
  | 1 => ⟨S20480x512, .f32⟩
  | 2 => ⟨S20480x512, .f32⟩
  | 3 => ⟨S20480x512, .f32⟩
  | 4 => ⟨S_, .f32⟩
  | 5 => ⟨S20480x512, .f32⟩
  | 6 => ⟨S20480x512, .f32⟩
  | 7 => ⟨S_, .f32⟩
  | 8 => ⟨S20480x512, .f32⟩
  | 9 => ⟨S20480x512, .f32⟩
  | 10 => ⟨S_, .f32⟩
  | 11 => ⟨S20480x512, .f32⟩
  | 12 => ⟨S20480x512, .f32⟩
  | 13 => ⟨S1x512, .f32⟩
  | 14 => ⟨S20480x512, .f32⟩
  | 15 => ⟨S20480x512, .f32⟩
  | 16 => ⟨S_, .f32⟩
  | 17 => ⟨S20480x512, .f32⟩
  | 18 => ⟨S20480x512, .f32⟩
  | 19 => ⟨S20480x512, .f32⟩
  | 20 => ⟨S20480x512, .f32⟩
  | 21 => ⟨S1x512, .f32⟩
  | 22 => ⟨S20480x512, .f32⟩
  | 23 => ⟨S20480x512, .f32⟩
  | 24 => ⟨S20480x8x64, .f32⟩
  | 25 => ⟨S_, .f32⟩
  | 26 => ⟨S20480x8, .f32⟩
  | 27 => ⟨S20480x8x1, .f32⟩
  | 28 => ⟨S20480x8x64, .f32⟩
  | 29 => ⟨S20480x8x64, .f32⟩
  | 30 => ⟨S20480x8x64, .f32⟩
  | 31 => ⟨S1x512, .f32⟩
  | 32 => ⟨S512, .f32⟩
  | 33 => ⟨S1x64x512, .f32⟩
  | 34 => ⟨S64x512, .f32⟩
  | 35 => ⟨S20480x512, .f32⟩
  | 36 => ⟨S1x512, .f32⟩
  | 37 => ⟨S20480x512, .f32⟩
  | 38 => ⟨S20480x512, .f32⟩
  | 39 => ⟨S20480x512, .f32⟩
  | 40 => ⟨S20480x512, .f32⟩
  | 41 => ⟨S_, .f32⟩
  | 42 => ⟨S20480x512, .f32⟩
  | 43 => ⟨S20480x512, .f32⟩
  | 44 => ⟨S_, .f32⟩
  | 45 => ⟨S20480x512, .f32⟩
  | 46 => ⟨S20480x512, .f32⟩
  | 47 => ⟨S_, .f32⟩
  | 48 => ⟨S20480x512, .f32⟩
  | 49 => ⟨S20480x512, .f32⟩
  | 50 => ⟨S1x512, .f32⟩
  | 51 => ⟨S20480x512, .f32⟩
  | 52 => ⟨S20480x512, .f32⟩
  | 53 => ⟨S_, .f32⟩
  | 54 => ⟨S20480x512, .f32⟩
  | 55 => ⟨S20480x512, .f32⟩
  | 56 => ⟨S20480x512, .f32⟩
  | 57 => ⟨S20480x512, .f32⟩
  | 58 => ⟨S1x512, .f32⟩
  | 59 => ⟨S20480x512, .f32⟩
  | 60 => ⟨S20480x512, .f32⟩
  | 61 => ⟨S20480x8x64, .f32⟩
  | 62 => ⟨S_, .f32⟩
  | 63 => ⟨S20480x8, .f32⟩
  | 64 => ⟨S20480x8x1, .f32⟩
  | 65 => ⟨S20480x8x64, .f32⟩
  | 66 => ⟨S20480x8x64, .f32⟩
  | 67 => ⟨S20480x8x64, .f32⟩
  | 68 => ⟨S20480x8x64, .f32⟩
  | 69 => ⟨S20480x512, .f32⟩
  | 70 => ⟨S20480x512, .f32⟩
  | 71 => ⟨S20480x128, .f32⟩
  | 72 => ⟨S20480x128, .f32⟩
  | 73 => ⟨S_, .f32⟩
  | 74 => ⟨S20480x128, .f32⟩
  | 75 => ⟨S20480x128, .f32⟩
  | 76 => ⟨S_, .f32⟩
  | 77 => ⟨S20480x128, .f32⟩
  | 78 => ⟨S20480x128, .f32⟩
  | 79 => ⟨S20480x512, .f32⟩
  | 80 => ⟨S20480x512, .f32⟩
  | 81 => ⟨S20480x1024, .f32⟩
  | 82 => ⟨S20480x1024, .f32⟩
  | 83 => ⟨S_, .f32⟩
  | 84 => ⟨S20480x1024, .f32⟩
  | 85 => ⟨S20480x1024, .f32⟩
  | 86 => ⟨S_, .f32⟩
  | 87 => ⟨S20480x1024, .f32⟩
  | 88 => ⟨S20480x1024, .f32⟩
  | 89 => ⟨S512x1024, .f32⟩
  | 90 => ⟨S20480x1024, .f32⟩
  | 91 => ⟨S20480x1024, .f32⟩
  | 92 => ⟨S20480x1024, .f32⟩
  | 93 => ⟨S20480x1024, .f32⟩
  | 94 => ⟨S_, .f32⟩
  | 95 => ⟨S20480x1024, .f32⟩
  | 96 => ⟨S20480x1024, .f32⟩
  | 97 => ⟨S_, .f32⟩
  | 98 => ⟨S20480x1024, .f32⟩
  | 99 => ⟨S20480x1024, .f32⟩
  | 100 => ⟨S20480x512, .f32⟩
  | 101 => ⟨S512x1024, .f32⟩
  | 102 => ⟨S20480x1024, .f32⟩
  | 103 => ⟨S20480x1024, .f32⟩
  | 104 => ⟨S20480x1024, .f32⟩
  | 105 => ⟨S20480x1024, .f32⟩
  | 106 => ⟨S20480x1024, .f32⟩
  | 107 => ⟨S_, .f32⟩
  | 108 => ⟨S20480x1024, .f32⟩
  | 109 => ⟨S20480x1024, .f32⟩
  | 110 => ⟨S_, .f32⟩
  | 111 => ⟨S20480x1024, .f32⟩
  | 112 => ⟨S20480x1024, .f32⟩
  | 113 => ⟨S512x1024, .f32⟩
  | 114 => ⟨S20480x1024, .f32⟩
  | 115 => ⟨S20480x1024, .f32⟩
  | 116 => ⟨S20480x1024, .f32⟩
  | 117 => ⟨S1x1x1024, .f32⟩
  | 118 => ⟨S1x1024, .f32⟩
  | 119 => ⟨S1x1x1024, .f32⟩
  | 120 => ⟨S1x4096x1024, .f32⟩
  | 121 => ⟨S4096x1024, .f32⟩
  | 122 => ⟨S8x1x1024, .f32⟩
  | 123 => ⟨S8x1024, .f32⟩
  | 124 => ⟨S8x1x1024, .f32⟩
  | 125 => ⟨S8x2048x1024, .f32⟩
  | 126 => ⟨S16384x1024, .f32⟩
  | 127 => ⟨S20480x1024, .f32⟩
  | _ => ⟨S20480x1024, .f32⟩

abbrev hbmTy0_2 (i : Nat) : BufTy := match i % 128 with
  | 0 => ⟨S1024x1024, .f32⟩
  | 1 => ⟨S20480x1024, .f32⟩
  | 2 => ⟨S20480x1024, .f32⟩
  | 3 => ⟨S20480x1024, .f32⟩
  | _ => ⟨S20480x1024, .f32⟩

abbrev hbmTy (i : Nat) : BufTy := match i / 128 with
  | 0 => hbmTy0_0 i
  | 1 => hbmTy0_1 i
  | 2 => hbmTy0_2 i
  | _ => ⟨S20480x1024, .f32⟩

abbrev bufTy : (tb : Table) → Fin (tcTables nBuf tb) → BufTy
  | .hbm, ⟨i, _⟩ => hbmTy i
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_call0_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_0 : Ref sig .tc := ⟨.hbm, 63, rfl⟩
abbrev main_call1_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst : Ref sig .tc := ⟨.hbm, 92, rfl⟩
abbrev main_v70 : Ref sig .tc := ⟨.hbm, 93, rfl⟩
abbrev main_v71 : Ref sig .tc := ⟨.hbm, 94, rfl⟩
abbrev main_cst_1 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_2 : Ref sig .tc := ⟨.hbm, 101, rfl⟩
abbrev main_v77 : Ref sig .tc := ⟨.hbm, 102, rfl⟩
abbrev main_v78 : Ref sig .tc := ⟨.hbm, 103, rfl⟩
abbrev main_cst_3 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_4 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_5 : Ref sig .tc := ⟨.hbm, 132, rfl⟩
abbrev main_v105 : Ref sig .tc := ⟨.hbm, 133, rfl⟩
abbrev main_v106 : Ref sig .tc := ⟨.hbm, 134, rfl⟩
abbrev main_cst_6 : Ref sig .tc := ⟨.hbm, 135, rfl⟩
abbrev main_v107 : Ref sig .tc := ⟨.hbm, 136, rfl⟩
abbrev main_v108 : Ref sig .tc := ⟨.hbm, 137, rfl⟩
abbrev main_cst_7 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_8 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_9 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_10 : Ref sig .tc := ⟨.hbm, 169, rfl⟩
abbrev main_v137 : Ref sig .tc := ⟨.hbm, 170, rfl⟩
abbrev main_v138 : Ref sig .tc := ⟨.hbm, 171, rfl⟩
abbrev main_cst_11 : Ref sig .tc := ⟨.hbm, 172, rfl⟩
abbrev main_v139 : Ref sig .tc := ⟨.hbm, 173, rfl⟩
abbrev main_v140 : Ref sig .tc := ⟨.hbm, 174, rfl⟩
abbrev main_cst_12 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_13 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_cst_14 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_15 : Ref sig .tc := ⟨.hbm, 201, rfl⟩
abbrev main_v164 : Ref sig .tc := ⟨.hbm, 202, rfl⟩
abbrev main_v165 : Ref sig .tc := ⟨.hbm, 203, rfl⟩
abbrev main_cst_16 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_cst_17 : Ref sig .tc := ⟨.hbm, 211, rfl⟩
abbrev main_v172 : Ref sig .tc := ⟨.hbm, 212, rfl⟩
abbrev main_v173 : Ref sig .tc := ⟨.hbm, 213, rfl⟩
abbrev main_cst_18 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_cst_19 : Ref sig .tc := ⟨.hbm, 222, rfl⟩
abbrev main_v181 : Ref sig .tc := ⟨.hbm, 223, rfl⟩
abbrev main_v182 : Ref sig .tc := ⟨.hbm, 224, rfl⟩
abbrev main_cst_20 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_cst_21 : Ref sig .tc := ⟨.hbm, 235, rfl⟩
abbrev main_v192 : Ref sig .tc := ⟨.hbm, 236, rfl⟩
abbrev main_v193 : Ref sig .tc := ⟨.hbm, 237, rfl⟩
abbrev main_cst_22 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩

abbrev nD : Nat := 1
abbrev τ : Topo := Topo.v7x

variable {F : FTy → Type} [FloatOps F]
-- ==== Last.lean ====
abbrev S20480x1024 : Shape := ⟨2, ![20480, 1024]⟩
abbrev S16x6x1024 : Shape := ⟨3, ![16, 6, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S20480x1024, .f32⟩
  | .hbm, ⟨1, _⟩ => ⟨S20480x1024, .f32⟩
  | .hbm, ⟨2, _⟩ => ⟨S16x6x1024, .f32⟩
  | .hbm, ⟨3, _⟩ => ⟨S1024, .f32⟩
  | .hbm, ⟨4, _⟩ => ⟨S1x1024, .f32⟩
  | .hbm, ⟨5, _⟩ => ⟨S20480x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastRefIdeal.lean ====
abbrev S20480x1024 : Shape := ⟨2, ![20480, 1024]⟩
abbrev S16x6x1024 : Shape := ⟨3, ![16, 6, 1024]⟩
abbrev S1024 : Shape := ⟨1, ![1024]⟩
abbrev S4096x1024 : Shape := ⟨2, ![4096, 1024]⟩
abbrev S16x256x1024 : Shape := ⟨3, ![16, 256, 1024]⟩
abbrev S1x6x1024 : Shape := ⟨3, ![1, 6, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S16384x1024 : Shape := ⟨2, ![16384, 1024]⟩
abbrev S8x2048x1024 : Shape := ⟨3, ![8, 2048, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x2048 : Shape := ⟨2, ![8, 2048]⟩
abbrev S8x2048x1 : Shape := ⟨3, ![8, 2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S20480x1024, .f32⟩
  | .hbm, ⟨2, _⟩ => ⟨S16x6x1024, .f32⟩
  | .hbm, ⟨3, _⟩ => ⟨S1024, .f32⟩
  | .hbm, ⟨4, _⟩ => ⟨S4096x1024, .f32⟩
  | .hbm, ⟨5, _⟩ => ⟨S16x256x1024, .f32⟩
  | .hbm, ⟨6, _⟩ => ⟨S4096x1024, .f32⟩
  | .hbm, ⟨7, _⟩ => ⟨S16x256x1024, .f32⟩
  | .hbm, ⟨8, _⟩ => ⟨S1x6x1024, .f32⟩
  | .hbm, ⟨9, _⟩ => ⟨S1x1x1024, .f32⟩
  | .hbm, ⟨10, _⟩ => ⟨S1x1024, .f32⟩
  | .hbm, ⟨11, _⟩ => ⟨S1x1x1024, .f32⟩
  | .hbm, ⟨12, _⟩ => ⟨S16x256x1024, .f32⟩
  | .hbm, ⟨13, _⟩ => ⟨S16x256x1024, .f32⟩
  | .hbm, ⟨14, _⟩ => ⟨S16x256x1024, .f32⟩
  | .hbm, ⟨15, _⟩ => ⟨S16x256x1024, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S16x256x1, .f32⟩
  | .hbm, ⟨26, _⟩ => ⟨S16x256x1024, .f32⟩
  | .hbm, ⟨27, _⟩ => ⟨S16x256x1024, .f32⟩
  | .hbm, ⟨28, _⟩ => ⟨S1x1x1024, .f32⟩
  | .hbm, ⟨29, _⟩ => ⟨S16x256x1024, .f32⟩
  | .hbm, ⟨30, _⟩ => ⟨S16x256x1024, .f32⟩
  | .hbm, ⟨31, _⟩ => ⟨S4096x1024, .f32⟩
  | .hbm, ⟨32, _⟩ => ⟨S16384x1024, .f32⟩
  | .hbm, ⟨33, _⟩ => ⟨S8x2048x1024, .f32⟩
  | .hbm, ⟨34, _⟩ => ⟨S16384x1024, .f32⟩
  | .hbm, ⟨35, _⟩ => ⟨S8x2048x1024, .f32⟩
  | .hbm, ⟨36, _⟩ => ⟨S8x6x1024, .f32⟩
  | .hbm, ⟨37, _⟩ => ⟨S8x1x1024, .f32⟩
  | .hbm, ⟨38, _⟩ => ⟨S8x1024, .f32⟩
  | .hbm, ⟨39, _⟩ => ⟨S8x1x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S8x2048x1, .f32⟩
  | .hbm, ⟨54, _⟩ => ⟨S8x2048x1024, .f32⟩
  | .hbm, ⟨55, _⟩ => ⟨S8x2048x1024, .f32⟩
  | .hbm, ⟨56, _⟩ => ⟨S1x1x1024, .f32⟩
  | .hbm, ⟨57, _⟩ => ⟨S8x2048x1024, .f32⟩
  | .hbm, ⟨58, _⟩ => ⟨S8x2048x1024, .f32⟩
  | .hbm, ⟨59, _⟩ => ⟨S16384x1024, .f32⟩
  | .hbm, ⟨60, _⟩ => ⟨S20480x1024, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩

abbrev nD : Nat := 1
abbrev τ : Topo := Topo.v7x

variable {F : FTy → Type} [FloatOps F]
-- ==== Moe.lean ====
abbrev S90112x1024 : Shape := ⟨2, ![90112, 1024]⟩
abbrev S90112 : Shape := ⟨1, ![90112]⟩
abbrev S352 : Shape := ⟨1, ![352]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S90112x1 : Shape := ⟨2, ![90112, 1]⟩
abbrev S32x1x2048 : Shape := ⟨3, ![32, 1, 2048]⟩
abbrev S32x1x1024 : Shape := ⟨3, ![32, 1, 1024]⟩
abbrev S256x1024 : Shape := ⟨2, ![256, 1024]⟩
abbrev S256x1 : Shape := ⟨2, ![256, 1]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 10
  | .vmem => 16
  | .smem => 3
  | _ => 0

abbrev bufTy : (tb : Table) → Fin (tcTables nBuf tb) → BufTy
  | .hbm, ⟨0, _⟩ => ⟨S90112x1024, .bf16⟩
  | .hbm, ⟨1, _⟩ => ⟨S90112, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S90112x1, .f32⟩
  | .hbm, ⟨7, _⟩ => ⟨S32x1x2048, .f32⟩
  | .hbm, ⟨8, _⟩ => ⟨S32x1x1024, .f32⟩
  | .hbm, ⟨9, _⟩ => ⟨S90112x1024, .f32⟩
  | .local _ .vmem, ⟨0, _⟩ => ⟨S256x1024, .bf16⟩
  | .local _ .vmem, ⟨1, _⟩ => ⟨S256x1024, .bf16⟩
  | .local _ .vmem, ⟨2, _⟩ => ⟨S256x1, .f32⟩
  | .local _ .vmem, ⟨3, _⟩ => ⟨S256x1, .f32⟩
  | .local _ .vmem, ⟨4, _⟩ => ⟨S1x1024x2048, .f32⟩
  | .local _ .vmem, ⟨5, _⟩ => ⟨S1x1024x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S256x1024, .f32⟩
  | .local _ .vmem, ⟨13, _⟩ => ⟨S256x1024, .f32⟩
  | .local _ .vmem, ⟨14, _⟩ => ⟨S1024x2048, .bf16⟩
  | .local _ .vmem, ⟨15, _⟩ => ⟨S1024x1024, .bf16⟩
  | .local _ .smem, ⟨0, _⟩ => ⟨S352, .i32⟩
  | .local _ .smem, ⟨1, _⟩ => ⟨S352, .i32⟩
  | .local _ .smem, ⟨2, _⟩ => ⟨S1, .i32⟩
  | _, _ => ⟨S90112x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![352], ![false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v5 : BitVec 32) : BitVec 1 :=
  let arg0 : BitVec 32 := BitVec.ofNat 32 (i 0).val
  let v6 : BitVec 1 := Scalar.cmpi .slt arg0 v5
  let v7 : BitVec 32 := Scalar.extui v6
  let c0_i32_0 : BitVec 32 := 0#32
  let v8 : BitVec 1 := Scalar.cmpi .ne v7 c0_i32_0
  v8

def k0_cond3 (i : grid0.Coords) (v9 : BitVec 32) : BitVec 1 :=
  let arg0 : BitVec 32 := BitVec.ofNat 32 (i 0).val
  let v10 : BitVec 1 := Scalar.cmpi .sge arg0 v9
  let v11 : BitVec 32 := Scalar.extui v10
  let c0_i32_2 : BitVec 32 := 0#32
  let v12 : BitVec 1 := Scalar.cmpi .ne v11 c0_i32_2
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MoeRefIdeal.lean ====
abbrev S90112x1024 : Shape := ⟨2, ![90112, 1024]⟩
abbrev S90112 : Shape := ⟨1, ![90112]⟩
abbrev S352 : Shape := ⟨1, ![352]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S352x256x1024 : Shape := ⟨3, ![352, 256, 1024]⟩
abbrev S_ : Shape := ⟨0, ![]⟩
abbrev S352x1 : Shape := ⟨2, ![352, 1]⟩
abbrev S352x1024x2048 : Shape := ⟨3, ![352, 1024, 2048]⟩
abbrev S352x256x2048 : Shape := ⟨3, ![352, 256, 2048]⟩
abbrev S352x2048 : Shape := ⟨2, ![352, 2048]⟩
abbrev S352x1x2048 : Shape := ⟨3, ![352, 1, 2048]⟩
abbrev S352x1024x1024 : Shape := ⟨3, ![352, 1024, 1024]⟩
abbrev S352x1024 : Shape := ⟨2, ![352, 1024]⟩
abbrev S352x1x1024 : Shape := ⟨3, ![352, 1, 1024]⟩
abbrev S352x256x1 : Shape := ⟨3, ![352, 256, 1]⟩
abbrev S352x1x1 : Shape := ⟨3, ![352, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S90112x1024, .bf16⟩
  | .hbm, ⟨1, _⟩ => ⟨S90112, .f32⟩
  | .hbm, ⟨2, _⟩ => ⟨S352, .i32⟩
  | .hbm, ⟨3, _⟩ => ⟨S352, .i32⟩
  | .hbm, ⟨4, _⟩ => ⟨S1, .i32⟩
  | .hbm, ⟨5, _⟩ => ⟨S32x1024x2048, .f32⟩
  | .hbm, ⟨6, _⟩ => ⟨S32x2048, .f32⟩
  | .hbm, ⟨7, _⟩ => ⟨S32x1024x1024, .f32⟩
  | .hbm, ⟨8, _⟩ => ⟨S32x1024, .f32⟩
  | .hbm, ⟨9, _⟩ => ⟨S90112x1024, .f32⟩
  | .hbm, ⟨10, _⟩ => ⟨S352x256x1024, .f32⟩
  | .hbm, ⟨11, _⟩ => ⟨S_, .i32⟩
  | .hbm, ⟨12, _⟩ => ⟨S352, .i32⟩
  | .hbm, ⟨13, _⟩ => ⟨S352, .i1⟩
  | .hbm, ⟨14, _⟩ => ⟨S_, .i32⟩
  | .hbm, ⟨15, _⟩ => ⟨S352, .i32⟩
  | .hbm, ⟨16, _⟩ => ⟨S352, .i32⟩
  | .hbm, ⟨17, _⟩ => ⟨S352, .i32⟩
  | .hbm, ⟨18, _⟩ => ⟨S352x1, .i32⟩
  | .hbm, ⟨19, _⟩ => ⟨S352x1024x2048, .f32⟩
  | .hbm, ⟨20, _⟩ => ⟨S352x256x2048, .f32⟩
  | .hbm, ⟨21, _⟩ => ⟨S_, .i32⟩
  | .hbm, ⟨22, _⟩ => ⟨S352, .i32⟩
  | .hbm, ⟨23, _⟩ => ⟨S352, .i1⟩
  | .hbm, ⟨24, _⟩ => ⟨S_, .i32⟩
  | .hbm, ⟨25, _⟩ => ⟨S352, .i32⟩
  | .hbm, ⟨26, _⟩ => ⟨S352, .i32⟩
  | .hbm, ⟨27, _⟩ => ⟨S352, .i32⟩
  | .hbm, ⟨28, _⟩ => ⟨S352x1, .i32⟩
  | .hbm, ⟨29, _⟩ => ⟨S352x2048, .f32⟩
  | .hbm, ⟨30, _⟩ => ⟨S352x1x2048, .f32⟩
  | .hbm, ⟨31, _⟩ => ⟨S352x256x2048, .f32⟩
  | .hbm, ⟨32, _⟩ => ⟨S352x256x2048, .f32⟩
  | .hbm, ⟨33, _⟩ => ⟨S352x256x1024, .f32⟩
  | .hbm, ⟨34, _⟩ => ⟨S_, .f32⟩
  | .hbm, ⟨35, _⟩ => ⟨S352x256x1024, .f32⟩
  | .hbm, ⟨36, _⟩ => ⟨S352x256x1024, .f32⟩
  | .hbm, ⟨37, _⟩ => ⟨S352x256x1024, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S352x256x1024, .f32⟩
  | .hbm, ⟨42, _⟩ => ⟨S352x256x1024, .f32⟩
  | .hbm, ⟨43, _⟩ => ⟨S_, .f32⟩
  | .hbm, ⟨44, _⟩ => ⟨S352x256x1024, .f32⟩
  | .hbm, ⟨45, _⟩ => ⟨S352x256x1024, .f32⟩
  | .hbm, ⟨46, _⟩ => ⟨S_, .f32⟩
  | .hbm, ⟨47, _⟩ => ⟨S352x256x1024, .f32⟩
  | .hbm, ⟨48, _⟩ => ⟨S352x256x1024, .f32⟩
  | .hbm, ⟨49, _⟩ => ⟨S352x256x1024, .f32⟩
  | .hbm, ⟨50, _⟩ => ⟨S352x256x1024, .f32⟩
  | .hbm, ⟨51, _⟩ => ⟨S_, .f32⟩
  | .hbm, ⟨52, _⟩ => ⟨S352x256x1024, .f32⟩
  | .hbm, ⟨53, _⟩ => ⟨S352x256x1024, .f32⟩
  | .hbm, ⟨54, _⟩ => ⟨S_, .f32⟩
  | .hbm, ⟨55, _⟩ => ⟨S352x256x1024, .f32⟩
  | .hbm, ⟨56, _⟩ => ⟨S352x256x1024, .f32⟩
  | .hbm, ⟨57, _⟩ => ⟨S352x256x1024, .f32⟩
  | .hbm, ⟨58, _⟩ => ⟨S_, .f32⟩
  | .hbm, ⟨59, _⟩ => ⟨S352x256x1024, .f32⟩
  | .hbm, ⟨60, _⟩ => ⟨S352x256x1024, .f32⟩
  | .hbm, ⟨61, _⟩ => ⟨S352x256x1024, .f32⟩
  | .hbm, ⟨62, _⟩ => ⟨S_, .i32⟩
  | .hbm, ⟨63, _⟩ => ⟨S352, .i32⟩
  | .hbm, ⟨64, _⟩ => ⟨S352, .i1⟩
  | .hbm, ⟨65, _⟩ => ⟨S_, .i32⟩
  | .hbm, ⟨66, _⟩ => ⟨S352, .i32⟩
  | .hbm, ⟨67, _⟩ => ⟨S352, .i32⟩
  | .hbm, ⟨68, _⟩ => ⟨S352, .i32⟩
  | .hbm, ⟨69, _⟩ => ⟨S352x1, .i32⟩
  | .hbm, ⟨70, _⟩ => ⟨S352x1024x1024, .f32⟩
  | .hbm, ⟨71, _⟩ => ⟨S352x256x1024, .f32⟩
  | .hbm, ⟨72, _⟩ => ⟨S_, .i32⟩
  | .hbm, ⟨73, _⟩ => ⟨S352, .i32⟩
  | .hbm, ⟨74, _⟩ => ⟨S352, .i1⟩
  | .hbm, ⟨75, _⟩ => ⟨S_, .i32⟩
  | .hbm, ⟨76, _⟩ => ⟨S352, .i32⟩
  | .hbm, ⟨77, _⟩ => ⟨S352, .i32⟩
  | .hbm, ⟨78, _⟩ => ⟨S352, .i32⟩
  | .hbm, ⟨79, _⟩ => ⟨S352x1, .i32⟩
  | .hbm, ⟨80, _⟩ => ⟨S352x1024, .f32⟩
  | .hbm, ⟨81, _⟩ => ⟨S352x1x1024, .f32⟩
  | .hbm, ⟨82, _⟩ => ⟨S352x256x1024, .f32⟩
  | .hbm, ⟨83, _⟩ => ⟨S352x256x1024, .f32⟩
  | .hbm, ⟨84, _⟩ => ⟨S352x256x1, .f32⟩
  | .hbm, ⟨85, _⟩ => ⟨S352x256x1024, .f32⟩
  | .hbm, ⟨86, _⟩ => ⟨S352x256x1024, .f32⟩
  | .hbm, ⟨87, _⟩ => ⟨S352, .i32⟩
  | .hbm, ⟨88, _⟩ => ⟨S_, .i32⟩
  | .hbm, ⟨89, _⟩ => ⟨S352, .i32⟩
  | .hbm, ⟨90, _⟩ => ⟨S352, .i1⟩
  | .hbm, ⟨91, _⟩ => ⟨S352x1x1, .i1⟩
  | .hbm, ⟨92, _⟩ => ⟨S_, .f32⟩
  | .hbm, ⟨93, _⟩ => ⟨S_, .f32⟩
  | .hbm, ⟨94, _⟩ => ⟨S352x256x1024, .i1⟩
  | .hbm, ⟨95, _⟩ => ⟨S352x256x1024, .f32⟩
  | .hbm, ⟨96, _⟩ => ⟨S352x256x1024, .f32⟩
  | .hbm, ⟨97, _⟩ => ⟨S90112x1024, .f32⟩
  | _, _ => ⟨S90112x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_c_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v63 : Ref sig .tc := ⟨.hbm, 96, rfl⟩
abbrev main_v64 : Ref sig .tc := ⟨.hbm, 97, rfl⟩

abbrev nD : Nat := 1
abbrev τ : Topo := Topo.v7x

variable {F : FTy → Type} [FloatOps F]
-- ==== Proof.CtxHead.lean ====
/- One head of the grouped attention over the context, as the kernel's body computes it: the scores of the 256 queries
   against the 256 keys, and the weighted sum of the values under the softmax whose denominator also counts the sink. The
   body writes the same steps eight times, cut at other places each time; here each of them is shown to be `attend` of
   `scores` at the head's columns. -/
module

public import proofs.«01_k».proof.Proof.Gen.CtxIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.CtxIdeal.Head

open Cert.CtxIdeal Cert.CtxIdeal.Gen

/-- The scores of one head: its queries times its keys, contracted over the head's 64 columns. -/
def scores (q k : FVec Ideal S256x64 .bf16) : FVec Ideal S256x256 .f32 :=
  matmul dot_S256x64_S256x64_S256x256_1_1_0_0_n_n none q k (constant S256x256 .f32 0x00000000#32)

/-- The row maximum of the scores and the sink. -/
def rowMax (s : FVec Ideal S256x256 .f32) (w : Elt Ideal .f32) : FVec Ideal S256x1 .f32 :=
  maximumf (broadcast S256x1 w)
    (shapeCast S256x1 (multiReduction .maximumf [1] S256 s 0xFF800000#32 reduces_S256x256_S256 (.inl rfl) rfl) shapeCasts_S256_S256x1)

/-- The exponentials of the scores below the row maximum. -/
def weights (s : FVec Ideal S256x256 .f32) (w : Elt Ideal .f32) : FVec Ideal S256x256 .f32 :=
  exp (subf s (broadcastTo S256x256 (rowMax s w) broadcasts_S256x1_S256x256))

/-- The values weighted and summed, divided by the sum of the weights and the sink's. -/
def attend (v : FVec Ideal S256x64 .bf16) (s : FVec Ideal S256x256 .f32) (w : Elt Ideal .f32) : FVec Ideal S256x64 .f32 :=
  divf
    (matmul dot_S256x256_S256x64_S256x64_1_0_0_1_n_n none (truncf .bf16 (weights s w) bitsLt_bf16_f32) v (constant S256x64 .f32 0x00000000#32))
    (broadcastTo S256x64
      (addf (exp (subf (broadcast S256x1 w) (rowMax s w)))
        (shapeCast S256x1 (multiReduction .add [1] S256 (weights s w) 0x00000000#32 reduces_S256x256_S256 (.inl rfl) rfl) shapeCasts_S256_S256x1))
      broadcasts_S256x1_S256x64)

/-- What one grid point stores, from its block of queries, its block of keys and values, and the eight sinks. -/
def stored (q : Vec Ideal S256x512 .f32) (kv : Vec Ideal S256x256 .f32) (w : Fin 8 → Elt Ideal .f32) : FVec Ideal S256x512 .bf16 :=
  k0_pay1 (k0_pay2 q) (k0_pay3 kv) (k0_pay4 q kv (w 0)) (k0_pay11 (k0_pay5 kv) (k0_pay8 q kv (w 1)) (k0_pay9 q kv (w 1)) (k0_pay10 q kv (w 1)))
    (k0_pay12 (k0_pay2 q) (k0_pay3 kv) (w 2)) (k0_pay13 (k0_pay2 q) (k0_pay3 kv) (w 3)) (k0_pay14 (k0_pay2 q) (k0_pay3 kv) (w 4))
    (k0_pay15 (k0_pay2 q) (k0_pay3 kv) (w 5)) (k0_pay16 (k0_pay3 kv)) (k0_pay17 (k0_pay2 q) (k0_pay3 kv)) (w 6) (w 7)

/-- The maximum of a row of scores and the sink. -/
def mx (s : Fin 256 → EReal) (w : EReal) : EReal := max w (Finset.univ.fold max ⊥ s)

/-- The pattern of minus infinity is the least extended real. -/
theorem bot_bits : Ideal.ofBits .f32 0xFF800000#32 = (⊥ : EReal) := by
  simp [Ideal.ofBits, Ideal.ieee]

theorem scores_apply (q k : FVec Ideal S256x64 .bf16) (r j : Fin 256) :
    scores q k (ix2 r j) = ∑ d : Fin 64, q (ix2 r d) * k (ix2 j d) := by
  unfold scores
  pointwise

theorem rowMax_apply (s : FVec Ideal S256x256 .f32) (w : Elt Ideal .f32) (r : Fin 256) (z : Fin 1) :
    rowMax s w (ix2 r z) = mx (fun j => s (ix2 r j)) w := by
  unfold rowMax mx
  pointwise
  rw [bot_bits]

theorem attend_apply (v : FVec Ideal S256x64 .bf16) (s : FVec Ideal S256x256 .f32) (w : Elt Ideal .f32) (r : Fin 256) (d : Fin 64) :
    attend v s w (ix2 r d) = Ideal.div (∑ j : Fin 256, Ideal.exp (s (ix2 r j) - mx (fun j => s (ix2 r j)) w) * v (ix2 j d))
      (Ideal.exp (w - mx (fun j => s (ix2 r j)) w) + ∑ j : Fin 256, Ideal.exp (s (ix2 r j) - mx (fun j => s (ix2 r j)) w)) := by
  unfold attend weights
  pointwise [rowMax_apply]

theorem stored_eq (q : Vec Ideal S256x512 .f32) (kv : Vec Ideal S256x256 .f32) (w : Fin 8 → Elt Ideal .f32) :
    stored q kv w = truncf .bf16 (concatenate S256x512 1 [
      ⟨S256x64, attend (extractStridedSlice S256x64 ![0, 128] (k0_pay3 kv) slices_S256x256_o0_128_S256x64) (scores (extractStridedSlice S256x64 ![0, 0] (k0_pay2 q) slices_S256x512_o0_0_S256x64) (extractStridedSlice S256x64 ![0, 0] (k0_pay3 kv) slices_S256x256_o0_0_S256x64)) (w 0)⟩,
      ⟨S256x64, attend (extractStridedSlice S256x64 ![0, 128] (k0_pay3 kv) slices_S256x256_o0_128_S256x64) (scores (extractStridedSlice S256x64 ![0, 64] (k0_pay2 q) slices_S256x512_o0_64_S256x64) (extractStridedSlice S256x64 ![0, 0] (k0_pay3 kv) slices_S256x256_o0_0_S256x64)) (w 1)⟩,
      ⟨S256x64, attend (extractStridedSlice S256x64 ![0, 128] (k0_pay3 kv) slices_S256x256_o0_128_S256x64) (scores (extractStridedSlice S256x64 ![0, 128] (k0_pay2 q) slices_S256x512_o0_128_S256x64) (extractStridedSlice S256x64 ![0, 0] (k0_pay3 kv) slices_S256x256_o0_0_S256x64)) (w 2)⟩,
      ⟨S256x64, attend (extractStridedSlice S256x64 ![0, 128] (k0_pay3 kv) slices_S256x256_o0_128_S256x64) (scores (extractStridedSlice S256x64 ![0, 192] (k0_pay2 q) slices_S256x512_o0_192_S256x64) (extractStridedSlice S256x64 ![0, 0] (k0_pay3 kv) slices_S256x256_o0_0_S256x64)) (w 3)⟩,
      ⟨S256x64, attend (extractStridedSlice S256x64 ![0, 192] (k0_pay3 kv) slices_S256x256_o0_192_S256x64) (scores (extractStridedSlice S256x64 ![0, 256] (k0_pay2 q) slices_S256x512_o0_256_S256x64) (extractStridedSlice S256x64 ![0, 64] (k0_pay3 kv) slices_S256x256_o0_64_S256x64)) (w 4)⟩,
      ⟨S256x64, attend (extractStridedSlice S256x64 ![0, 192] (k0_pay3 kv) slices_S256x256_o0_192_S256x64) (scores (extractStridedSlice S256x64 ![0, 320] (k0_pay2 q) slices_S256x512_o0_320_S256x64) (extractStridedSlice S256x64 ![0, 64] (k0_pay3 kv) slices_S256x256_o0_64_S256x64)) (w 5)⟩,
      ⟨S256x64, attend (extractStridedSlice S256x64 ![0, 192] (k0_pay3 kv) slices_S256x256_o0_192_S256x64) (scores (extractStridedSlice S256x64 ![0, 384] (k0_pay2 q) slices_S256x512_o0_384_S256x64) (extractStridedSlice S256x64 ![0, 64] (k0_pay3 kv) slices_S256x256_o0_64_S256x64)) (w 6)⟩,
      ⟨S256x64, attend (extractStridedSlice S256x64 ![0, 192] (k0_pay3 kv) slices_S256x256_o0_192_S256x64) (scores (extractStridedSlice S256x64 ![0, 448] (k0_pay2 q) slices_S256x512_o0_448_S256x64) (extractStridedSlice S256x64 ![0, 64] (k0_pay3 kv) slices_S256x256_o0_64_S256x64)) (w 7)⟩]
      concatenates_S256x64_S256x64_S256x64_S256x64_S256x64_S256x64_S256x64_S256x64_S256x512_d1) bitsLt_bf16_f32 := rfl

/-- The attention of one query to 256 keys as the kernel computes it: the weighted sum, divided once. -/
def attn (s v : Fin 256 → EReal) (w : EReal) : EReal :=
  Ideal.div (∑ j : Fin 256, Ideal.exp (s j - mx s w) * v j) (Ideal.exp (w - mx s w) + ∑ j : Fin 256, Ideal.exp (s j - mx s w))

/-- The stored block at an index: column `c` belongs to head `c / 64`, whose keys and values are those of group `c / 256`. -/
theorem stored_apply (q : Vec Ideal S256x512 .f32) (kv : Vec Ideal S256x256 .f32) (w : Fin 8 → Elt Ideal .f32) (r : Fin 256) (c : Fin 512) :
    stored q kv w (ix2 r c) = attn
      (fun j => ∑ d : Fin 64, (q (ix2 r ⟨64 * (c.val / 64) + d.val, by omega⟩) * Ideal.ofBits .f32 0x3E000000#32) * kv (ix2 j ⟨64 * (c.val / 256) + d.val, by omega⟩))
      (fun j => kv (ix2 j ⟨128 + 64 * (c.val / 256) + c.val % 64, by omega⟩))
      (w ⟨c.val / 64, by omega⟩) := by
  rw [stored_eq]
  pointwise [attend_apply, scores_apply, k0_pay2, k0_pay3]
  obtain ⟨c, hc⟩ := c
  unfold attn
  dsimp only
  rcases (by omega : c / 64 = 0 ∨ c / 64 = 1 ∨ c / 64 = 2 ∨ c / 64 = 3 ∨ c / 64 = 4 ∨ c / 64 = 5 ∨ c / 64 = 6 ∨ c / 64 = 7) with
    h | h | h | h | h | h | h | h
  · have hg : c / 256 = 0 := by omega
    have hm : c % 64 = c := by omega
    rw [dif_pos (by omega)]
    simp only [h, hg, hm, Nat.reduceMul, Nat.reduceAdd, Nat.zero_add, Nat.add_zero, zero_add, add_zero]
    try rfl
  · have hg : c / 256 = 0 := by omega
    have hm : c % 64 = c - 64 := by omega
    rw [dif_neg (by omega), dif_pos (by omega)]
    simp only [h, hg, hm, Nat.reduceMul, Nat.reduceAdd, Nat.zero_add, Nat.add_zero, zero_add, add_zero]
    try rfl
  · have hg : c / 256 = 0 := by omega
    have hm : c % 64 = c - 64 - 64 := by omega
    rw [dif_neg (by omega), dif_neg (by omega), dif_pos (by omega)]
    simp only [h, hg, hm, Nat.reduceMul, Nat.reduceAdd, Nat.zero_add, Nat.add_zero, zero_add, add_zero]
    try rfl
  · have hg : c / 256 = 0 := by omega
    have hm : c % 64 = c - 64 - 64 - 64 := by omega
    rw [dif_neg (by omega), dif_neg (by omega), dif_neg (by omega), dif_pos (by omega)]
    simp only [h, hg, hm, Nat.reduceMul, Nat.reduceAdd, Nat.zero_add, Nat.add_zero, zero_add, add_zero]
    try rfl
  · have hg : c / 256 = 1 := by omega
    have hm : c % 64 = c - 64 - 64 - 64 - 64 := by omega
    rw [dif_neg (by omega), dif_neg (by omega), dif_neg (by omega), dif_neg (by omega), dif_pos (by omega)]
    simp only [h, hg, hm, Nat.reduceMul, Nat.reduceAdd, Nat.zero_add, Nat.add_zero, zero_add, add_zero]
    try rfl
  · have hg : c / 256 = 1 := by omega
    have hm : c % 64 = c - 64 - 64 - 64 - 64 - 64 := by omega
    rw [dif_neg (by omega), dif_neg (by omega), dif_neg (by omega), dif_neg (by omega), dif_neg (by omega), dif_pos (by omega)]
    simp only [h, hg, hm, Nat.reduceMul, Nat.reduceAdd, Nat.zero_add, Nat.add_zero, zero_add, add_zero]
    try rfl
  · have hg : c / 256 = 1 := by omega
    have hm : c % 64 = c - 64 - 64 - 64 - 64 - 64 - 64 := by omega
    rw [dif_neg (by omega), dif_neg (by omega), dif_neg (by omega), dif_neg (by omega), dif_neg (by omega), dif_neg (by omega), dif_pos (by omega)]
    simp only [h, hg, hm, Nat.reduceMul, Nat.reduceAdd, Nat.zero_add, Nat.add_zero, zero_add, add_zero]
    try rfl
  · have hg : c / 256 = 1 := by omega
    have hm : c % 64 = c - 64 - 64 - 64 - 64 - 64 - 64 - 64 := by omega
    rw [dif_neg (by omega), dif_neg (by omega), dif_neg (by omega), dif_neg (by omega), dif_neg (by omega), dif_neg (by omega), dif_neg (by omega)]
    simp only [h, hg, hm, Nat.reduceMul, Nat.reduceAdd, Nat.zero_add, Nat.add_zero, zero_add, add_zero]
    try rfl

end Cert.CtxIdeal.Head

end
-- ==== Proof.CtxMath.lean ====
/- Attention over finite scores: the sums of the kernel and of the reference are equal. -/
module

public import proofs.«01_k».proof.Proof.CtxHead
public import proofs.«01_k».proof.Pre_finite_logits
public import Idealize.ShloMosaic.Lib.ReduceAll

@[expose] public section

set_option maxRecDepth 16384

noncomputable section

open Idealize.ShloMosaic Idealize.ShloMosaic.TcCoe Idealize.SL.Sem

namespace Cert.CtxMath

open Cert.CtxIdeal.Head

/-- A factor that is neither negative nor infinite goes into a finite sum. -/
theorem sum_mul_nonneg {n : ℕ} (f : Fin n → EReal) {c : EReal} (h0 : 0 ≤ c) (ht : c ≠ ⊤) : (∑ j, f j) * c = ∑ j, f j * c :=
  map_sum ({ toFun := fun a => a * c, map_zero' := zero_mul c, map_add' := fun _ _ => EReal.right_distrib_of_nonneg_of_ne_top h0 ht _ _ } : EReal →+ EReal) f Finset.univ

theorem coe_sum {n : ℕ} (f : Fin n → ℝ) : ((∑ j, f j : ℝ) : EReal) = ∑ j, (f j : EReal) :=
  map_sum ({ toFun := fun a => (a : EReal), map_zero' := EReal.coe_zero, map_add' := EReal.coe_add } : ℝ →+ EReal) f Finset.univ

theorem exp_sub (a b : ℝ) : Ideal.exp ((a : EReal) - (b : EReal)) = ((Real.exp (a - b) : ℝ) : EReal) := by
  rw [← EReal.coe_sub]
  rfl

/-- The largest of finitely many real scores and a real sink is real. -/
theorem mx_real {n : ℕ} (s : Fin n → ℝ) (w : ℝ) : ∃ r : ℝ, max (w : EReal) (Finset.univ.fold max ⊥ fun j => (s j : EReal)) = r := by
  have h : ∀ t : Finset (Fin n), (t.fold max ⊥ fun j => (s j : EReal)) ≠ ⊤ := fun t => by
    refine ne_of_lt ((Finset.fold_max_lt _).mpr ⟨bot_lt_top, fun j _ => EReal.coe_lt_top _⟩)
  refine ⟨EReal.toReal _, (EReal.coe_toReal ?_ ?_).symm⟩
  · exact ne_of_lt (max_lt (EReal.coe_lt_top _) (lt_top_iff_ne_top.mpr (h _)))
  · exact ne_of_gt (lt_of_lt_of_le (EReal.bot_lt_coe w) (le_max_left _ _))

/-- The maximum over a row of scores that ends in the sink. -/
theorem fold_row (r : Fin 257 → EReal) (s : Fin 256 → EReal) (w : EReal)
    (hs : ∀ j : Fin 256, r ⟨j.val, by omega⟩ = s j) (hw : r ⟨256, by omega⟩ = w) : Finset.univ.fold max ⊥ r = mx s w := by
  unfold mx
  refine le_antisymm ((Finset.fold_max_le _).mpr ⟨bot_le, fun k _ => ?_⟩) (max_le ?_ ((Finset.fold_max_le _).mpr ⟨bot_le, fun j _ => ?_⟩))
  · rcases Nat.lt_or_ge k.val 256 with h | h
    · refine le_trans ?_ (le_max_right _ _)
      rw [Finset.le_fold_max]
      exact .inr ⟨⟨k.val, h⟩, Finset.mem_univ _, (hs ⟨k.val, h⟩).le⟩
    · refine le_trans (le_of_eq ?_) (le_max_left _ _)
      rw [← hw]
      exact congrArg r (Fin.ext (by dsimp only; omega))
  · rw [Finset.le_fold_max]
    exact .inr ⟨⟨256, by omega⟩, Finset.mem_univ _, hw.ge⟩
  · rw [Finset.le_fold_max]
    exact .inr ⟨⟨j.val, by omega⟩, Finset.mem_univ _, (hs j).ge⟩

/-- Dividing the weights by their sum before or after the values are summed is the same, when scores and sink are real. -/
theorem attn_eq (r : Fin 257 → EReal) (s : Fin 256 → ℝ) (v : Fin 256 → EReal) (w : ℝ)
    (hs : ∀ j : Fin 256, r ⟨j.val, by omega⟩ = (s j : EReal)) (hw : r ⟨256, by omega⟩ = (w : EReal)) :
    attn (fun j => (s j : EReal)) v w =
      ∑ j : Fin 256, v j * Ideal.div (Ideal.exp (r ⟨j.val, by omega⟩ - Finset.univ.fold max ⊥ r)) (∑ k : Fin 257, Ideal.exp (r k - Finset.univ.fold max ⊥ r)) := by
  rw [fold_row r (fun j => (s j : EReal)) w hs hw]
  unfold attn
  obtain ⟨M, hM⟩ : ∃ M : ℝ, mx (fun j => (s j : EReal)) w = M := mx_real s w
  have hsum : (∑ k : Fin 257, Ideal.exp (r k - (M : EReal))) = (∑ j : Fin 256, Ideal.exp (r j.castSucc - (M : EReal))) + Ideal.exp (r (Fin.last 256) - (M : EReal)) :=
    Fin.sum_univ_castSucc _
  rw [hM, hsum]
  have h1 : ∀ j : Fin 256, r j.castSucc = (s j : EReal) := hs
  have h2 : r (Fin.last 256) = (w : EReal) := hw
  simp only [hs, h1, h2, exp_sub, ← coe_sum, ← EReal.coe_add]
  rw [add_comm (Real.exp (w - M))]
  have hD : 0 < (∑ j, Real.exp (s j - M)) + Real.exp (w - M) := add_pos_of_nonneg_of_pos (Finset.sum_nonneg fun _ _ => (Real.exp_pos _).le) (Real.exp_pos _)
  generalize (∑ j, Real.exp (s j - M)) + Real.exp (w - M) = D at hD
  have hD0 : (D : EReal) ≠ 0 := by exact_mod_cast hD.ne'
  have hdiv : ∀ x : EReal, Ideal.div x (D : EReal) = x * ((D⁻¹ : ℝ) : EReal) := fun x => by
    unfold Ideal.div
    rw [if_neg hD0, EReal.coe_inv]
  simp only [hdiv]
  rw [sum_mul_nonneg _ (by exact_mod_cast (inv_pos.mpr hD).le) (EReal.coe_ne_top _)]
  refine Finset.sum_congr rfl fun j _ => ?_
  rw [mul_comm (((Real.exp (s j - M) : ℝ) : EReal)) (v j), mul_assoc]

/-- The bits of one eighth. -/
theorem scale_bits : Ideal.ofBits .f32 0x3E000000#32 = (((1 / 8 : ℝ)) : EReal) := by
  simp [Ideal.ofBits, Ideal.ieee]
  rw [← EReal.coe_mul]
  norm_num

/-- The shapes in the precondition fit together. -/
instance facts : Cert.Pre_finite_logits.Facts where
  slices_S20480x7296_S4096x640_0_6144 := by decide
  bcast_S_S4096x640 := by decide
  bcast_S_S8 := by decide
  reducesTo_S8_S_d0 := by decide
  h_S_ := by decide

/-- What the precondition says: the queries, the keys and the sinks are real. -/
theorem of_pre (z : Vec Ideal Cert.Pre_finite_logits.S20480x7296 .f32) (w : Vec Ideal Cert.Pre_finite_logits.S8 .f32)
    (h : Cert.Pre_finite_logits.fn (F := Ideal) z w = fun _ => 1#1) :
    (∀ (r : Fin 4096) (k : Fin 640), ∃ x : ℝ, z (ix2 ⟨r.val, by omega⟩ ⟨6144 + k.val, by omega⟩) = x) ∧ ∀ e : Fin 8, ∃ x : ℝ, w (ix1 e) = x := by
  have real : ∀ x : EReal, BitVec.ofBool (decide (max x (-x) < (⊤ : EReal))) = 1#1 → ∃ r : ℝ, x = r := fun x hx => by
    have hx : max x (-x) < (⊤ : EReal) := by
      by_contra hn
      simp [hn] at hx
    have h1 : x ≠ ⊤ := (lt_of_le_of_lt (le_max_left _ _) hx).ne
    have h2 : x ≠ ⊥ := fun e => by simp [e] at hx
    exact ⟨x.toReal, (EReal.coe_toReal h1 h2).symm⟩
  have top : Ideal.ofBits .f32 0x7F800000#32 = (⊤ : EReal) := by simp [Ideal.ofBits, Ideal.ieee]
  have hk := fun i => IntOp.andi_eq_one.1 (congrFun h i)
  constructor
  · intro r k
    refine real _ ?_
    have e := (hk (ix2 r k)).1
    pointwise at e
    rw [top] at e
    exact e
  · intro e
    refine real _ ?_
    have := Host.reduce_andi_all _ _ _ _ _ (hk (ix2 0 0)).2 (ix1 e)
    pointwise at this
    rw [top] at this
    exact this

end Cert.CtxMath

end
-- ==== Proof.CtxOut.lean ====
/- What one grid point of the attention over the context writes back, as a function of the blocks it reads. -/
module

public import proofs.«01_k».proof.Proof.CtxHead

@[expose] public section

set_option maxRecDepth 16384

noncomputable section

open Idealize.ShloMosaic Idealize.ShloMosaic.TcCoe Idealize.SL.Sem
open Idealize.ShloMosaic.Pipeline (Dat)

namespace Cert.CtxIdeal.Out

open Cert.CtxIdeal Cert.CtxIdeal.Gen Cert.CtxIdeal.Value Cert.CtxIdeal.Head

variable (m : (ℓ : Loc nD τ sig) → Buf (Elt Ideal) ℓ) (ρ : Dev nD → PrngReg)

/-- The word of the table of sinks that the body loads at a fixed place. -/
theorem ld_sink (x : Vec Ideal S8 .f32) (k : ℕ) (hk : k < 8) (hin : ∀ a : Fin 1, (![k] : Fin 1 → ℕ) a + (![1] : Fin 1 → ℕ) a ≤ S8.size a)
    (hp : 0 < (Rect.unit (s := S8) ![k] ![1] hin).shape.numel) :
    View.ld x (Rect.unit (s := S8) ![k] ![1] hin) (Shape.Idx.first hp) = x (ix1 ⟨k, hk⟩) := by
  unfold View.ld
  congr 1
  funext a
  match a with
  | ⟨0, _⟩ => rfl

/-- What a grid point leaves in the output's buffer is `stored` of the blocks it reads. -/
theorem outsAt_eq (c : Dev nD) (t : Fin cfg0.N) :
    outsAt0 m c t = stored (X0_1 m c t) (X0_2 m c t) (fun h => iblk m c 0 t (ix1 h)) := by
  unfold outsAt0
  frame_out
  rw [ld_sink _ 0 (by decide), ld_sink _ 1 (by decide), ld_sink _ 2 (by decide), ld_sink _ 3 (by decide), ld_sink _ 4 (by decide),
    ld_sink _ 5 (by decide), ld_sink _ 6 (by decide), ld_sink _ 7 (by decide)]
  rfl

/-- Where each window's block lies at a grid point. -/
theorem idx : ∀ t : Fin cfg0.N, win0_0.index t = ![0] ∧ win0_1.index t = ![t.val, 12] ∧ win0_2.index t = ![t.val, 26] ∧ win0_3.index t = ![t.val, 0] :=
  (by decide +kernel : ∀ t : Fin grid0.N, _)

theorem tlt (t : Fin cfg0.N) : t.val < 16 := lt_of_lt_of_eq t.isLt N_0

theorem sink_apply (c : Dev nD) (t : Fin cfg0.N) (h : Fin 8) :
    iblk m c 0 t (ix1 h) = m ((c : Thread nD τ).loc main_arg1) (ix1 h) := by
  blk_ext! [iblk, V, idx t]

theorem queries_apply (c : Dev nD) (t : Fin cfg0.N) (r : Fin 256) (j : Fin 512) :
    X0_1 m c t (ix2 r j) = m ((c : Thread nD τ).loc main_arg0) (ix2 ⟨256 * t.val + r.val, by have := tlt t; omega⟩ ⟨6144 + j.val, by omega⟩) := by
  unfold X0_1 Pipeline.Window.fill
  rw [dif_pos (moved0_1 t _)]
  have := tlt t
  blk_ext [iblk, V, idx t]

theorem keysValues_apply (c : Dev nD) (t : Fin cfg0.N) (r : Fin 256) (j : Fin 256) :
    X0_2 m c t (ix2 r j) = m ((c : Thread nD τ).loc main_arg0) (ix2 ⟨256 * t.val + r.val, by have := tlt t; omega⟩ ⟨6656 + j.val, by omega⟩) := by
  unfold X0_2 Pipeline.Window.fill
  rw [dif_pos (moved0_2 t _)]
  have := tlt t
  blk_ext [iblk, V, idx t]

/-- The result array: row `i 0` is a query of the sequence of 256 rows it lies in, column `i 1` belongs to head `i 1 / 64`. -/
def G (z : Vec Ideal S20480x7296 .f32) (w : Vec Ideal S8 .f32) : Vec Ideal S4096x512 .bf16 := fun i =>
  attn
    (fun j => ∑ d : Fin 64, (z (ix2 ⟨(i 0).val, by have : (i 0).val < 4096 := (i 0).isLt; omega⟩ ⟨6144 + 64 * ((i 1).val / 64) + d.val, by have : (i 1).val < 512 := (i 1).isLt; omega⟩) * Ideal.ofBits .f32 0x3E000000#32)
      * z (ix2 ⟨256 * ((i 0).val / 256) + j.val, by have : (i 0).val < 4096 := (i 0).isLt; omega⟩ ⟨6656 + 64 * ((i 1).val / 256) + d.val, by have : (i 1).val < 512 := (i 1).isLt; omega⟩))
    (fun j => z (ix2 ⟨256 * ((i 0).val / 256) + j.val, by have : (i 0).val < 4096 := (i 0).isLt; omega⟩ ⟨6784 + 64 * ((i 1).val / 256) + (i 1).val % 64, by have : (i 1).val < 512 := (i 1).isLt; omega⟩))
    (w (ix1 ⟨(i 1).val / 64, by have : (i 1).val < 512 := (i 1).isLt; omega⟩))

theorem final (c : Dev nD) :
    (dats m 0 c).arrAt 3 cfg0.N = G (m ((c : Thread nD τ).loc main_arg0)) (m ((c : Thread nD τ).loc main_arg1)) := by
  refine (dats m 0 c).arrAt_eq_of_covers 3 _ (by decide +kernel) fun t hf y => ?_
  blk_simp
  rw [after0_3, outsAt_eq]
  obtain ⟨r, k, rfl⟩ : ∃ (r : Fin 256) (k : Fin 512), y = ix2 r k := ⟨y 0, y 1, eq_ix2 y⟩
  have ht := tlt t
  have e : (win0_3.blk t).view.emb (ix2 r k) = ix2 ⟨256 * t.val + r.val, by omega⟩ k := by
    blk_ext [idx t]
  refine Eq.trans (stored_apply _ _ _ r k) (Eq.trans ?_ (congrArg (G _ _) e.symm))
  unfold G
  have h1 : (256 * t.val + r.val) / 256 = t.val := by omega
  simp only [queries_apply, keysValues_apply, sink_apply, h1, ix2_0, ix2_1, ← Nat.add_assoc, Nat.reduceAdd]

end Cert.CtxIdeal.Out

end
-- ==== Proof.CtxMax.lean ====
/- The maximum over a row of scores and its sink, read at an index. -/
module

public import proofs.«01_k».proof.Proof.CtxOut
public import proofs.«01_k».proof.Proof.Gen.CtxRefIdeal.Run
public import proofs.«01_k».proof.Proof.Gen.CtxRefIdeal.Read

@[expose] public section

set_option maxRecDepth 16384

noncomputable section

open Idealize.ShloMosaic Idealize.ShloMosaic.TcCoe Idealize.SL.Sem

namespace Cert.CtxRefIdeal.Pt

open Cert.CtxRefIdeal Cert.CtxRefIdeal.Read

variable (z : Vec Ideal S20480x7296 .f32) (w : Vec Ideal S8 .f32)

/-- A maximum over the last axis, at an index. -/
theorem fold_apply (y : Vec Ideal S16x2x4x256x257 .f32) (v : S_.Idx → EReal) (h : S16x2x4x256x257.ReducesTo [4] S16x2x4x256) (hu : 0 < S_.numel)
    (b : Fin 16) (g : Fin 2) (e : Fin 4) (q : Fin 256) :
    Host.reduce (FloatOps.maximumf (F := Ideal) (φ := .f32)) y v h hu (ix4 b g e q)
      = Finset.univ.fold max (v (Shape.Idx.first hu)) fun k : Fin 257 => y (ix5 b g e q k) := by
  rw [Host.reduce_eq_fold, Shape.ReducesTo.fold_fiber_r5_a4]
  exact Finset.fold_congr (fun k _ => congrArg y rfl)

theorem max_of_rows (b : Fin 16) (g : Fin 2) (e : Fin 4) (q : Fin 256) (r : Fin 257 → EReal)
    (hr : ∀ k : Fin 257, val_main_v14 (F := Ideal) z w (ix5 b g e q k) = r k) :
    val_main_v17 (F := Ideal) z w (ix4 b g e q) = Finset.univ.fold max ⊥ r := by
  obtain rfl : (fun k => val_main_v14 (F := Ideal) z w (ix5 b g e q k)) = r := funext hr
  clear hr
  unfold val_main_v17 val_main_v15 val_main_v16 val_main_cst_0 val_main_cst_1
  generalize val_main_v14 (F := Ideal) z w = y
  rw [maximumf_apply, fold_apply]
  refine (congrArg₂ max (Cert.CtxIdeal.Head.bot_bits) (congrArg (fun t => Finset.univ.fold max t fun k : Fin 257 => y (ix5 b g e q k)) Cert.CtxIdeal.Head.bot_bits)).trans ?_
  exact max_eq_right bot_le

end Cert.CtxRefIdeal.Pt

end
-- ==== Proof.CtxRef.lean ====
/- The reference for the attention over the context, read at an index. -/
module

public import proofs.«01_k».proof.Proof.CtxMax
public import proofs.«01_k».proof.Proof.Gen.CtxRefIdeal.Run
public import proofs.«01_k».proof.Proof.Gen.CtxRefIdeal.Read

@[expose] public section

set_option maxRecDepth 16384

noncomputable section

open Idealize.ShloMosaic Idealize.ShloMosaic.TcCoe Idealize.SL.Sem

namespace Cert.CtxRefIdeal.Pt

open Cert.CtxRefIdeal Cert.CtxRefIdeal.Read

variable (z : Vec Ideal S20480x7296 .f32) (w : Vec Ideal S8 .f32)

/-- A query head's entry. -/
theorem query_apply (b : Fin 16) (g : Fin 2) (e : Fin 4) (q : Fin 256) (d : Fin 64) :
    val_main_v6 (F := Ideal) z (ix5 b q g e d) = z (ix2 ⟨256 * b.val + q.val, by omega⟩ ⟨6144 + (256 * g.val + 64 * e.val + d.val), by omega⟩) := by
  pointwise [val_main_v6, val_main_v1, val_main_v0]
  refine congrArg z ?_
  rw [ix2_inj]
  exact ⟨Fin.ext (by dsimp only; omega), Fin.ext (by dsimp only; omega)⟩

/-- A key head's entry. -/
theorem key_apply (b : Fin 16) (g : Fin 2) (j : Fin 256) (d : Fin 64) :
    val_main_v3 (F := Ideal) z (ix4 b j g d) = z (ix2 ⟨256 * b.val + j.val, by omega⟩ ⟨6656 + (64 * g.val + d.val), by omega⟩) := by
  pointwise [val_main_v3, val_main_v2]
  refine congrArg z ?_
  rw [ix2_inj]
  exact ⟨Fin.ext (by dsimp only; omega), Fin.ext (by dsimp only; omega)⟩

/-- The scaled scores of one query. -/
theorem logits_apply (b : Fin 16) (g : Fin 2) (e : Fin 4) (q j : Fin 256) :
    val_main_v10 (F := Ideal) z (ix5 b g e q j) =
      (∑ d : Fin 64, z (ix2 ⟨256 * b.val + j.val, by omega⟩ ⟨6656 + (64 * g.val + d.val), by omega⟩)
        * z (ix2 ⟨256 * b.val + q.val, by omega⟩ ⟨6144 + (256 * g.val + 64 * e.val + d.val), by omega⟩)) * Ideal.ofBits .f32 0x3E000000#32 := by
  simp only [← key_apply, ← query_apply]
  unfold val_main_v10 val_main_v9 val_main_v8 val_main_v7 val_main_cst
  generalize val_main_v3 (F := Ideal) z = k
  generalize val_main_v6 (F := Ideal) z = y
  pointwise

/-- The scores and the sink in one row: the sink stands at place 256. -/
def row (b : Fin 16) (g : Fin 2) (e : Fin 4) (q : Fin 256) (k : Fin 257) : EReal :=
  if h : k.val < 256 then val_main_v10 (F := Ideal) z (ix5 b g e q ⟨k.val, h⟩) else w (ix1 ⟨g.val * 4 + e.val, by omega⟩)

theorem row_apply (b : Fin 16) (g : Fin 2) (e : Fin 4) (q : Fin 256) (k : Fin 257) :
    val_main_v14 (F := Ideal) z w (ix5 b g e q k) = row z w b g e q k := by
  unfold val_main_v14 row
  generalize hy : val_main_v10 (F := Ideal) z = y
  pointwise [val_main_v13, val_main_v12, val_main_v11]

theorem max_apply (b : Fin 16) (g : Fin 2) (e : Fin 4) (q : Fin 256) :
    val_main_v17 (F := Ideal) z w (ix4 b g e q) = Finset.univ.fold max ⊥ (row z w b g e q) :=
  max_of_rows z w b g e q _ (row_apply z w b g e q)

theorem exp_apply (b : Fin 16) (g : Fin 2) (e : Fin 4) (q : Fin 256) (k : Fin 257) :
    val_main_v21 (F := Ideal) z w (ix5 b g e q k) = Ideal.exp (row z w b g e q k - Finset.univ.fold max ⊥ (row z w b g e q)) := by
  unfold val_main_v21 val_main_v20 val_main_v19 val_main_v18
  pointwise [row_apply, max_apply]

theorem prob_apply (b : Fin 16) (g : Fin 2) (e : Fin 4) (q j : Fin 256) :
    val_main_v26 (F := Ideal) z w (ix5 b g e q j) =
      Ideal.div (Ideal.exp (row z w b g e q ⟨j.val, by omega⟩ - Finset.univ.fold max ⊥ (row z w b g e q)))
        (∑ k : Fin 257, Ideal.exp (row z w b g e q k - Finset.univ.fold max ⊥ (row z w b g e q))) := by
  have he : ∀ k : Fin 257, val_main_v21 (F := Ideal) z w (ix5 b g e q k) = Ideal.exp (row z w b g e q k - Finset.univ.fold max ⊥ (row z w b g e q)) := exp_apply z w b g e q
  unfold val_main_v26 val_main_v25 val_main_v24 val_main_v23 val_main_v22 val_main_cst_2
  revert he
  generalize val_main_v21 (F := Ideal) z w = y
  intro he
  pointwise [he]

theorem out_apply (b : Fin 16) (q : Fin 256) (g : Fin 2) (e : Fin 4) (d : Fin 64) :
    val_main_v30 (F := Ideal) z w (ix2 ⟨256 * b.val + q.val, by omega⟩ ⟨256 * g.val + 64 * e.val + d.val, by omega⟩) =
      ∑ j : Fin 256, z (ix2 ⟨256 * b.val + j.val, by omega⟩ ⟨6784 + (64 * g.val + d.val), by omega⟩) *
        Ideal.div (Ideal.exp (row z w b g e q ⟨j.val, by omega⟩ - Finset.univ.fold max ⊥ (row z w b g e q)))
        (∑ k : Fin 257, Ideal.exp (row z w b g e q k - Finset.univ.fold max ⊥ (row z w b g e q))) := by
  unfold val_main_v30 val_main_v29 val_main_v28 val_main_v27 val_main_v5 val_main_v4
  generalize hy : val_main_v26 (F := Ideal) z w = y
  pointwise
  subst hy
  refine Finset.sum_congr rfl fun j _ => congrArg₂ (· * ·) (congrArg z ?_) (prob_apply z w b g e q j)
  rw [ix2_inj]
  exact ⟨Fin.ext (by dsimp only; omega), Fin.ext (by dsimp only; omega)⟩

end Cert.CtxRefIdeal.Pt

end
-- ==== Proof.CtxEq.lean ====
/- The attention over the context: the kernel's array is the reference's. -/
module

public import proofs.«01_k».proof.Proof.CtxMath
public import proofs.«01_k».proof.Proof.CtxRef

@[expose] public section

set_option maxRecDepth 16384

noncomputable section

open Idealize.ShloMosaic Idealize.ShloMosaic.TcCoe Idealize.SL.Sem

namespace Cert.CtxEq

open Cert.CtxRefIdeal Cert.CtxRefIdeal.Read Cert.CtxRefIdeal.Pt Cert.CtxIdeal.Out Cert.CtxIdeal.Head Cert.CtxMath

variable (z : Vec Ideal S20480x7296 .f32) (w : Vec Ideal S8 .f32)

/-- The kernel's score of query `q` and key `j` in head `4 g + e` of sequence `b`. -/
def score (b : Fin 16) (g : Fin 2) (e : Fin 4) (q j : Fin 256) : EReal :=
  ∑ d : Fin 64, (z (ix2 ⟨256 * b.val + q.val, by omega⟩ ⟨6144 + (256 * g.val + 64 * e.val + d.val), by omega⟩) * Ideal.ofBits .f32 0x3E000000#32)
    * z (ix2 ⟨256 * b.val + j.val, by omega⟩ ⟨6656 + (64 * g.val + d.val), by omega⟩)

theorem G_apply (b : Fin 16) (g : Fin 2) (e : Fin 4) (q : Fin 256) (d : Fin 64) :
    G z w (ix2 ⟨256 * b.val + q.val, by omega⟩ ⟨256 * g.val + 64 * e.val + d.val, by omega⟩) =
      attn (score z b g e q) (fun j => z (ix2 ⟨256 * b.val + j.val, by omega⟩ ⟨6784 + (64 * g.val + d.val), by omega⟩)) (w (ix1 ⟨g.val * 4 + e.val, by omega⟩)) := by
  unfold G score
  refine congr (congr (congrArg attn (funext fun j => Finset.sum_congr rfl fun d' _ => congrArg₂ (· * ·) (congrArg (· * _) (congrArg z ?_)) (congrArg z ?_)))
    (funext fun j => congrArg z ?_)) (congrArg w ?_)
  all_goals
    simp only [ix2_0, ix2_1]
  · rw [ix2_inj]
    exact ⟨Fin.ext (by dsimp only), Fin.ext (by dsimp only; omega)⟩
  · rw [ix2_inj]
    exact ⟨Fin.ext (by dsimp only; omega), Fin.ext (by dsimp only; omega)⟩
  · rw [ix2_inj]
    exact ⟨Fin.ext (by dsimp only; omega), Fin.ext (by dsimp only; omega)⟩
  · exact congrArg ix1 (Fin.ext (by dsimp only; omega))

/-- The reference scales the sum, the kernel its queries. -/
theorem logits_eq (b : Fin 16) (g : Fin 2) (e : Fin 4) (q j : Fin 256) : val_main_v10 (F := Ideal) z (ix5 b g e q j) = score z b g e q j := by
  have h0 : (0 : EReal) ≤ Ideal.ofBits .f32 0x3E000000#32 := by
    rw [scale_bits]
    exact EReal.coe_nonneg.mpr (by norm_num)
  have ht : Ideal.ofBits .f32 0x3E000000#32 ≠ (⊤ : EReal) := by
    rw [scale_bits]
    exact EReal.coe_ne_top _
  rw [logits_apply, sum_mul_nonneg _ h0 ht]
  unfold score
  refine Finset.sum_congr rfl fun d _ => ?_
  generalize Ideal.ofBits .f32 0x3E000000#32 = c
  rw [mul_assoc, mul_comm]

/-- The scores are real where the queries and keys are. -/
theorem score_real (h : ∀ (r : Fin 4096) (k : Fin 640), ∃ x : ℝ, z (ix2 ⟨r.val, by omega⟩ ⟨6144 + k.val, by omega⟩) = x)
    (b : Fin 16) (g : Fin 2) (e : Fin 4) (q j : Fin 256) : ∃ x : ℝ, score z b g e q j = x := by
  choose y hy using h
  have hq : ∀ d : Fin 64, z (ix2 ⟨256 * b.val + q.val, by omega⟩ ⟨6144 + (256 * g.val + 64 * e.val + d.val), by omega⟩)
      = (y ⟨256 * b.val + q.val, by omega⟩ ⟨256 * g.val + 64 * e.val + d.val, by omega⟩ : EReal) := fun d =>
    hy ⟨256 * b.val + q.val, by omega⟩ ⟨256 * g.val + 64 * e.val + d.val, by omega⟩
  have hk : ∀ d : Fin 64, z (ix2 ⟨256 * b.val + j.val, by omega⟩ ⟨6656 + (64 * g.val + d.val), by omega⟩)
      = (y ⟨256 * b.val + j.val, by omega⟩ ⟨512 + (64 * g.val + d.val), by omega⟩ : EReal) := fun d => by
    rw [← hy ⟨256 * b.val + j.val, by omega⟩ ⟨512 + (64 * g.val + d.val), by omega⟩]
    refine congrArg z ?_
    rw [ix2_inj]
    exact ⟨rfl, Fin.ext (by dsimp only; omega)⟩
  unfold score
  simp only [hq, hk, scale_bits, ← EReal.coe_mul, ← coe_sum]
  exact ⟨_, rfl⟩

theorem eq (h : Cert.Pre_finite_logits.fn (F := Ideal) z w = fun _ => 1#1) : G z w = val_main_v30 (F := Ideal) z w := by
  obtain ⟨hz, hw⟩ := of_pre z w h
  funext i
  obtain ⟨b, q, g, e, d, rfl⟩ : ∃ (b : Fin 16) (q : Fin 256) (g : Fin 2) (e : Fin 4) (d : Fin 64),
      i = ix2 ⟨256 * b.val + q.val, by omega⟩ ⟨256 * g.val + 64 * e.val + d.val, by omega⟩ := by
    have h0 : (i 0).val < 4096 := (i 0).isLt
    have h1 : (i 1).val < 512 := (i 1).isLt
    refine ⟨⟨(i 0).val / 256, by omega⟩, ⟨(i 0).val % 256, by omega⟩, ⟨(i 1).val / 256, by omega⟩, ⟨(i 1).val / 64 % 4, by omega⟩, ⟨(i 1).val % 64, by omega⟩, ?_⟩
    exact (eq_ix2 i).trans (congrArg₂ ix2 (Fin.ext (by dsimp only; omega)) (Fin.ext (by dsimp only; omega)))
  choose s hs using fun j => score_real z hz b g e q j
  obtain ⟨u, hu⟩ := hw ⟨g.val * 4 + e.val, by omega⟩
  rw [G_apply, out_apply, (funext hs : score z b g e q = fun j => (s j : EReal)), hu]
  refine attn_eq (row z w b g e q) s _ u (fun j => ?_) ?_
  · unfold row
    rw [dif_pos j.isLt, logits_eq]
    exact hs j
  · unfold row
    rw [dif_neg (by dsimp only; omega)]
    exact hu

end Cert.CtxEq

end
-- ==== Proof.ProjOut.lean ====
/- What the normalized projection leaves in its output array, from the arrays it reads. -/
module

public import proofs.«01_k».proof.Proof.Gen.ProjIdeal.Value
public import Idealize.ShloMosaic.Lib.Pipeline.ValueKit
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Out

open Cert.ProjIdeal Cert.ProjIdeal.Gen Cert.ProjIdeal.Value

variable (m : (ℓ : Loc nD τ sig) → Buf (Elt Ideal) ℓ) (ρ : Dev nD → PrngReg)

/-- The rows a block of 512 normalizes and modulates, from the blocks of one grid point. -/
def rows (c : Dev nD) (t : Fin cfg0.N) : Vec Ideal S512x1024 .bf16 :=
  k0_pay1 (iblk m c 0 t) (iblk m c 2 t)
    (View.ld (iblk m c 1 t) (Rect.unit (s := S1x6x1024) ![0, 1, 0] S1x1x1024.size inb_S1x6x1024_S1x1x1024_0_1_0))
    (View.ld (iblk m c 1 t) (Rect.unit (s := S1x6x1024) ![0, 0, 0] S1x1x1024.size inb_S1x6x1024_S1x1x1024_0_0_0))

theorem first (c : Dev nD) (t : Fin cfg0.N) (h : t.val % 3 = 0) :
    outsAt0 m c t.val t.isLt = (k0_pay2 (rows m c t) (iblk m c 3 t), rows m c t) := by
  rw [outsAt0_A m c t h]
  frame_out
  rfl

theorem later (c : Dev nD) (t : Fin cfg0.N) (h : ¬t.val % 3 = 0) :
    outsAt0 m c t.val t.isLt = (k0_pay2 (outsAt0 m c (t.val - 1) (Nat.lt_of_le_of_lt (Nat.sub_le _ _) t.isLt)).2 (iblk m c 3 t),
      (outsAt0 m c (t.val - 1) (Nat.lt_of_le_of_lt (Nat.sub_le _ _) t.isLt)).2) := by
  rw [outsAt0_B m c t h]
  generalize (outsAt0 m c (t.val - 1) (Nat.lt_of_le_of_lt (Nat.sub_le _ _) t.isLt)).2 = acc
  frame_out
  refine Prod.ext (congrArg (fun x => k0_pay2 x (iblk m c 3 t)) ?_) rfl
  exact Memref.IsWhole.read_unread _ _

/-- The scratch holds, through the three column blocks of a row block, what the first of them wrote. -/
theorem held (c : Dev nD) (t : Fin cfg0.N) :
    (outsAt0 m c t.val t.isLt).2 = rows m c ⟨3 * (t.val / 3), Pipeline.run_start_lt t⟩ :=
  Pipeline.eq_of_write_hold (fun n h => (outsAt0 m c n h).2) 3 (rows m c)
    (fun t h => by rw [first m c t h]) (fun t h => by rw [later m c t h]) t

theorem outs_eq (c : Dev nD) (t : Fin cfg0.N) :
    (outsAt0 m c t.val t.isLt).1 = k0_pay2 (rows m c ⟨3 * (t.val / 3), Pipeline.run_start_lt t⟩) (iblk m c 3 t) := by
  rw [← held m c t]
  by_cases h : t.val % 3 = 0
  · rw [first m c t h]
  · rw [later m c t h]

/-- Where each window's block lies at a grid point. -/
theorem idx : ∀ t : Fin cfg0.N, win0_0.index t = ![t.val / 3, 0] ∧ win0_1.index t = ![if t.val / 3 < 8 then 0 else (t.val / 3 - 8) / 4 + 1, 0, 0]
    ∧ win0_2.index t = ![0, 0] ∧ win0_3.index t = ![0, t.val % 3] ∧ win0_4.index t = ![t.val / 3, t.val % 3] :=
  (by decide +kernel : ∀ t : Fin grid0.N, _)

theorem tlt (t : Fin cfg0.N) : t.val < 120 := lt_of_lt_of_eq t.isLt N_0

/-- The modulation row of a row of the stream: row 0 for the context, one row for each latent sequence of 2048. -/
def modRow (r : Fin 20480) : Fin 16 := ⟨if r.val < 4096 then 0 else (r.val - 4096) / 2048 + 1, by split <;> omega⟩

/-- One normalized and modulated entry. -/
def hid (x : Vec Ideal S20480x1024 .f32) (mo : Vec Ideal S16x6x1024 .f32) (g : Vec Ideal S1024 .f32) (r : Fin 20480) (k : Fin 1024) : EReal :=
  x (ix2 r k) * Ideal.rsqrt (Ideal.div (∑ l : Fin 1024, x (ix2 r l) * x (ix2 r l)) (Ideal.ofBits .f32 0x44800000#32) + Ideal.ofBits .f32 0x358637BD#32)
    * g (ix1 k) * (Ideal.ofBits .f32 0x3F800000#32 + mo (ix3 (modRow r) 1 k)) + mo (ix3 (modRow r) 0 k)

def G (x : Vec Ideal S20480x1024 .f32) (mo : Vec Ideal S16x6x1024 .f32) (g : Vec Ideal S1024 .f32) (w : Vec Ideal S1024x7296 .bf16) : Vec Ideal S20480x7296 .f32 :=
  fun i => ∑ k : Fin 1024, hid x mo g (i 0) k * w (ix2 k (i 1))

/-- The gain as the row the kernel reads. -/
theorem gain (c : Dev nD) : V m c main_v0 = shapeCast S1x1024 (m ((c : Thread nD τ).loc main_arg2)) shapeCasts_S1024_S1x1024 := by
  unfold_abbrev_sides
  after_results
  rfl

theorem rows_apply (c : Dev nD) (t : Fin cfg0.N) (r : Fin 512) (k : Fin 1024) :
    rows m c t (ix2 r k) = hid (m ((c : Thread nD τ).loc main_arg0)) (m ((c : Thread nD τ).loc main_arg1)) (m ((c : Thread nD τ).loc main_arg2))
      ⟨512 * (t.val / 3) + r.val, by have := tlt t; omega⟩ k := by
  have ht := tlt t
  have hx : ∀ l : Fin 1024, iblk m c 0 t (ix2 r l) = m ((c : Thread nD τ).loc main_arg0) (ix2 ⟨512 * (t.val / 3) + r.val, by have := tlt t; omega⟩ l) := fun l => by
    blk_ext [iblk, V, idx t]
  have hg : iblk m c 2 t (ix2 0 k) = m ((c : Thread nD τ).loc main_arg2) (ix1 k) := by
    have e : (win0_2.blk t).view.emb (ix2 0 k) = ix2 0 k := by
      blk_ext [idx t]
    refine (congrArg (V m c main_v0) e).trans ?_
    rw [gain]
    pointwise
  have hm : ∀ a : Fin 6, iblk m c 1 t (ix3 0 a k) = m ((c : Thread nD τ).loc main_arg1) (ix3 (modRow ⟨512 * (t.val / 3) + r.val, by omega⟩) a k) := fun a => by
    blk_ext [iblk, V, idx t]
    show _ = if 512 * (t.val / 3) + r.val < 4096 then 0 else (512 * (t.val / 3) + r.val - 4096) / 2048 + 1
    split_ifs <;> omega
  unfold rows k0_pay1
  generalize iblk m c 0 t = x at hx
  generalize iblk m c 1 t = mo at hm
  generalize iblk m c 2 t = g at hg
  unfold hid
  pointwise [hx, hg, hm]

theorem final (c : Dev nD) :
    (dats m 0 c).arrAt 4 cfg0.N = G (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4, outs_eq]
  obtain ⟨r, k, rfl⟩ : ∃ (r : Fin 512) (k : Fin 2432), y = ix2 r k := ⟨y 0, y 1, eq_ix2 y⟩
  have ht := tlt t
  have e : (win0_4.blk t).view.emb (ix2 r k) = ix2 ⟨512 * (t.val / 3) + r.val, by omega⟩ ⟨2432 * (t.val % 3) + k.val, by omega⟩ := by
    blk_ext [idx t]
  refine Eq.trans ?_ (congrArg (G _ _ _ _) e.symm)
  have hw : ∀ l : Fin 1024, iblk m c 3 t (ix2 l k) = m ((c : Thread nD τ).loc main_arg3) (ix2 l ⟨2432 * (t.val % 3) + k.val, by omega⟩) := fun l => by
    blk_ext [iblk, V, idx t]
  have hr := fun l => rows_apply m c ⟨3 * (t.val / 3), Pipeline.run_start_lt t⟩ r l
  generalize rows m c _ = ro at hr
  generalize iblk m c 3 t = w at hw
  have h1 : 3 * (t.val / 3) / 3 = t.val / 3 := by omega
  simp only [h1] at hr
  unfold k0_pay2 G
  pointwise [hr, hw]

end Cert.ProjIdeal.Out

end
-- ==== Proof.ProjRef.lean ====
/- The reference of the normalized projection, read at an index. -/
module

public import proofs.«01_k».proof.Proof.ProjOut
public import proofs.«01_k».proof.Proof.Gen.ProjRefIdeal.Run
public import proofs.«01_k».proof.Proof.Gen.ProjRefIdeal.Read

@[expose] public section

set_option maxRecDepth 16384

noncomputable section

open Idealize.ShloMosaic Idealize.ShloMosaic.TcCoe Idealize.SL.Sem

namespace Cert.ProjRefIdeal.Pt

open Cert.ProjRefIdeal Cert.ProjRefIdeal.Read Cert.ProjIdeal.Out

variable (x : Vec Ideal S20480x1024 .f32) (mo : Vec Ideal S16x6x1024 .f32) (g : Vec Ideal S1024 .f32) (w : Vec Ideal S1024x7296 .bf16)

theorem ctx_apply (b : Fin 16) (q : Fin 256) (k : Fin 1024) :
    val_main_v27 (F := Ideal) x mo g (ix3 b q k) = hid x mo g ⟨256 * b.val + q.val, by omega⟩ k := by
  have h0 : modRow ⟨256 * b.val + q.val, by omega⟩ = 0 := Fin.ext (if_pos (by dsimp only; omega))
  unfold hid
  rw [h0]
  pointwise [val_main_v27, val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2]
  have hr : (⟨b.val * 256 + q.val, by omega⟩ : Fin 20480) = ⟨256 * b.val + q.val, by omega⟩ := Fin.ext (by dsimp only; omega)
  simp only [hr]

theorem lat_apply (b : Fin 8) (q : Fin 2048) (k : Fin 1024) :
    val_main_v56 (F := Ideal) x mo g (ix3 b q k) = hid x mo g ⟨4096 + 2048 * b.val + q.val, by omega⟩ k := by
  have h0 : modRow ⟨4096 + 2048 * b.val + q.val, by omega⟩ = ⟨b.val + 1, by omega⟩ := Fin.ext ((if_neg (by dsimp only; omega)).trans (by dsimp only; omega))
  unfold hid
  rw [h0]
  pointwise [val_main_v56, val_main_v55, val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_v36, val_main_v35,
    val_main_v34, val_main_v33, val_main_v32, val_main_v31, val_main_v30, val_main_v29, val_main_cst_3, val_main_cst_4, val_main_cst_5, val_main_cst_6]
  have hr : (⟨4096 + (b.val * 2048 + q.val), by omega⟩ : Fin 20480) = ⟨4096 + 2048 * b.val + q.val, by omega⟩ := Fin.ext (by dsimp only; omega)
  have hb : (⟨1 + b.val, by omega⟩ : Fin 16) = ⟨b.val + 1, by omega⟩ := Fin.ext (by dsimp only; omega)
  simp only [hr, hb]

theorem rows_apply (r : Fin 20480) (k : Fin 1024) : val_main_v58 (F := Ideal) x mo g (ix2 r k) = hid x mo g r k := by
  unfold val_main_v58 val_main_v57 val_main_v28
  have hc := ctx_apply x mo g
  have hl := lat_apply x mo g
  generalize val_main_v27 (F := Ideal) x mo g = c at hc
  generalize val_main_v56 (F := Ideal) x mo g = l at hl
  pointwise
  split
  · rw [hc]
    exact congrArg (fun t => hid x mo g t k) (Fin.ext (by dsimp only; omega))
  · rw [hl]
    exact congrArg (fun t => hid x mo g t k) (Fin.ext (by dsimp only; omega))

theorem val_eq : val_main_v60 (F := Ideal) x mo g w = G x mo g w := by
  funext i
  obtain ⟨r, n, rfl⟩ : ∃ (r : Fin 20480) (n : Fin 7296), i = ix2 r n := ⟨i 0, i 1, eq_ix2 i⟩
  unfold val_main_v60 val_main_v59 G
  have h := rows_apply x mo g
  generalize val_main_v58 (F := Ideal) x mo g = y at h
  pointwise [h]

end Cert.ProjRefIdeal.Pt

end
-- ==== Proof.ResRun.lean ====
/- The kernel body of the projection with a residual at one grid point, on any staging buffers: at the first column block of
   a row block it stores the summed rows and their normalized, modulated form; at every column block it multiplies what the
   scratch holds with the weights. -/
module

public import proofs.«01_k».proof.Proof.Gen.ResIdeal.Skeleton
public import proofs.«01_k».proof.Proof.Gen.ResIdeal.Launch
public import Idealize.ShloMosaic.Lib.Pipeline.FrameBody
public import Idealize.ShloMosaic.Lib.Pipeline.ValueKit
public import Idealize.ShloMosaic.Lib.Ring
public import Idealize.ShloMosaic.Lib.VecWindow
public import Idealize.ShloMosaic.Lib.Tactic
public import Idealize.ShloMosaic.Lib.WordCmp

@[expose] public section

set_option maxRecDepth 16384
set_option maxHeartbeats 4000000

noncomputable section

namespace Cert.ResIdeal.Run

open Cert.ResIdeal Cert.ResIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row `a` of a block of modulation rows, for the three rows that the body reads. -/
abbrev row5 (x : Vec F S1x6x1024 .f32) : Vec F S1x1x1024 .f32 :=
  View.ld x (Rect.unit (s := S1x6x1024) ![0, 5, 0] S1x1x1024.size inb_S1x6x1024_S1x1x1024_0_5_0)
abbrev row1 (x : Vec F S1x6x1024 .f32) : Vec F S1x1x1024 .f32 :=
  View.ld x (Rect.unit (s := S1x6x1024) ![0, 1, 0] S1x1x1024.size inb_S1x6x1024_S1x1x1024_0_1_0)
abbrev row0 (x : Vec F S1x6x1024 .f32) : Vec F S1x1x1024 .f32 :=
  View.ld x (Rect.unit (s := S1x6x1024) ![0, 0, 0] S1x1x1024.size inb_S1x6x1024_S1x1x1024_0_0_0)

/-- The summed rows, and the rows normalized and modulated, from the blocks that the body reads them from. -/
def sums (x0 x1 : Vec F S512x1024 .f32) (x2 : Vec F S1x6x1024 .f32) : Vec F S512x1024 .f32 := k0_pay2 x0 (row5 x2) x1
def normed (x0 x1 : Vec F S512x1024 .f32) (x2 x3 : Vec F S1x6x1024 .f32) (x4 : Vec F S1x1024 .f32) : Vec F S512x1024 .bf16 :=
  k0_pay3 x0 (row5 x2) x1 x4 (row1 x3) (row0 x3)

/-- The first column block of a row block: the sums and the normalized rows are stored, then used. -/
theorem run_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x6x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x2432 .bf16) (harg7 : arg7.IsWhole) (arg8 : Memref sig .tc .vmem S512x2432 .f32) (harg8 : arg8.IsWhole) (arg9 : Memref sig .tc .vmem S512x1024 .f32) (harg9 : arg9.IsWhole) (arg10 : Memref sig .tc .vmem S512x1024 .bf16) (harg10 : arg10.IsWhole)
    (x0 : Vec F S512x1024 .f32) (x1 : Vec F S512x1024 .f32) (x2 : Vec F S1x6x1024 .f32) (x3 : Vec F S1x6x1024 .f32) (x4 : Vec F S1x1024 .f32) (x5 : Vec F S1024x2432 .bf16)
    (hc : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay1 (normed x0 x1 x2 x3 x4) x5) ∗ owns (c : Thread nD τ) arg9 fullShare (sums x0 x1 x2) ∗ owns (c : Thread nD τ) arg10 fullShare (normed x0 x1 x2 x3 x4)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro; refine (View.read_writes_full _ _ _ _ _).trans ?_
    frame_out
    rfl
  isplitl [H7]
  · iexists _; isplitr
    swap; · iexact H7
    ipureintro; refine (View.read_writes_full _ _ _ _ _).trans ?_
    frame_out
    rfl
  iexists _; isplitr
  swap; · iexact HS
  ipureintro; refine (View.read_writes_full _ _ _ _ _).trans ?_
  frame_out
  rfl

/-- A later column block: the normalized rows in the scratch are used as they are, the sums stay. -/
theorem run_later (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x6x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x2432 .bf16) (harg7 : arg7.IsWhole) (arg8 : Memref sig .tc .vmem S512x2432 .f32) (harg8 : arg8.IsWhole) (arg9 : Memref sig .tc .vmem S512x1024 .f32) (harg9 : arg9.IsWhole) (arg10 : Memref sig .tc .vmem S512x1024 .bf16) (harg10 : arg10.IsWhole)
    (x0 : Vec F S512x1024 .f32) (x1 : Vec F S512x1024 .f32) (x2 : Vec F S1x6x1024 .f32) (x3 : Vec F S1x6x1024 .f32) (x4 : Vec F S1x1024 .f32) (x5 : Vec F S1024x2432 .bf16) (y : Vec F S512x1024 .f32) (s0 : Vec F S512x1024 .bf16)
    (hc : ¬k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare y ∗ owns (c : Thread nD τ) arg10 fullShare s0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay1 s0 x5) ∗ owns (c : Thread nD τ) arg9 fullShare y ∗ owns (c : Thread nD τ) arg10 fullShare s0) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro; refine (View.read_writes_full _ _ _ _ _).trans ?_
    frame_out
  isplitl [H7]
  · iexists _; isplitr; · ipureintro; exact harg9.read_unread _
    iexact H7
  iexists _; isplitr; · ipureintro; exact harg10.read_unread _
  iexact HS

end Cert.ResIdeal.Run

end
-- ==== Proof.ResFrame.lean ====
/- The projection with a residual over its whole grid. The scratch and the block of summed rows are written at the first of
   the three column blocks of a row block and hold through the other two, so what each point leaves in the two output blocks
   is a function of the input blocks at that first point and of its own block of weights. From that: the call runs to the
   end, leaves its arguments as they were, and its output arrays are the blocks' results. -/
module

public import proofs.«01_k».proof.Proof.ResRun
public import proofs.«01_k».proof.Proof.Gen.ResIdeal.Frame
public import Idealize.ShloMosaic.Lib.Claim
public import Idealize.ShloMosaic.Lib.Pipeline.TableIdle

@[expose] public section

set_option maxRecDepth 16384

noncomputable section

namespace Cert.ResIdeal.Run

open Cert.ResIdeal Cert.ResIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (l : Loc nD τ sig) → Buf (Elt F) l) (ρ : Dev nD → PrngReg)

/-! ## The grid -/

theorem tlt (t : Fin cfg0.N) : t.val < 120 := lt_of_lt_of_eq t.isLt N_0

/-- The first column blocks are the points divisible by three. -/
theorem first_iff : ∀ t : Fin cfg0.N, k0_cond1 (grid0.coords t) = 1#1 ↔ t.val % 3 = 0 :=
  (by decide +kernel : ∀ t : Fin grid0.N, k0_cond1 (grid0.coords t) = 1#1 ↔ t.val % 3 = 0)

/-- The second output is left alone at the other points. -/
theorem idle7 (t : Fin cfg0.N) : cfg0.idle 7 (cfg0.grid.coords t) = !(k0_cond1 (grid0.coords t) == 1#1) := rfl
theorem idle7_first (t : Fin cfg0.N) (h : t.val % 3 = 0) : cfg0.idle 7 (cfg0.grid.coords t) = false := by
  rw [idle7, (first_iff t).mpr h]; rfl
theorem idle7_later (t : Fin cfg0.N) (h : ¬t.val % 3 = 0) : cfg0.idle 7 (cfg0.grid.coords t) = true := by
  rw [idle7, beq_eq_false_iff_ne.mpr fun e => h ((first_iff t).mp e)]; rfl

theorem flush7_not (t : Fin cfg0.N) (h : ¬t.val % 3 = 2) : (cfg0.win 7).flush t = false :=
  Bool.eq_false_iff.mpr fun e => h ((flush0_7 t).mp e)

/-- The point of the first column block of a point's row block. -/
def start (t : Fin cfg0.N) : Fin cfg0.N := ⟨t.val - t.val % 3, by omega⟩

theorem start_first (t : Fin cfg0.N) (h : t.val % 3 = 0) : start t = t := Fin.ext (by simp only [start]; omega)
theorem start_prev (t : Fin cfg0.N) (h : ¬t.val % 3 = 0) : start ⟨t.val - 1, by omega⟩ = start t := Fin.ext (by simp only [start]; omega)

/-! ## The blocks -/

/-- Each input's block at a point. -/
def blk0 (c : Dev nD) (t : Fin cfg0.N) : Vec F S512x1024 .f32 := iblk m c 0 t
def blk1 (c : Dev nD) (t : Fin cfg0.N) : Vec F S512x1024 .f32 := iblk m c 1 t
def blk2 (c : Dev nD) (t : Fin cfg0.N) : Vec F S1x6x1024 .f32 := iblk m c 2 t
def blk3 (c : Dev nD) (t : Fin cfg0.N) : Vec F S1x6x1024 .f32 := iblk m c 3 t
def blk4 (c : Dev nD) (t : Fin cfg0.N) : Vec F S1x1024 .f32 := iblk m c 4 t
def blk5 (c : Dev nD) (t : Fin cfg0.N) : Vec F S1024x2432 .bf16 := iblk m c 5 t

/-- The summed rows of a point's row block, and their normalized, modulated form. -/
def summed (c : Dev nD) (t : Fin cfg0.N) : Vec F S512x1024 .f32 := sums (blk0 m c (start t)) (blk1 m c (start t)) (blk2 m c (start t))
def normRows (c : Dev nD) (t : Fin cfg0.N) : Vec F S512x1024 .bf16 :=
  normed (blk0 m c (start t)) (blk1 m c (start t)) (blk2 m c (start t)) (blk3 m c (start t)) (blk4 m c (start t))

theorem summed_prev (c : Dev nD) (t : Fin cfg0.N) (h : ¬t.val % 3 = 0) : summed m c ⟨t.val - 1, by omega⟩ = summed m c t := by
  unfold summed; rw [start_prev t h]
theorem normRows_prev (c : Dev nD) (t : Fin cfg0.N) (h : ¬t.val % 3 = 0) : normRows m c ⟨t.val - 1, by omega⟩ = normRows m c t := by
  unfold normRows; rw [start_prev t h]

/-- The scratch buffer. -/
abbrev scr : Memref sig .tc .vmem S512x1024 .bf16 := Memref.whole cc0_scratch0

theorem scratch_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- Between points the scratch holds the normalized rows of the point just done; before the first, anything. -/
def Inv (c : Dev nD) : (n : ℕ) → n ≤ cfg0.N → sProp 𝕄
  | 0, _ => Pipeline.ΦA spec0 c
  | n + 1, hn => iprop(owns (c : Thread nD τ) scr fullShare (normRows m c ⟨n, hn⟩) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(owns (c : Thread nD τ) scr fullShare (normRows m c ⟨n, hn⟩) ∗ (∃ r, prngReg c r)) := rfl

theorem Inv_pos (c : Dev nD) (n : ℕ) (h : n ≤ cfg0.N) (hz : n ≠ 0) :
    Inv m c n h = iprop(owns (c : Thread nD τ) scr fullShare (normRows m c ⟨n - 1, by omega⟩) ∗ (∃ r, prngReg c r)) := by
  cases n with
  | zero => exact absurd rfl hz
  | succ n => rfl

/-- The scratch at any point, its contents forgotten. -/
theorem Inv_any (c : Dev nD) (n : ℕ) (h : n ≤ cfg0.N) : Inv m c n h ⊢ Pipeline.ΦA spec0 c := by
  by_cases hz : n = 0
  · rw [Inv_zero m c n h hz]
  · rw [Inv_pos m c n h hz, scratch_eq]
    iintro ⟨HS, Hg⟩
    isplitl [HS]; · iexists _; iexact HS
    iexact Hg

/-- The pipeline's data: inputs left at their blocks, the first output at the product, the second at the summed rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay1 (normRows m c t) (blk5 m c t)
    | ⟨7, _⟩ => summed m c t
  Φ t := Inv m c t.val (Nat.le_of_lt_succ t.isLt)
  q _ := fullShare
  owed _ := 0

theorem dats_A (c : Dev nD) (w : Fin cfg0.W) : (dats m 0 c).A w = V m c (Pipeline.arrRef spec0 w) := by
  dsimp only [dats]

theorem Inv_at (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay1 (normRows m c t) (blk5 m c t) := by dsimp only [dats]
theorem after7 (c : Dev nD) (t : Fin cfg0.N) : (dats m 0 c).after 7 t = summed m c t := by dsimp only [dats]

/-- An input's staging buffer holds its block when the body starts, whether fetched at that point or before. -/
theorem before0 (c : Dev nD) (t : Fin cfg0.N) (d) : (dats m 0 c).before 0 t d = blk0 m c t :=
  before0_0_of m (dats m 0 c) (dats_A m c 0) (after0 m c) t d
theorem before1 (c : Dev nD) (t : Fin cfg0.N) (d) : (dats m 0 c).before 1 t d = blk1 m c t :=
  before0_1_of m (dats m 0 c) (dats_A m c 1) (after1 m c) t d
theorem before2 (c : Dev nD) (t : Fin cfg0.N) (d) : (dats m 0 c).before 2 t d = blk2 m c t :=
  before0_2_of m (dats m 0 c) (dats_A m c 2) (after2 m c) t d
theorem before3 (c : Dev nD) (t : Fin cfg0.N) (d) : (dats m 0 c).before 3 t d = blk3 m c t :=
  before0_3_of m (dats m 0 c) (dats_A m c 3) (after3 m c) t d
theorem before4 (c : Dev nD) (t : Fin cfg0.N) (d) : (dats m 0 c).before 4 t d = blk4 m c t :=
  before0_4_of m (dats m 0 c) (dats_A m c 4) (after4 m c) t d
theorem before5 (c : Dev nD) (t : Fin cfg0.N) (d) : (dats m 0 c).before 5 t d = blk5 m c t :=
  before0_5_of m (dats m 0 c) (dats_A m c 5) (after5 m c) t d

/-- The second output's staging buffer holds, past the first column block, the summed rows stored there. -/
theorem before7 (c : Dev nD) (t : Fin cfg0.N) (h : ¬t.val % 3 = 0) (d) : (dats m 0 c).before 7 t d = summed m c t := by
  have ht := tlt t
  have hf : cfg0.fresh 7 t.val = false := by
    obtain ⟨n, hn⟩ := t
    obtain ⟨k, rfl⟩ : ∃ k, n = k + 1 := ⟨n - 1, by dsimp only at h; omega⟩
    dsimp only at h ⊢
    rw [Cfg.fresh_succ cfg0 7 k (by omega), flush7_not ⟨k, by omega⟩ (by dsimp only; omega), Bool.false_or]
    by_cases hk : k % 3 = 0
    · rw [idle7_first ⟨k, by omega⟩ hk, Bool.false_and]
    · obtain ⟨l, rfl⟩ : ∃ l, k = l + 1 := ⟨k - 1, by omega⟩
      rw [Cfg.fresh_succ cfg0 7 l (by omega), flush7_not ⟨l, by omega⟩ (by dsimp only; omega), idle7_first ⟨l, by omega⟩ (by dsimp only; omega)]
      simp only [Bool.false_and, Bool.or_false, Bool.and_false]
  refine ((dats m 0 c).before_out_traj 7 rfl (fun _ _ => rfl) (fun s hs hi _ => ?_) t.val t rfl d).trans ?_
  · rw [after7, after7]
    refine (summed_prev m c s fun e => ?_).symm
    rw [idle7_first s e] at hi
    exact Bool.false_ne_true hi
  · rw [hf, if_neg Bool.false_ne_true, after7, summed_prev m c t h]

/-! ## The body at a point -/

/-- What the body is called with, and what it hands back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body's triple at any point, in the pipeline's terms. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6, after7]
  rw [show (dats m 0 c).Φ t.succ = Inv m c (t.val + 1) t.isLt from rfl, Inv_succ, Inv_at m c t]
  by_cases h : t.val % 3 = 0
  · refine (sep_mono (Inv_any m c _ _) .rfl).trans ?_
    rw [scratch_eq]
    unfold summed normRows
    rw [show (⟨t.val, t.isLt⟩ : Fin cfg0.N) = t from rfl, start_first t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ (blk0 m c t) (blk1 m c t) (blk2 m c t) (blk3 m c t) (blk4 m c t) (blk5 m c t) ((first_iff t).mpr h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun e => h (by rw [e])
    simp only [before7 m c t h]
    rw [Inv_pos m c _ _ hz, normRows_prev m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (blk0 m c t) (blk1 m c t) (blk2 m c t) (blk3 m c t) (blk4 m c t) (blk5 m c t) (summed m c t) (normRows m c t) (fun e => h ((first_iff t).mp e)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_row (t : Fin cfg0.N) : defs₀ (F := F) .tc cfg0.body (cfg0.bodyArgs t (cfg0.slots t)) = bodyAt0 t := by
  unfold defs₀; rw [Defs.onTc_tc]

/-- The pipeline's obligation. Where the second output is left alone and not written back, its buffer is handed back as it
    was found, which is at the summed rows too. -/
theorem body_obligation (c : Dev nD) : BodyObligation (dats (F := F) m 0 c) (defs₀ (F := F)) Variants.none () Set.univ := fun t => by
  rw [bigSep_W0, bigSep_W0, body_row]
  refine triple_restated (body_sound m c t) rfl .rfl fun _ => ?_
  unfold bodyPost
  refine sep_mono .rfl (sep_mono .rfl (sep_mono .rfl (sep_mono .rfl (sep_mono .rfl (sep_mono .rfl (sep_mono .rfl (sep_mono .rfl (sep_mono .rfl ?_))))))))
  dsimp only
  by_cases h : t.val % 3 = 0
  · rw [show idle0 7 (grid0.coords t) = false from idle7_first t h]
  · rw [show idle0 7 (grid0.coords t) = true from idle7_later t h]
    dsimp only
    split
    · simp only [before7 m c t h, after7]
      iintro H
      iexists (summed m c t)
      iexact H
    · exact .rfl

theorem enter (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem leave (c : Dev nD) : (dats m 0 c).Φ (Fin.last cfg0.N) ⊢ Pipeline.ΦA spec0 c :=
  Inv_any m c cfg0.N (Nat.le_refl _)

/-! ## The run -/

-- the launch theorem's implicit arguments are found through plain definitions
set_option backward.isDefEq.respectTransparency.types false in
/-- Every execution ends with the arrays at what the blocks' results make of them, and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hin := enter m) (hout := leave m)

/-- The arguments are left as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (dats_A m) ((θ_run defs _ _).mono (fun _ h => h.1) (run_all m ρ))

/-- The arguments are left as they were, and no counter is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_all m ρ))

end Cert.ResIdeal.Run

end
-- ==== Proof.ResOut.lean ====
/- What the projection with a residual leaves in its two output arrays, from the arrays it reads. -/
module

public import proofs.«01_k».proof.Proof.ResFrame
public import Idealize.ShloMosaic.Lib.Pipeline.ValueKit
public import Idealize.ShloMosaic.Lib.Pipeline.ValueKit.Held
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ResIdeal.Out

open Cert.ResIdeal Cert.ResIdeal.Gen Cert.ResIdeal.Run

variable (m : (ℓ : Loc nD τ sig) → Buf (Elt Ideal) ℓ) (ρ : Dev nD → PrngReg)

/-- Where each window's block lies at a grid point. -/
theorem idx : ∀ t : Fin cfg0.N, win0_0.index t = ![t.val / 3, 0] ∧ win0_1.index t = ![t.val / 3, 0]
    ∧ win0_2.index t = ![if t.val / 3 < 8 then 0 else (t.val / 3 - 8) / 4 + 1, 0, 0]
    ∧ win0_3.index t = ![if t.val / 3 < 8 then 0 else (t.val / 3 - 8) / 4 + 1, 0, 0]
    ∧ win0_4.index t = ![0, 0] ∧ win0_5.index t = ![0, t.val % 3] ∧ win0_6.index t = ![t.val / 3, t.val % 3] ∧ win0_7.index t = ![t.val / 3, 0] :=
  (by decide +kernel : ∀ t : Fin grid0.N, _)

/-- The modulation row of a row of the stream: row 0 for the context, one row for each latent sequence of 2048. -/
def modRow (r : Fin 20480) : Fin 16 := ⟨if r.val < 4096 then 0 else (r.val - 4096) / 2048 + 1, by split <;> omega⟩

variable (x y : Vec Ideal S20480x1024 .f32) (mp mo : Vec Ideal S16x6x1024 .f32) (g : Vec Ideal S1024 .f32) (w : Vec Ideal S1024x7296 .bf16)

/-- One entry of the residual stream: the entry before, and the experts' output times its gate. -/
def res (r : Fin 20480) (k : Fin 1024) : EReal := x (ix2 r k) + mp (ix3 (modRow r) 5 k) * y (ix2 r k)

/-- One normalized and modulated entry. -/
def hid (r : Fin 20480) (k : Fin 1024) : EReal :=
  res x y mp r k * Ideal.rsqrt (Ideal.div (∑ l : Fin 1024, res x y mp r l * res x y mp r l) (Ideal.ofBits .f32 0x44800000#32) + Ideal.ofBits .f32 0x358637BD#32)
    * g (ix1 k) * (Ideal.ofBits .f32 0x3F800000#32 + mo (ix3 (modRow r) 1 k)) + mo (ix3 (modRow r) 0 k)

/-- The two results: the residual stream, and the projection. -/
def GX : Vec Ideal S20480x1024 .f32 := fun i => res x y mp (i 0) (i 1)
def GZ : Vec Ideal S20480x7296 .f32 := fun i => ∑ k : Fin 1024, hid x y mp mo g (i 0) k * w (ix2 k (i 1))

/-- The gain as the row the kernel reads. -/
theorem gain (c : Dev nD) : V m c main_v0 = shapeCast S1x1024 (m ((c : Thread nD τ).loc main_arg4)) shapeCasts_S1024_S1x1024 := by
  unfold_abbrev_sides
  after_results
  rfl

/-- The row of the arrays at row `r` of the blocks of a point. -/
abbrev rowOf (t : Fin cfg0.N) (r : Fin 512) : Fin 20480 := ⟨512 * (t.val / 3) + r.val, by have := tlt t; omega⟩

theorem blk0_at (c : Dev nD) (t : Fin cfg0.N) (r : Fin 512) (k : Fin 1024) : blk0 m c t (ix2 r k) = m ((c : Thread nD τ).loc main_arg0) (ix2 (rowOf t r) k) := by
  have ht := tlt t
  blk_ext [blk0, iblk, V, idx t]

theorem blk1_at (c : Dev nD) (t : Fin cfg0.N) (r : Fin 512) (k : Fin 1024) : blk1 m c t (ix2 r k) = m ((c : Thread nD τ).loc main_arg1) (ix2 (rowOf t r) k) := by
  have ht := tlt t
  blk_ext [blk1, iblk, V, idx t]

theorem blk2_at (c : Dev nD) (t : Fin cfg0.N) (r : Fin 512) (a : Fin 6) (k : Fin 1024) :
    blk2 m c t (ix3 0 a k) = m ((c : Thread nD τ).loc main_arg2) (ix3 (modRow (rowOf t r)) a k) := by
  have ht := tlt t
  blk_ext [blk2, iblk, V, idx t]
  show _ = if 512 * (t.val / 3) + r.val < 4096 then 0 else (512 * (t.val / 3) + r.val - 4096) / 2048 + 1
  split_ifs <;> omega

theorem blk3_at (c : Dev nD) (t : Fin cfg0.N) (r : Fin 512) (a : Fin 6) (k : Fin 1024) :
    blk3 m c t (ix3 0 a k) = m ((c : Thread nD τ).loc main_arg3) (ix3 (modRow (rowOf t r)) a k) := by
  have ht := tlt t
  blk_ext [blk3, iblk, V, idx t]
  show _ = if 512 * (t.val / 3) + r.val < 4096 then 0 else (512 * (t.val / 3) + r.val - 4096) / 2048 + 1
  split_ifs <;> omega

theorem blk4_at (c : Dev nD) (t : Fin cfg0.N) (k : Fin 1024) : blk4 m c t (ix2 0 k) = m ((c : Thread nD τ).loc main_arg4) (ix1 k) := by
  have e : (win0_4.blk t).view.emb (ix2 0 k) = ix2 0 k := by
    blk_ext [idx t]
  refine (congrArg (V m c main_v0) e).trans ?_
  rw [gain]
  pointwise

theorem blk5_at (c : Dev nD) (t : Fin cfg0.N) (l : Fin 1024) (k : Fin 2432) :
    blk5 m c t (ix2 l k) = m ((c : Thread nD τ).loc main_arg5) (ix2 l ⟨2432 * (t.val % 3) + k.val, by omega⟩) := by
  have ht := tlt t
  blk_ext [blk5, iblk, V, idx t]

/-- The first point of a row block reads the same rows. -/
theorem rowOf_start (t : Fin cfg0.N) (r : Fin 512) : rowOf (start t) r = rowOf t r :=
  Fin.ext (by dsimp only [rowOf, start]; omega)

theorem summed_at (c : Dev nD) (t : Fin cfg0.N) (r : Fin 512) (k : Fin 1024) :
    summed m c t (ix2 r k) = res (m ((c : Thread nD τ).loc main_arg0)) (m ((c : Thread nD τ).loc main_arg1)) (m ((c : Thread nD τ).loc main_arg2)) (rowOf t r) k := by
  have h0 := blk0_at m c (start t) r
  have h1 := blk1_at m c (start t) r
  have h2 := blk2_at m c (start t) r
  rw [rowOf_start] at h0 h1 h2
  unfold summed sums k0_pay2 res
  generalize blk0 m c (start t) = b0 at h0
  generalize blk1 m c (start t) = b1 at h1
  generalize blk2 m c (start t) = b2 at h2
  pointwise [row5, h0, h1, h2]

theorem normRows_at (c : Dev nD) (t : Fin cfg0.N) (r : Fin 512) (k : Fin 1024) :
    normRows m c t (ix2 r k) = hid (m ((c : Thread nD τ).loc main_arg0)) (m ((c : Thread nD τ).loc main_arg1)) (m ((c : Thread nD τ).loc main_arg2))
      (m ((c : Thread nD τ).loc main_arg3)) (m ((c : Thread nD τ).loc main_arg4)) (rowOf t r) k := by
  have hs := summed_at m c t r
  have h3 := blk3_at m c (start t) r
  have h4 := blk4_at m c (start t)
  rw [rowOf_start] at h3
  unfold summed sums at hs
  unfold normRows normed k0_pay3 hid
  generalize k0_pay2 (blk0 m c (start t)) (row5 (blk2 m c (start t))) (blk1 m c (start t)) = s at hs
  generalize blk3 m c (start t) = b3 at h3
  generalize blk4 m c (start t) = b4 at h4
  pointwise [row0, row1, hs, h3, h4]

/-- The second result, and the first. -/
theorem final7 (c : Dev nD) :
    (dats m 0 c).arrAt 7 cfg0.N = GX (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after7]
  obtain ⟨r, k, rfl⟩ : ∃ (r : Fin 512) (k : Fin 1024), y = ix2 r k := ⟨y 0, y 1, eq_ix2 y⟩
  have ht := tlt t
  have e : (win0_7.blk t).view.emb (ix2 r k) = ix2 (rowOf t r) k := by
    blk_ext [idx t]
  exact (summed_at m c t r k).trans (congrArg (GX _ _ _) e.symm)

theorem final6 (c : Dev nD) :
    (dats m 0 c).arrAt 6 cfg0.N = GZ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after6]
  obtain ⟨r, k, rfl⟩ : ∃ (r : Fin 512) (k : Fin 2432), y = ix2 r k := ⟨y 0, y 1, eq_ix2 y⟩
  have ht := tlt t
  have e : (win0_6.blk t).view.emb (ix2 r k) = ix2 (rowOf t r) ⟨2432 * (t.val % 3) + k.val, by omega⟩ := by
    blk_ext [idx t]
  refine Eq.trans ?_ (congrArg (GZ _ _ _ _ _ _) e.symm)
  have hw := fun l => blk5_at m c t l k
  have hr := normRows_at m c t r
  generalize normRows m c t = ro at hr
  generalize blk5 m c t = b5 at hw
  unfold k0_pay1 GZ
  pointwise [hr, hw]

/-- The run's results and its arguments. -/
theorem run_value : θ_run defs (onTc (τ := τ) (main (F := Ideal))) ⟨m, fun _ => 0, ρ⟩ (fun r => ∀ c : Dev nD,
      r.2.mem ((c.tc : Thread nD τ).loc main_v1_0) = GZ (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v1_1) = GX (m ((c.tc : Thread nD τ).loc main_arg0)) (m ((c.tc : Thread nD τ).loc main_arg1)) (m ((c.tc : Thread nD τ).loc main_arg2))) :=
  (θ_run defs _ _).mono (fun r h c => ⟨((h.1 c).1 6).trans (final6 m c), ((h.1 c).1 7).trans (final7 m c)⟩) (run_all m ρ)

end Cert.ResIdeal.Out

end
-- ==== Proof.ResRef.lean ====
/- The reference of the projection with a residual, read at an index. -/
module

public import proofs.«01_k».proof.Proof.ResOut
public import proofs.«01_k».proof.Proof.Gen.ResRefIdeal.Run
public import proofs.«01_k».proof.Proof.Gen.ResRefIdeal.Read

@[expose] public section

set_option maxRecDepth 16384

noncomputable section

open Idealize.ShloMosaic Idealize.ShloMosaic.TcCoe Idealize.SL.Sem

namespace Cert.ResRefIdeal.Pt

open Cert.ResRefIdeal Cert.ResRefIdeal.Read Cert.ResIdeal.Out

variable (x y : Vec Ideal S20480x1024 .f32) (mp mo : Vec Ideal S16x6x1024 .f32) (g : Vec Ideal S1024 .f32) (w : Vec Ideal S1024x7296 .bf16)

/-- The row of the stream at row `q` of sequence `b`, of the context and of the latents, and its modulation row. -/
abbrev ctxRow (b : Fin 16) (q : Fin 256) : Fin 20480 := ⟨256 * b.val + q.val, by omega⟩
abbrev latRow (b : Fin 8) (q : Fin 2048) : Fin 20480 := ⟨4096 + 2048 * b.val + q.val, by omega⟩

theorem modRow_ctx (b : Fin 16) (q : Fin 256) : modRow (ctxRow b q) = 0 := Fin.ext (if_pos (by dsimp only; omega))
theorem modRow_lat (b : Fin 8) (q : Fin 2048) : modRow (latRow b q) = ⟨b.val + 1, by omega⟩ :=
  Fin.ext ((if_neg (by dsimp only; omega)).trans (by dsimp only; omega))

theorem ctx_res (b : Fin 16) (q : Fin 256) (k : Fin 1024) : val_main_v11 (F := Ideal) x y mp (ix3 b q k) = res x y mp (ctxRow b q) k := by
  unfold res
  rw [modRow_ctx]
  pointwise [val_main_v11, val_main_v10, val_main_v9, val_main_v8, val_main_v7, val_main_v6, val_main_v4, val_main_v3, val_main_v2, val_main_v1, val_main_v0]
  have hr : (⟨b.val * 256 + q.val, by omega⟩ : Fin 20480) = ctxRow b q := Fin.ext (by dsimp only; omega)
  simp only [hr]

theorem lat_res (b : Fin 8) (q : Fin 2048) (k : Fin 1024) : val_main_v50 (F := Ideal) x y mp (ix3 b q k) = res x y mp (latRow b q) k := by
  unfold res
  rw [modRow_lat]
  pointwise [val_main_v50, val_main_v49, val_main_v48, val_main_v47, val_main_v46, val_main_v45, val_main_v43, val_main_v42, val_main_v41, val_main_v40, val_main_v39]
  have hr : (⟨4096 + (b.val * 2048 + q.val), by omega⟩ : Fin 20480) = latRow b q := Fin.ext (by dsimp only; omega)
  have hb : (⟨1 + b.val, by omega⟩ : Fin 16) = ⟨b.val + 1, by omega⟩ := Fin.ext (by dsimp only; omega)
  simp only [hr, hb]

theorem ctx_hid (b : Fin 16) (q : Fin 256) (k : Fin 1024) : val_main_v36 (F := Ideal) x y mp mo g (ix3 b q k) = hid x y mp mo g (ctxRow b q) k := by
  have h := ctx_res x y mp b q
  unfold hid
  rw [modRow_ctx]
  unfold val_main_v36 val_main_v34 val_main_v30 val_main_v27 val_main_v26 val_main_v25 val_main_v24 val_main_v22 val_main_v20 val_main_v19 val_main_v18
  generalize val_main_v11 (F := Ideal) x y mp = s at h
  pointwise [h, val_main_v35, val_main_v33, val_main_v32, val_main_v31, val_main_v29, val_main_v28, val_main_v23, val_main_v21, val_main_v17, val_main_v16,
    val_main_v15, val_main_v14, val_main_v13, val_main_v12, val_main_v5, val_main_cst, val_main_cst_0, val_main_cst_1, val_main_cst_2]

theorem lat_hid (b : Fin 8) (q : Fin 2048) (k : Fin 1024) : val_main_v75 (F := Ideal) x y mp mo g (ix3 b q k) = hid x y mp mo g (latRow b q) k := by
  have h := lat_res x y mp b q
  unfold hid
  rw [modRow_lat]
  unfold val_main_v75 val_main_v73 val_main_v69 val_main_v66 val_main_v65 val_main_v64 val_main_v63 val_main_v61 val_main_v59 val_main_v58 val_main_v57
  generalize val_main_v50 (F := Ideal) x y mp = s at h
  pointwise [h, val_main_v74, val_main_v72, val_main_v71, val_main_v70, val_main_v68, val_main_v67, val_main_v62, val_main_v60, val_main_v56, val_main_v55,
    val_main_v54, val_main_v53, val_main_v52, val_main_v51, val_main_v44, val_main_cst_3, val_main_cst_4, val_main_cst_5, val_main_cst_6]
  have hb : (⟨1 + b.val, by omega⟩ : Fin 16) = ⟨b.val + 1, by omega⟩ := Fin.ext (by dsimp only; omega)
  simp only [hb]

theorem rows_res (r : Fin 20480) (k : Fin 1024) : val_main_v81 (F := Ideal) x y mp (ix2 r k) = res x y mp r k := by
  unfold val_main_v81 val_main_v76 val_main_v37
  have hc := ctx_res x y mp
  have hl := lat_res x y mp
  generalize val_main_v11 (F := Ideal) x y mp = c at hc
  generalize val_main_v50 (F := Ideal) x y mp = l at hl
  pointwise
  split
  · rw [hc]
    exact congrArg (fun t => res x y mp t k) (Fin.ext (by dsimp only; omega))
  · rw [hl]
    exact congrArg (fun t => res x y mp t k) (Fin.ext (by dsimp only; omega))

theorem rows_hid (r : Fin 20480) (k : Fin 1024) : val_main_v78 (F := Ideal) x y mp mo g (ix2 r k) = hid x y mp mo g r k := by
  unfold val_main_v78 val_main_v77 val_main_v38
  have hc := ctx_hid x y mp mo g
  have hl := lat_hid x y mp mo g
  generalize val_main_v36 (F := Ideal) x y mp mo g = c at hc
  generalize val_main_v75 (F := Ideal) x y mp mo g = l at hl
  pointwise
  split
  · rw [hc]
    exact congrArg (fun t => hid x y mp mo g t k) (Fin.ext (by dsimp only; omega))
  · rw [hl]
    exact congrArg (fun t => hid x y mp mo g t k) (Fin.ext (by dsimp only; omega))

/-- The two results. -/
theorem stream_eq : val_main_v81 (F := Ideal) x y mp = GX x y mp := by
  funext i
  obtain ⟨r, k, rfl⟩ : ∃ (r : Fin 20480) (k : Fin 1024), i = ix2 r k := ⟨i 0, i 1, eq_ix2 i⟩
  exact rows_res x y mp r k

theorem product_eq : val_main_v80 (F := Ideal) x y mp mo g w = GZ x y mp mo g w := by
  funext i
  obtain ⟨r, n, rfl⟩ : ∃ (r : Fin 20480) (n : Fin 7296), i = ix2 r n := ⟨i 0, i 1, eq_ix2 i⟩
  unfold val_main_v80 val_main_v79 GZ
  have h := rows_hid x y mp mo g
  generalize val_main_v78 (F := Ideal) x y mp mo g = s at h
  pointwise [h]

end Cert.ResRefIdeal.Pt

end
-- ==== Proof.LastOut.lean ====
/- What the last norm leaves in its output array, from the arrays it reads. -/
module

public import proofs.«01_k».proof.Proof.Gen.LastIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LastIdeal.Out

open Cert.LastIdeal Cert.LastIdeal.Gen Cert.LastIdeal.Value

variable (m : (ℓ : Loc nD τ sig) → Buf (Elt Ideal) ℓ) (ρ : Dev nD → PrngReg)

/-- Where each window's block lies at a grid point. -/
theorem idx : ∀ t : Fin cfg0.N, win0_0.index t = ![t.val, 0] ∧ win0_1.index t = ![t.val, 0] ∧ win0_2.index t = ![if t.val < 8 then 0 else (t.val - 8) / 4 + 1, 0, 0]
    ∧ win0_3.index t = ![0, 0] ∧ win0_4.index t = ![t.val, 0] :=
  (by decide +kernel : ∀ t : Fin grid0.N, _)

theorem tlt (t : Fin cfg0.N) : t.val < 40 := lt_of_lt_of_eq t.isLt N_0

/-- The modulation row of a row of the stream: row 0 for the context, one row for each latent sequence of 2048. -/
def modRow (r : Fin 20480) : Fin 16 := ⟨if r.val < 4096 then 0 else (r.val - 4096) / 2048 + 1, by split <;> omega⟩

/-- One entry of the stream with the experts' output added. -/
def res (x y : Vec Ideal S20480x1024 .f32) (mo : Vec Ideal S16x6x1024 .f32) (r : Fin 20480) (k : Fin 1024) : EReal :=
  x (ix2 r k) + mo (ix3 (modRow r) 5 k) * y (ix2 r k)

/-- One normalized entry, and the whole array. -/
def out (x y : Vec Ideal S20480x1024 .f32) (mo : Vec Ideal S16x6x1024 .f32) (g : Vec Ideal S1024 .f32) (r : Fin 20480) (k : Fin 1024) : EReal :=
  res x y mo r k * Ideal.rsqrt (Ideal.div (∑ l : Fin 1024, res x y mo r l * res x y mo r l) (Ideal.ofBits .f32 0x44800000#32) + Ideal.ofBits .f32 0x358637BD#32) * g (ix1 k)

def G (x y : Vec Ideal S20480x1024 .f32) (mo : Vec Ideal S16x6x1024 .f32) (g : Vec Ideal S1024 .f32) : Vec Ideal S20480x1024 .f32 :=
  fun i => out x y mo g (i 0) (i 1)

/-- The gain as the row the kernel reads. -/
theorem gain (c : Dev nD) : V m c main_v0 = shapeCast S1x1024 (m ((c : Thread nD τ).loc main_arg3)) shapeCasts_S1024_S1x1024 := by
  unfold_abbrev_sides
  after_results
  rfl

theorem final (c : Dev nD) :
    (dats m 0 c).arrAt 4 cfg0.N = G (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  frame_out
  obtain ⟨r, k, rfl⟩ : ∃ (r : Fin 512) (k : Fin 1024), y = ix2 r k := ⟨y 0, y 1, eq_ix2 y⟩
  have ht := tlt t
  have e : (win0_4.blk t).view.emb (ix2 r k) = ix2 ⟨512 * t.val + r.val, by omega⟩ k := by
    blk_ext [idx t]
  refine Eq.trans ?_ (congrArg (G _ _ _ _) e.symm)
  have h0 : ∀ l : Fin 1024, iblk m c 0 t (ix2 r l) = m ((c : Thread nD τ).loc main_arg0) (ix2 ⟨512 * t.val + r.val, by omega⟩ l) := fun l => by
    blk_ext [iblk, V, idx t]
  have h1 : ∀ l : Fin 1024, iblk m c 1 t (ix2 r l) = m ((c : Thread nD τ).loc main_arg1) (ix2 ⟨512 * t.val + r.val, by omega⟩ l) := fun l => by
    blk_ext [iblk, V, idx t]
  have h2 : ∀ (a : Fin 6) (l : Fin 1024), iblk m c 2 t (ix3 0 a l) = m ((c : Thread nD τ).loc main_arg2) (ix3 (modRow ⟨512 * t.val + r.val, by omega⟩) a l) := fun a l => by
    blk_ext [iblk, V, idx t]
    show _ = if 512 * t.val + r.val < 4096 then 0 else (512 * t.val + r.val - 4096) / 2048 + 1
    split_ifs <;> omega
  have h3 : iblk m c 3 t (ix2 0 k) = m ((c : Thread nD τ).loc main_arg3) (ix1 k) := by
    have e : (win0_3.blk t).view.emb (ix2 0 k) = ix2 0 k := by
      blk_ext [idx t]
    refine (congrArg (V m c main_v0) e).trans ?_
    rw [gain]
    pointwise
  unfold k0_pay1 G out res
  generalize iblk m c 0 t = b0 at h0
  generalize iblk m c 1 t = b1 at h1
  generalize iblk m c 2 t = b2 at h2
  generalize iblk m c 3 t = b3 at h3
  pointwise [h0, h1, h2, h3]

end Cert.LastIdeal.Out

end
-- ==== Proof.LastRef.lean ====
/- The reference of the last norm, read at an index. -/
module

public import proofs.«01_k».proof.Proof.LastOut
public import proofs.«01_k».proof.Proof.Gen.LastRefIdeal.Run
public import proofs.«01_k».proof.Proof.Gen.LastRefIdeal.Read

@[expose] public section

set_option maxRecDepth 16384

noncomputable section

open Idealize.ShloMosaic Idealize.ShloMosaic.TcCoe Idealize.SL.Sem

namespace Cert.LastRefIdeal.Pt

open Cert.LastRefIdeal Cert.LastRefIdeal.Read Cert.LastIdeal.Out

variable (x y : Vec Ideal S20480x1024 .f32) (mo : Vec Ideal S16x6x1024 .f32) (g : Vec Ideal S1024 .f32)

/-- The row of the stream at row `q` of sequence `b`, of the context and of the latents, and its modulation row. -/
abbrev ctxRow (b : Fin 16) (q : Fin 256) : Fin 20480 := ⟨256 * b.val + q.val, by omega⟩
abbrev latRow (b : Fin 8) (q : Fin 2048) : Fin 20480 := ⟨4096 + 2048 * b.val + q.val, by omega⟩

theorem modRow_ctx (b : Fin 16) (q : Fin 256) : modRow (ctxRow b q) = 0 := Fin.ext (if_pos (by dsimp only; omega))
theorem modRow_lat (b : Fin 8) (q : Fin 2048) : modRow (latRow b q) = ⟨b.val + 1, by omega⟩ :=
  Fin.ext ((if_neg (by dsimp only; omega)).trans (by dsimp only; omega))

theorem ctx_res (b : Fin 16) (q : Fin 256) (k : Fin 1024) : val_main_v10 (F := Ideal) x y mo (ix3 b q k) = res x y mo (ctxRow b q) k := by
  unfold res
  rw [modRow_ctx]
  pointwise [val_main_v10, val_main_v9, val_main_v8, val_main_v7, val_main_v6, val_main_v5, val_main_v4, val_main_v3, val_main_v2, val_main_v1, val_main_v0]
  have hr : (⟨b.val * 256 + q.val, by omega⟩ : Fin 20480) = ctxRow b q := Fin.ext (by dsimp only; omega)
  simp only [hr]

theorem lat_res (b : Fin 8) (q : Fin 2048) (k : Fin 1024) : val_main_v35 (F := Ideal) x y mo (ix3 b q k) = res x y mo (latRow b q) k := by
  unfold res
  rw [modRow_lat]
  pointwise [val_main_v35, val_main_v34, val_main_v33, val_main_v32, val_main_v31, val_main_v30, val_main_v29, val_main_v28, val_main_v27, val_main_v26, val_main_v25]
  have hr : (⟨4096 + (b.val * 2048 + q.val), by omega⟩ : Fin 20480) = latRow b q := Fin.ext (by dsimp only; omega)
  have hb : (⟨1 + b.val, by omega⟩ : Fin 16) = ⟨b.val + 1, by omega⟩ := Fin.ext (by dsimp only; omega)
  simp only [hr, hb]

theorem ctx_out (b : Fin 16) (q : Fin 256) (k : Fin 1024) : val_main_v23 (F := Ideal) x y mo g (ix3 b q k) = out x y mo g (ctxRow b q) k := by
  have h := ctx_res x y mo b q
  unfold out
  unfold val_main_v23 val_main_v20 val_main_v19 val_main_v18 val_main_v17 val_main_v15 val_main_v13 val_main_v12 val_main_v11
  generalize val_main_v10 (F := Ideal) x y mo = s at h
  pointwise [h, val_main_v22, val_main_v21, val_main_v16, val_main_v14, val_main_cst, val_main_cst_0, val_main_cst_1]

theorem lat_out (b : Fin 8) (q : Fin 2048) (k : Fin 1024) : val_main_v48 (F := Ideal) x y mo g (ix3 b q k) = out x y mo g (latRow b q) k := by
  have h := lat_res x y mo b q
  unfold out
  unfold val_main_v48 val_main_v45 val_main_v44 val_main_v43 val_main_v42 val_main_v40 val_main_v38 val_main_v37 val_main_v36
  generalize val_main_v35 (F := Ideal) x y mo = s at h
  pointwise [h, val_main_v47, val_main_v46, val_main_v41, val_main_v39, val_main_cst_2, val_main_cst_3, val_main_cst_4]

/-- The result. -/
theorem val_eq : val_main_v50 (F := Ideal) x y mo g = G x y mo g := by
  funext i
  obtain ⟨r, k, rfl⟩ : ∃ (r : Fin 20480) (k : Fin 1024), i = ix2 r k := ⟨i 0, i 1, eq_ix2 i⟩
  unfold val_main_v50 val_main_v49 val_main_v24 G
  have hc := ctx_out x y mo g
  have hl := lat_out x y mo g
  generalize val_main_v23 (F := Ideal) x y mo g = c at hc
  generalize val_main_v48 (F := Ideal) x y mo g = l at hl
  pointwise
  split
  · rw [hc]
    exact congrArg (fun t => out x y mo g t k) (Fin.ext (by dsimp only; omega))
  · rw [hl]
    exact congrArg (fun t => out x y mo g t k) (Fin.ext (by dsimp only; omega))

end Cert.LastRefIdeal.Pt

end
-- ==== Proof.MixMid.lean ====
/- The mix of the three branches, entry by entry, and the sums over the heads that its two readings share: a sum over all
   columns against the matrix that marks the columns of the same head is a sum over the head. -/
module

public import proofs.«01_k».proof.Proof.Gen.MixIdeal.Skeleton
public import proofs.«01_k».proof.Proof.Gen.MixIdeal
public import proofs.«01_k».proof.Proof.CtxMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixMid

open Cert.MixIdeal

abbrev c64 : EReal := Ideal.ofBits .f32 0x42800000#32

/-- The logistic of a value. -/
def lgs (a : EReal) : EReal := Ideal.div 1 (1 + Ideal.exp (-a))

/-- The modulation row of a row of the stream: row 0 for the context, one row for each latent sequence of 2048. -/
def modRow (r : Fin 20480) : Fin 16 := ⟨if r.val < 4096 then 0 else (r.val - 4096) / 2048 + 1, by split <;> omega⟩

/-- The length of the sequence that a row lies in; every sequence starts at a multiple of its length. -/
def len (r : ℕ) : ℕ := if r < 4096 then 256 else 2048

/-- The head of a column, and the columns of a head. -/
def headOf (c : Fin 512) : Fin 8 := ⟨c.val / 64, by omega⟩
def col (h : Fin 8) (j : Fin 64) : Fin 512 := ⟨64 * h.val + j.val, by omega⟩

theorem headOf_col (h : Fin 8) (j : Fin 64) : headOf (col h j) = h := Fin.ext (by show (64 * h.val + j.val) / 64 = h.val; omega)

section

variable (x : Vec Ideal S20480x1024 .f32) (z : Vec Ideal S20480x7296 .f32) (p q : Vec Ideal S20480x512 .f32) (ya : Vec Ideal S20480x512 .bf16)
  (mo : Vec Ideal S16x6x1024 .f32) (cw : Vec Ideal S3x512 .f32) (a0 : Vec Ideal S2x512 .f32) (a2 : Vec Ideal S2x64x512 .f32) (g2 : Vec Ideal S128x512 .f32)
  (ka rk lg lb : Vec Ideal S512 .f32) (wa wb wc : Vec Ideal S512x1024 .bf16) (wo : Vec Ideal S1024x1024 .bf16)

/-- The convolution of three taps along a sequence, gated; zero before its first row and after its last. -/
def u (r : Fin 20480) (c : Fin 512) : EReal := z (ix2 r ⟨2560 + c.val, by omega⟩) * z (ix2 r ⟨1536 + c.val, by omega⟩)
def before (r : Fin 20480) (c : Fin 512) : EReal := if r.val % len r.val = 0 then 0 else u z ⟨r.val - 1, by omega⟩ c
def behind (r : Fin 20480) (c : Fin 512) : EReal := if (r.val + 1) % len r.val = 0 then 0 else u z ⟨(r.val + 1) % 20480, Nat.mod_lt _ (by decide)⟩ c
def conv (r : Fin 20480) (c : Fin 512) : EReal :=
  z (ix2 r ⟨2048 + c.val, by omega⟩) * (cw (ix2 0 c) * before z r c + cw (ix2 1 c) * u z r c + cw (ix2 2 c) * behind z r c)

/-- The norm of each head of the sum of both directions. -/
def o (r : Fin 20480) (c : Fin 512) : EReal := p (ix2 r c) + q (ix2 r c)
def mu (r : Fin 20480) (h : Fin 8) : EReal := Ideal.div (∑ j : Fin 64, o p q r (col h j)) c64
def dl (r : Fin 20480) (c : Fin 512) : EReal := o p q r c - mu p q r (headOf c)
def vr (r : Fin 20480) (h : Fin 8) : EReal := Ideal.div (∑ j : Fin 64, dl p q r (col h j) * dl p q r (col h j)) c64
def normed (r : Fin 20480) (c : Fin 512) : EReal :=
  dl p q r c * Ideal.rsqrt (vr p q r (headOf c) + Ideal.ofBits .f32 0x3A27C5AC#32) * lg (ix1 c) + lb (ix1 c)

/-- The bonus of a direction: per head the sum of receptance times key times a weight, the key scaled by the in-context rate. -/
def rate (d : Fin 2) (r : Fin 20480) (c : Fin 512) : EReal :=
  lgs (a0 (ix2 d c) + ∑ l : Fin 64, z (ix2 r ⟨7040 + 64 * d.val + l.val, by omega⟩) * a2 (ix3 d l c))
def prod (d : Fin 2) (r : Fin 20480) (c : Fin 512) : EReal :=
  z (ix2 r ⟨c.val, by omega⟩) * (z (ix2 r ⟨512 + c.val, by omega⟩) * (1 + (rate z a0 a2 d r c - 1) * ka (ix1 c))) * rk (ix1 c)
def bonus (d : Fin 2) (r : Fin 20480) (h : Fin 8) : EReal := ∑ j : Fin 64, prod z a0 a2 ka rk d r (col h j)

/-- The recurrent branch, its gate and the gated rows. -/
def heads (r : Fin 20480) (c : Fin 512) : EReal :=
  (normed p q lg lb r c + (bonus z a0 a2 ka rk 0 r (headOf c) * z (ix2 r ⟨1024 + c.val, by omega⟩)
      + bonus z a0 a2 ka rk 1 r (headOf c) * z (ix2 r ⟨1024 + c.val, by omega⟩)))
    * ∑ l : Fin 128, lgs (z (ix2 r ⟨7168 + l.val, by omega⟩)) * g2 (ix2 l c)

/-- The three branches through their weights, gated, and added; then the output weights, gated by the modulation, on the stream. -/
def merged (r : Fin 20480) (k : Fin 1024) : EReal :=
  lgs (z (ix2 r ⟨3072 + k.val, by omega⟩)) * (∑ c : Fin 512, conv z cw r c * wa (ix2 c k))
    + lgs (z (ix2 r ⟨4096 + k.val, by omega⟩)) * (∑ c : Fin 512, ya (ix2 r c) * wb (ix2 c k))
    + lgs (z (ix2 r ⟨5120 + k.val, by omega⟩)) * (∑ c : Fin 512, heads z p q a0 a2 g2 ka rk lg lb r c * wc (ix2 c k))
def out (r : Fin 20480) (k : Fin 1024) : EReal :=
  x (ix2 r k) + mo (ix3 (modRow r) 2 k) * ∑ l : Fin 1024, merged z p q ya cw a0 a2 g2 ka rk lg lb wa wb wc r l * wo (ix2 l k)
def G : Vec Ideal S20480x1024 .f32 := fun i => out x z p q ya mo cw a0 a2 g2 ka rk lg lb wa wb wc wo (i 0) (i 1)

end

/-- A real value less itself is zero. -/
theorem sub_self_real {a : EReal} (h : ∃ r : ℝ, a = r) : a - a = 0 := by
  obtain ⟨r, rfl⟩ := h
  rw [← EReal.coe_sub, sub_self, EReal.coe_zero]

theorem c64_eq : c64 = ((64 : ℝ) : EReal) := by
  simp [c64, Ideal.ofBits, Ideal.ieee]
  try rw [← EReal.coe_mul]
  try norm_num

theorem div64 (a : EReal) : Ideal.div a c64 = a * (((64 : ℝ)⁻¹ : ℝ) : EReal) := by
  have h : ((64 : ℝ) : EReal) ≠ 0 := by exact_mod_cast (by norm_num : (64 : ℝ) ≠ 0)
  rw [c64_eq]
  unfold Ideal.div
  rw [if_neg h, EReal.coe_inv]

/-- A sum over all columns of the terms of one head is the sum over the head's columns. -/
theorem sum_head (g : Fin 512 → EReal) (h : Fin 8) : (∑ l : Fin 512, if headOf l = h then g l else 0) = ∑ j : Fin 64, g (col h j) := by
  let e : Fin 8 × Fin 64 ≃ Fin 512 := finProdFinEquiv
  have he : ∀ a : Fin 8 × Fin 64, e a = col a.1 a.2 := fun a => Fin.ext (by show a.2.val + 64 * a.1.val = 64 * a.1.val + a.2.val; omega)
  rw [← e.sum_comp, Fintype.sum_prod_type, Finset.sum_eq_single h]
  · exact Finset.sum_congr rfl fun j _ => by rw [he]; simp only [headOf_col, if_true]
  · intro b _ hb
    refine Finset.sum_eq_zero fun j _ => ?_
    rw [he]; simp only [headOf_col, hb, if_false]
  · exact fun hn => absurd (Finset.mem_univ h) hn

/-- A product of a real row, split into itself and a rest of zero, with the matrix that marks the columns of the same head. -/
theorem ones_sum (X : Fin 512 → EReal) (hX : ∀ l, ∃ r : ℝ, X l = r) (M : Fin 512 → EReal) (h : Fin 8) (hM : ∀ l, M l = if headOf l = h then 1 else 0) :
    (∑ l, X l * M l) + (∑ l, (X l - X l) * M l) = ∑ j : Fin 64, X (col h j) := by
  have h2 : (∑ l, (X l - X l) * M l) = 0 := Finset.sum_eq_zero fun l _ => by rw [sub_self_real (hX l), zero_mul]
  rw [h2, add_zero, ← sum_head]
  refine Finset.sum_congr rfl fun l _ => ?_
  rw [hM l]
  split_ifs <;> simp

/-- The same with the matrix divided by the width of a head: the mean over the head. -/
theorem mean_sum (X : Fin 512 → EReal) (hX : ∀ l, ∃ r : ℝ, X l = r) (M : Fin 512 → EReal) (h : Fin 8)
    (hM : ∀ l, M l = Ideal.div (if headOf l = h then 1 else 0) c64) :
    (∑ l, X l * M l) + (∑ l, (X l - X l) * M l) = Ideal.div (∑ j : Fin 64, X (col h j)) c64 := by
  have h2 : (∑ l, (X l - X l) * M l) = 0 := Finset.sum_eq_zero fun l _ => by rw [sub_self_real (hX l), zero_mul]
  have h0 : (0 : EReal) ≤ (((64 : ℝ)⁻¹ : ℝ) : EReal) := by exact_mod_cast (by norm_num : (0 : ℝ) ≤ (64 : ℝ)⁻¹)
  rw [h2, add_zero, div64, Cert.CtxMath.sum_mul_nonneg _ h0 (EReal.coe_ne_top _), ← sum_head (fun l => X l * (((64 : ℝ)⁻¹ : ℝ) : EReal))]
  refine Finset.sum_congr rfl fun l _ => ?_
  rw [hM l, div64]
  split_ifs <;> simp

/-! Sums, products and differences of reals are real. -/

theorem real_add {a b : EReal} (ha : ∃ r : ℝ, a = r) (hb : ∃ r : ℝ, b = r) : ∃ r : ℝ, a + b = r := by
  obtain ⟨r, rfl⟩ := ha; obtain ⟨s, rfl⟩ := hb; exact ⟨r + s, (EReal.coe_add _ _).symm⟩
theorem real_sub {a b : EReal} (ha : ∃ r : ℝ, a = r) (hb : ∃ r : ℝ, b = r) : ∃ r : ℝ, a - b = r := by
  obtain ⟨r, rfl⟩ := ha; obtain ⟨s, rfl⟩ := hb; exact ⟨r - s, (EReal.coe_sub _ _).symm⟩
theorem real_mul {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul _ _).symm⟩
theorem real_sum {n : ℕ} (f : Fin n → EReal) (hf : ∀ j, ∃ r : ℝ, f j = r) : ∃ r : ℝ, (∑ j, f j) = r := by
  choose g hg using hf
  exact ⟨∑ j, g j, by rw [Cert.CtxMath.coe_sum]; exact Finset.sum_congr rfl fun j _ => hg j⟩
theorem real_one : ∃ r : ℝ, (1 : EReal) = r := ⟨1, EReal.coe_one.symm⟩

end Cert.MixMid

end
-- ==== Proof.MixRun.lean ====
/- The body of the mix of the three branches at one grid point, on any staging buffers: every input is read, the mixed rows are
   stored over whatever the output's buffer held. -/
module

public import proofs.«01_k».proof.Proof.Gen.MixIdeal.Skeleton
public import proofs.«01_k».proof.Proof.Gen.MixIdeal.Launch
public import Idealize.ShloMosaic.Lib.Pipeline.FrameBody
public import Idealize.ShloMosaic.Lib.Pipeline.ValueKit
public import Idealize.ShloMosaic.Lib.Ring
public import Idealize.ShloMosaic.Lib.VecWindow
public import Idealize.ShloMosaic.Lib.Tactic
public import Idealize.ShloMosaic.Lib.WordCmp

@[expose] public section

set_option maxRecDepth 65536
set_option maxHeartbeats 16000000

noncomputable section

namespace Cert.MixIdeal.Run

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The tile's place in its sequence, and the number of tiles of a sequence, as the words that the body computes. -/
def pos (i : grid0.Coords) : BitVec 32 :=
  let arg0 : BitVec 32 := BitVec.ofNat 32 (i 0).val
  let v0 : BitVec 1 := Scalar.cmpi .slt arg0 16#32
  let v1 : BitVec 1 := Scalar.cmpi .eq 1#32 0#32
  let v2 : BitVec 32 := Scalar.select v1 1#32 1#32
  let v3 : BitVec 32 := Scalar.remsi arg0 v2
  let v4 : BitVec 1 := Scalar.cmpi .ne v3 0#32
  let v5 : BitVec 1 := Scalar.cmpi .slt v3 0#32
  let v6 : BitVec 1 := Scalar.cmpi .slt v2 0#32
  let v7 : BitVec 1 := Scalar.xori v5 v6
  let v8 : BitVec 1 := Scalar.andi v7 v4
  let v9 : BitVec 32 := Scalar.addi v3 v2
  let v10 : BitVec 32 := Scalar.select v8 v9 v3
  let v11 : BitVec 32 := Scalar.subi arg0 16#32
  let v12 : BitVec 1 := Scalar.cmpi .eq 8#32 0#32
  let v13 : BitVec 32 := Scalar.select v12 1#32 8#32
  let v14 : BitVec 32 := Scalar.remsi v11 v13
  let v15 : BitVec 1 := Scalar.cmpi .ne v14 0#32
  let v16 : BitVec 1 := Scalar.cmpi .slt v14 0#32
  let v17 : BitVec 1 := Scalar.cmpi .slt v13 0#32
  let v18 : BitVec 1 := Scalar.xori v16 v17
  let v19 : BitVec 1 := Scalar.andi v18 v15
  let v20 : BitVec 32 := Scalar.addi v14 v13
  let v21 : BitVec 32 := Scalar.select v19 v20 v14
  let v22 : BitVec 32 := Scalar.select v0 v10 v21
  v22
def per (i : grid0.Coords) : BitVec 32 :=
  let arg0 : BitVec 32 := BitVec.ofNat 32 (i 0).val
  let v23 : BitVec 1 := Scalar.cmpi .slt arg0 16#32
  let v24 : BitVec 32 := Scalar.select v23 1#32 8#32
  v24

/-- The row of the modulation that the body reads, and for each direction its row and matrix of the in-context rates. -/
abbrev gateRow (x : Vec F S1x6x1024 .f32) : Vec F S1x1x1024 .f32 :=
  View.ld x (Rect.unit (s := S1x6x1024) ![0, 2, 0] S1x1x1024.size inb_S1x6x1024_S1x1x1024_0_2_0)
abbrev rate0 (x : Vec F S2x512 .f32) : Vec F S1x512 .f32 := View.ld x (Rect.unit (s := S2x512) ![0, 0] S1x512.size inb_S2x512_S1x512_0_0)
abbrev rate1 (x : Vec F S2x512 .f32) : Vec F S1x512 .f32 := View.ld x (Rect.unit (s := S2x512) ![1, 0] S1x512.size inb_S2x512_S1x512_1_0)
abbrev lora0 (x : Vec F S2x64x512 .f32) : Vec F S1x64x512 .f32 :=
  View.ld x (Rect.unit (s := S2x64x512) ![0, 0, 0] S1x64x512.size inb_S2x64x512_S1x64x512_0_0_0)
abbrev lora1 (x : Vec F S2x64x512 .f32) : Vec F S1x64x512 .f32 :=
  View.ld x (Rect.unit (s := S2x64x512) ![1, 0, 0] S1x64x512.size inb_S2x64x512_S1x64x512_1_0_0)

/-- The convolved rows. -/
def conv (i : grid0.Coords) (x1 : Vec F S256x1536 .f32) (x2 x3 : Vec F S8x1536 .f32) (x11 : Vec F S3x512 .f32) : FVec F S256x512 .f32 :=
  k0_pay4 (pos i) (per i) x1 (k0_pay2 x1) x3 (Scalar.cmpi .sgt (pos i) 0#32) (k0_pay3 x2) x11

/-- The normalized heads with the first direction's bonus, and the gated sum with both. -/
def bonus0 (x4 : Vec F S256x1536 .f32) (x5 : Vec F S256x384 .f32) (x7 x8 : Vec F S256x512 .f32) (x12 : Vec F S2x512 .f32) (x13 : Vec F S2x64x512 .f32)
    (x15 x16 x17 x18 : Vec F S1x512 .f32) (x19 x20 : Vec F S512x512 .bf16) : FVec F S256x512 .f32 :=
  k0_pay12 (k0_pay5 x4) (k0_pay6 x4) (k0_pay7 x4) (k0_pay8 x19) (k0_pay9 x20 x7 x8 x17 x18) (k0_pay10 x5 (lora0 x13)) (k0_pay11 (rate0 x12)) x15 x16
def heads (x4 : Vec F S256x1536 .f32) (x5 : Vec F S256x384 .f32) (x7 x8 : Vec F S256x512 .f32) (x12 : Vec F S2x512 .f32) (x13 : Vec F S2x64x512 .f32)
    (x14 : Vec F S128x512 .f32) (x15 x16 x17 x18 : Vec F S1x512 .f32) (x19 x20 : Vec F S512x512 .bf16) : FVec F S256x512 .f32 :=
  k0_pay14 x5 (k0_pay5 x4) (k0_pay6 x4) (k0_pay7 x4) (k0_pay8 x19) (bonus0 x4 x5 x7 x8 x12 x13 x15 x16 x17 x18 x19 x20)
    (k0_pay13 x5 (rate1 x12) (lora1 x13)) x15 x16 x14

/-- The mixed rows that the body stores. -/
def out (i : grid0.Coords) (x0 : Vec F S256x1024 .f32) (x1 : Vec F S256x1536 .f32) (x2 : Vec F S8x1536 .f32) (x3 : Vec F S8x1536 .f32) (x4 : Vec F S256x1536 .f32) (x5 : Vec F S256x384 .f32) (x6 : Vec F S256x3072 .f32) (x7 : Vec F S256x512 .f32) (x8 : Vec F S256x512 .f32) (x9 : Vec F S256x512 .bf16) (x10 : Vec F S1x6x1024 .f32) (x11 : Vec F S3x512 .f32) (x12 : Vec F S2x512 .f32) (x13 : Vec F S2x64x512 .f32) (x14 : Vec F S128x512 .f32) (x15 : Vec F S1x512 .f32) (x16 : Vec F S1x512 .f32) (x17 : Vec F S1x512 .f32) (x18 : Vec F S1x512 .f32) (x19 : Vec F S512x512 .bf16) (x20 : Vec F S512x512 .bf16) (x21 : Vec F S512x1024 .bf16) (x22 : Vec F S512x1024 .bf16) (x23 : Vec F S512x1024 .bf16) (x24 : Vec F S1024x1024 .bf16) : Vec F S256x1024 .f32 :=
  k0_pay1 (k0_pay15 (conv i x1 x2 x3 x11) (heads x4 x5 x7 x8 x12 x13 x14 x15 x16 x17 x18 x19 x20) x6 x21 x9 x22 x23) x0 (gateRow x10) x24

theorem run (c : Dev nD) (i : grid0.Coords) (arg1 : Memref sig .tc .vmem S256x1024 .f32) (harg1 : arg1.IsWhole) (arg2 : Memref sig .tc .vmem S256x1536 .f32) (harg2 : arg2.IsWhole) (arg3 : Memref sig .tc .vmem S8x1536 .f32) (harg3 : arg3.IsWhole) (arg4 : Memref sig .tc .vmem S8x1536 .f32) (harg4 : arg4.IsWhole) (arg5 : Memref sig .tc .vmem S256x1536 .f32) (harg5 : arg5.IsWhole) (arg6 : Memref sig .tc .vmem S256x384 .f32) (harg6 : arg6.IsWhole) (arg7 : Memref sig .tc .vmem S256x3072 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .bf16) (harg10 : arg10.IsWhole) (arg11 : Memref sig .tc .vmem S1x6x1024 .f32) (harg11 : arg11.IsWhole) (arg12 : Memref sig .tc .vmem S3x512 .f32) (harg12 : arg12.IsWhole) (arg13 : Memref sig .tc .vmem S2x512 .f32) (harg13 : arg13.IsWhole) (arg14 : Memref sig .tc .vmem S2x64x512 .f32) (harg14 : arg14.IsWhole) (arg15 : Memref sig .tc .vmem S128x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S512x512 .bf16) (harg20 : arg20.IsWhole) (arg21 : Memref sig .tc .vmem S512x512 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S1024x1024 .bf16) (harg25 : arg25.IsWhole) (arg26 : Memref sig .tc .vmem S256x1024 .f32) (harg26 : arg26.IsWhole)
    (x0 : Vec F S256x1024 .f32) (x1 : Vec F S256x1536 .f32) (x2 : Vec F S8x1536 .f32) (x3 : Vec F S8x1536 .f32) (x4 : Vec F S256x1536 .f32) (x5 : Vec F S256x384 .f32) (x6 : Vec F S256x3072 .f32) (x7 : Vec F S256x512 .f32) (x8 : Vec F S256x512 .f32) (x9 : Vec F S256x512 .bf16) (x10 : Vec F S1x6x1024 .f32) (x11 : Vec F S3x512 .f32) (x12 : Vec F S2x512 .f32) (x13 : Vec F S2x64x512 .f32) (x14 : Vec F S128x512 .f32) (x15 : Vec F S1x512 .f32) (x16 : Vec F S1x512 .f32) (x17 : Vec F S1x512 .f32) (x18 : Vec F S1x512 .f32) (x19 : Vec F S512x512 .bf16) (x20 : Vec F S512x512 .bf16) (x21 : Vec F S512x1024 .bf16) (x22 : Vec F S512x1024 .bf16) (x23 : Vec F S512x1024 .bf16) (x24 : Vec F S1024x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare (out i x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_mix_eq_skeleton]; unfold cc0_mix_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  isplitl [H20]
  · iexists _; isplitr; · ipureintro; exact harg21.read_unread _
    iexact H20
  isplitl [H21]
  · iexists _; isplitr; · ipureintro; exact harg22.read_unread _
    iexact H21
  isplitl [H22]
  · iexists _; isplitr; · ipureintro; exact harg23.read_unread _
    iexact H22
  isplitl [H23]
  · iexists _; isplitr; · ipureintro; exact harg24.read_unread _
    iexact H23
  isplitl [H24]
  · iexists _; isplitr; · ipureintro; exact harg25.read_unread _
    iexact H24
  iexists _; isplitr
  swap; · iexact H25
  ipureintro; refine (View.read_writes_full _ _ _ _ _).trans ?_
  frame_out
  rfl

end Cert.MixIdeal.Run

end
-- ==== Proof.MixPay.lean ====
/- The rows that the kernel's body computes at a tile, entry by entry, from the blocks it reads: they are the mix's. -/
module

public import proofs.«01_k».proof.Proof.MixMid
public import proofs.«01_k».proof.Proof.MixRun

@[expose] public section

set_option maxRecDepth 16384

noncomputable section

open Idealize.ShloMosaic Idealize.ShloMosaic.TcCoe Idealize.SL.Sem

namespace Cert.MixPay

open Cert.MixIdeal Cert.MixIdeal.Gen Cert.MixIdeal.Run Cert.MixMid

variable (z : Vec Ideal S20480x7296 .f32) (p q : Vec Ideal S20480x512 .f32) (ya : Vec Ideal S20480x512 .bf16)
  (mo : Vec Ideal S16x6x1024 .f32) (cw : Vec Ideal S3x512 .f32) (a0 : Vec Ideal S2x512 .f32) (a2 : Vec Ideal S2x64x512 .f32) (g2 : Vec Ideal S128x512 .f32)
  (ka rk lg lb : Vec Ideal S512 .f32) (wa wb wc : Vec Ideal S512x1024 .bf16) (wo : Vec Ideal S1024x1024 .bf16) (R : Fin 20480) (r : Fin 256) (d : Fin 2)

theorem mu_real (hp : ∀ r c, ∃ a : ℝ, p (ix2 r c) = a) (hq : ∀ r c, ∃ a : ℝ, q (ix2 r c) = a) (h : Fin 8) : ∃ a : ℝ, mu p q R h = a := by
  unfold mu
  rw [div64]
  exact real_mul (real_sum _ fun j => real_add (hp _ _) (hq _ _)) ⟨_, rfl⟩

theorem normed_at (hp : ∀ r c, ∃ a : ℝ, p (ix2 r c) = a) (hq : ∀ r c, ∃ a : ℝ, q (ix2 r c) = a)
    (me : Vec Ideal S512x512 .bf16) (x7 x8 : Vec Ideal S256x512 .f32) (x17 x18 : Vec Ideal S1x512 .f32)
    (h7 : ∀ c : Fin 512, x7 (ix2 r c) = p (ix2 R c)) (h8 : ∀ c : Fin 512, x8 (ix2 r c) = q (ix2 R c))
    (h17 : ∀ c : Fin 512, x17 (ix2 0 c) = lg (ix1 c)) (h18 : ∀ c : Fin 512, x18 (ix2 0 c) = lb (ix1 c))
    (hme : ∀ l c : Fin 512, me (ix2 l c) = Ideal.div (if headOf l = headOf c then 1 else 0) c64) (c : Fin 512) :
    k0_pay9 (F := Ideal) me x7 x8 x17 x18 (ix2 r c) = normed p q lg lb R c := by
  have ho : ∀ l, ∃ a : ℝ, o p q R l = a := fun l => real_add (hp _ _) (hq _ _)
  have hm : ∀ l : Fin 512, (∑ k, (p (ix2 R k) + q (ix2 R k)) * me (ix2 k l) + ∑ k, (p (ix2 R k) + q (ix2 R k) - (p (ix2 R k) + q (ix2 R k))) * me (ix2 k l))
      = mu p q R (headOf l) := fun l => mean_sum (o p q R) ho (fun k => me (ix2 k l)) (headOf l) (fun k => hme k l)
  have hv : (∑ l, ((p (ix2 R l) + q (ix2 R l) - mu p q R (headOf l)) * (p (ix2 R l) + q (ix2 R l) - mu p q R (headOf l))) * me (ix2 l c)
      + ∑ l, ((p (ix2 R l) + q (ix2 R l) - mu p q R (headOf l)) * (p (ix2 R l) + q (ix2 R l) - mu p q R (headOf l))
          - (p (ix2 R l) + q (ix2 R l) - mu p q R (headOf l)) * (p (ix2 R l) + q (ix2 R l) - mu p q R (headOf l))) * me (ix2 l c))
      = vr p q R (headOf c) := mean_sum (fun l => dl p q R l * dl p q R l)
        (fun l => real_mul (real_sub (ho l) (mu_real p q R hp hq _)) (real_sub (ho l) (mu_real p q R hp hq _))) (fun l => me (ix2 l c)) (headOf c) (fun l => hme l c)
  unfold k0_pay9 normed
  pointwise [h7, h8, h17, h18]
  simp only [hm, hv]
  rfl

/-- One direction's product of receptance, key and weight in a row of blocks. -/
theorem prod_real (hz : ∀ (r : Fin 20480) (c : Fin 1024), ∃ a : ℝ, z (ix2 r ⟨c.val, by omega⟩) = a) (hka : ∀ c, ∃ a : ℝ, ka (ix1 c) = a)
    (hrk : ∀ c, ∃ a : ℝ, rk (ix1 c) = a) (hs : ∀ a : EReal, ∃ b : ℝ, lgs a = b) (d : Fin 2) (c : Fin 512) : ∃ a : ℝ, MixMid.prod z a0 a2 ka rk d R c = a := by
  unfold MixMid.prod
  exact real_mul (real_mul (hz R ⟨c.val, by omega⟩) (real_mul (hz R ⟨512 + c.val, by omega⟩)
    (real_add real_one (real_mul (real_sub (hs _) real_one) (hka c))))) (hrk c)

/-- The logistic is real everywhere. -/
theorem lgs_real (a : EReal) : ∃ b : ℝ, lgs a = b := by
  unfold lgs
  induction a using EReal.rec with
  | bot =>
    refine ⟨0, ?_⟩
    have h : (1 : EReal) + Ideal.exp (-⊥) = ⊤ := by
      rw [EReal.neg_bot]; exact EReal.coe_add_top 1
    rw [h]; simp [Ideal.div]
  | top =>
    refine ⟨1, ?_⟩
    have h : (1 : EReal) + Ideal.exp (-⊤) = 1 := by
      rw [EReal.neg_top]; show (1 : EReal) + 0 = 1; simp
    rw [h]; simp [Ideal.div]
  | coe a =>
    have h : (1 : EReal) + Ideal.exp (-(a : EReal)) = ((1 + Real.exp (-a) : ℝ) : EReal) := by
      rw [EReal.coe_add, EReal.coe_one, ← EReal.coe_neg]; rfl
    have h0 : ((1 + Real.exp (-a) : ℝ) : EReal) ≠ 0 := by
      exact_mod_cast (add_pos one_pos (Real.exp_pos _)).ne'
    refine ⟨(1 + Real.exp (-a))⁻¹, ?_⟩
    rw [h, Ideal.div, if_neg h0, one_mul, EReal.coe_inv]

/-- One bonus: the product of the blocks' columns, summed over all columns against the matrix of ones. -/
theorem bonus_eq (hr : ∀ c : Fin 512, ∃ a : ℝ, MixMid.prod z a0 a2 ka rk d R c = a) (on : FVec Ideal S512x512 .bf16)
    (hon : ∀ l c : Fin 512, on (ix2 l c) = if headOf l = headOf c then 1 else 0) (c : Fin 512) :
    (∑ l, MixMid.prod z a0 a2 ka rk d R l * on (ix2 l c)) + (∑ l, (MixMid.prod z a0 a2 ka rk d R l - MixMid.prod z a0 a2 ka rk d R l) * on (ix2 l c))
      = bonus z a0 a2 ka rk d R (headOf c) :=
  ones_sum (MixMid.prod z a0 a2 ka rk d R) hr (fun l => on (ix2 l c)) (headOf c) (fun l => hon l c)

theorem bonus0_at (hr : ∀ c : Fin 512, ∃ a : ℝ, MixMid.prod z a0 a2 ka rk d R c = a)
    (rr kr v y dt at' : FVec Ideal S256x512 .f32) (on : FVec Ideal S512x512 .bf16) (x15 x16 : Vec Ideal S1x512 .f32)
    (h0 : ∀ c : Fin 512, rr (ix2 r c) = z (ix2 R ⟨c.val, by omega⟩)) (h1 : ∀ c : Fin 512, kr (ix2 r c) = z (ix2 R ⟨512 + c.val, by omega⟩))
    (h2 : ∀ c : Fin 512, v (ix2 r c) = z (ix2 R ⟨1024 + c.val, by omega⟩))
    (h3 : ∀ c : Fin 512, at' (ix2 r c) + dt (ix2 r c) = a0 (ix2 d c) + ∑ l : Fin 64, z (ix2 R ⟨7040 + 64 * d.val + l.val, by omega⟩) * a2 (ix3 d l c))
    (h15 : ∀ c : Fin 512, x15 (ix2 0 c) = ka (ix1 c)) (h16 : ∀ c : Fin 512, x16 (ix2 0 c) = rk (ix1 c))
    (hon : ∀ l c : Fin 512, on (ix2 l c) = if headOf l = headOf c then 1 else 0) (c : Fin 512) :
    k0_pay12 (F := Ideal) rr kr v on y dt at' x15 x16 (ix2 r c)
      = y (ix2 r c) + bonus z a0 a2 ka rk d R (headOf c) * z (ix2 R ⟨1024 + c.val, by omega⟩) := by
  have hl : ∀ c : Fin 512, Ideal.div 1 (1 + Ideal.exp (0 - (at' (ix2 r c) + dt (ix2 r c)))) = rate z a0 a2 d R c := fun c => by
    rw [h3 c, sub_eq_add_neg, zero_add]; rfl
  have hp : ∀ c : Fin 512, z (ix2 R ⟨c.val, by omega⟩) * (z (ix2 R ⟨512 + c.val, by omega⟩) * (1 + (rate z a0 a2 d R c - 1) * ka (ix1 c))) * rk (ix1 c)
      = MixMid.prod z a0 a2 ka rk d R c := fun c => rfl
  unfold k0_pay12
  pointwise [h0, h1, h2, h15, h16]
  simp only [hl, hp, bonus_eq z a0 a2 ka rk R d hr on hon c]

theorem bonus1_at (hr : ∀ c : Fin 512, ∃ a : ℝ, MixMid.prod z a0 a2 ka rk d R c = a)
    (x5 : Vec Ideal S256x384 .f32) (rr kr v y ad : FVec Ideal S256x512 .f32) (on : FVec Ideal S512x512 .bf16) (x15 x16 : Vec Ideal S1x512 .f32)
    (x14 : Vec Ideal S128x512 .f32)
    (h0 : ∀ c : Fin 512, rr (ix2 r c) = z (ix2 R ⟨c.val, by omega⟩)) (h1 : ∀ c : Fin 512, kr (ix2 r c) = z (ix2 R ⟨512 + c.val, by omega⟩))
    (h2 : ∀ c : Fin 512, v (ix2 r c) = z (ix2 R ⟨1024 + c.val, by omega⟩))
    (h3 : ∀ c : Fin 512, ad (ix2 r c) = 0 - (a0 (ix2 d c) + ∑ l : Fin 64, z (ix2 R ⟨7040 + 64 * d.val + l.val, by omega⟩) * a2 (ix3 d l c)))
    (h5 : ∀ l : Fin 128, x5 (ix2 r ⟨256 + l.val, by omega⟩) = z (ix2 R ⟨7168 + l.val, by omega⟩)) (h14 : ∀ (l : Fin 128) (c : Fin 512), x14 (ix2 l c) = g2 (ix2 l c))
    (h15 : ∀ c : Fin 512, x15 (ix2 0 c) = ka (ix1 c)) (h16 : ∀ c : Fin 512, x16 (ix2 0 c) = rk (ix1 c))
    (hon : ∀ l c : Fin 512, on (ix2 l c) = if headOf l = headOf c then 1 else 0) (c : Fin 512) :
    k0_pay14 (F := Ideal) x5 rr kr v on y ad x15 x16 x14 (ix2 r c)
      = (y (ix2 r c) + bonus z a0 a2 ka rk d R (headOf c) * z (ix2 R ⟨1024 + c.val, by omega⟩))
          * ∑ l : Fin 128, lgs (z (ix2 R ⟨7168 + l.val, by omega⟩)) * g2 (ix2 l c) := by
  have hl : ∀ c : Fin 512, Ideal.div 1 (1 + Ideal.exp (ad (ix2 r c))) = rate z a0 a2 d R c := fun c => by
    rw [h3 c, sub_eq_add_neg, zero_add]; rfl
  have hg : ∀ a : EReal, Ideal.div 1 (1 + Ideal.exp (0 - a)) = lgs a := fun a => by
    rw [sub_eq_add_neg, zero_add]; rfl
  have hp : ∀ c : Fin 512, z (ix2 R ⟨c.val, by omega⟩) * (z (ix2 R ⟨512 + c.val, by omega⟩) * (1 + (rate z a0 a2 d R c - 1) * ka (ix1 c))) * rk (ix1 c)
      = MixMid.prod z a0 a2 ka rk d R c := fun c => rfl
  unfold k0_pay14
  pointwise [h0, h1, h2, h5, h14, h15, h16]
  simp only [hl, hp, hg, bonus_eq z a0 a2 ka rk R d hr on hon c]

/-- The slices of the blocks. -/
theorem pay5_at (x4 : Vec Ideal S256x1536 .f32) (c : Fin 512) : k0_pay5 (F := Ideal) x4 (ix2 r c) = x4 (ix2 r ⟨c.val, by omega⟩) := by
  unfold k0_pay5; pointwise
theorem pay6_at (x4 : Vec Ideal S256x1536 .f32) (c : Fin 512) : k0_pay6 (F := Ideal) x4 (ix2 r c) = x4 (ix2 r ⟨512 + c.val, by omega⟩) := by
  unfold k0_pay6; pointwise
theorem pay7_at (x4 : Vec Ideal S256x1536 .f32) (c : Fin 512) : k0_pay7 (F := Ideal) x4 (ix2 r c) = x4 (ix2 r ⟨1024 + c.val, by omega⟩) := by
  unfold k0_pay7; pointwise
theorem pay8_at (x19 : Vec Ideal S512x512 .bf16) : k0_pay8 (F := Ideal) x19 = x19 := by
  funext i
  obtain ⟨a, b, rfl⟩ : ∃ (a : Fin 512) (b : Fin 512), i = ix2 a b := ⟨i 0, i 1, eq_ix2 i⟩
  unfold k0_pay8; pointwise
theorem pay2_at (x1 : Vec Ideal S256x1536 .f32) (c : Fin 512) : k0_pay2 (F := Ideal) x1 (ix2 r c) = x1 (ix2 r ⟨1024 + c.val, by omega⟩) * x1 (ix2 r ⟨c.val, by omega⟩) := by
  unfold k0_pay2; pointwise
theorem pay3_at (x2 : Vec Ideal S8x1536 .f32) (c : Fin 512) : k0_pay3 (F := Ideal) x2 (ix2 0 c) = x2 (ix2 7 ⟨1024 + c.val, by omega⟩) * x2 (ix2 7 ⟨c.val, by omega⟩) := by
  unfold k0_pay3; pointwise
theorem rate0_at (x : Vec Ideal S2x512 .f32) (c : Fin 512) : rate0 x (ix2 0 c) = x (ix2 0 c) := by
  unfold rate0; pointwise
theorem rate1_at (x : Vec Ideal S2x512 .f32) (c : Fin 512) : rate1 x (ix2 0 c) = x (ix2 1 c) := by
  unfold rate1; pointwise
theorem lora0_at (x : Vec Ideal S2x64x512 .f32) (l : Fin 64) (c : Fin 512) : lora0 x (ix3 0 l c) = x (ix3 0 l c) := by
  unfold lora0; pointwise
theorem lora1_at (x : Vec Ideal S2x64x512 .f32) (l : Fin 64) (c : Fin 512) : lora1 x (ix3 0 l c) = x (ix3 1 l c) := by
  unfold lora1; pointwise
theorem gateRow_at (x : Vec Ideal S1x6x1024 .f32) (k : Fin 1024) : gateRow x (ix3 0 0 k) = x (ix3 0 2 k) := by
  unfold gateRow; pointwise

/-- The recurrent branch of a row, from the blocks. -/
theorem heads_at (hz : ∀ (r : Fin 20480) (c : Fin 1024), ∃ a : ℝ, z (ix2 r ⟨c.val, by omega⟩) = a) (hka : ∀ c, ∃ a : ℝ, ka (ix1 c) = a)
    (hrk : ∀ c, ∃ a : ℝ, rk (ix1 c) = a) (hp : ∀ r c, ∃ a : ℝ, p (ix2 r c) = a) (hq : ∀ r c, ∃ a : ℝ, q (ix2 r c) = a)
    (x4 : Vec Ideal S256x1536 .f32) (x5 : Vec Ideal S256x384 .f32) (x7 x8 : Vec Ideal S256x512 .f32) (x12 : Vec Ideal S2x512 .f32) (x13 : Vec Ideal S2x64x512 .f32)
    (x14 : Vec Ideal S128x512 .f32) (x15 x16 x17 x18 : Vec Ideal S1x512 .f32) (x19 x20 : Vec Ideal S512x512 .bf16)
    (h4 : ∀ c : Fin 1536, x4 (ix2 r c) = z (ix2 R ⟨c.val, by omega⟩)) (h5 : ∀ c : Fin 384, x5 (ix2 r c) = z (ix2 R ⟨6912 + c.val, by omega⟩))
    (h7 : ∀ c : Fin 512, x7 (ix2 r c) = p (ix2 R c)) (h8 : ∀ c : Fin 512, x8 (ix2 r c) = q (ix2 R c))
    (h12 : ∀ (d : Fin 2) (c : Fin 512), x12 (ix2 d c) = a0 (ix2 d c)) (h13 : ∀ (d : Fin 2) (l : Fin 64) (c : Fin 512), x13 (ix3 d l c) = a2 (ix3 d l c))
    (h14 : ∀ (l : Fin 128) (c : Fin 512), x14 (ix2 l c) = g2 (ix2 l c))
    (h15 : ∀ c : Fin 512, x15 (ix2 0 c) = ka (ix1 c)) (h16 : ∀ c : Fin 512, x16 (ix2 0 c) = rk (ix1 c))
    (h17 : ∀ c : Fin 512, x17 (ix2 0 c) = lg (ix1 c)) (h18 : ∀ c : Fin 512, x18 (ix2 0 c) = lb (ix1 c))
    (h19 : ∀ l c : Fin 512, x19 (ix2 l c) = if headOf l = headOf c then 1 else 0)
    (h20 : ∀ l c : Fin 512, x20 (ix2 l c) = Ideal.div (if headOf l = headOf c then 1 else 0) c64) (c : Fin 512) :
    Run.heads (F := Ideal) x4 x5 x7 x8 x12 x13 x14 x15 x16 x17 x18 x19 x20 (ix2 r c) = MixMid.heads z p q a0 a2 g2 ka rk lg lb R c := by
  have hr : ∀ (d : Fin 2) (c : Fin 512), ∃ a : ℝ, MixMid.prod z a0 a2 ka rk d R c = a := prod_real z a0 a2 ka rk R hz hka hrk lgs_real
  have g0 : ∀ c : Fin 512, k0_pay5 (F := Ideal) x4 (ix2 r c) = z (ix2 R ⟨c.val, by omega⟩) := fun c => (pay5_at r x4 c).trans (h4 _)
  have g1 : ∀ c : Fin 512, k0_pay6 (F := Ideal) x4 (ix2 r c) = z (ix2 R ⟨512 + c.val, by omega⟩) := fun c => (pay6_at r x4 c).trans (h4 _)
  have g2' : ∀ c : Fin 512, k0_pay7 (F := Ideal) x4 (ix2 r c) = z (ix2 R ⟨1024 + c.val, by omega⟩) := fun c => (pay7_at r x4 c).trans (h4 _)
  have e0 : ∀ c : Fin 512, k0_pay11 (F := Ideal) (rate0 x12) (ix2 r c) + k0_pay10 (F := Ideal) x5 (lora0 x13) (ix2 r c)
      = a0 (ix2 0 c) + ∑ l : Fin 64, z (ix2 R ⟨7040 + 64 * (0 : Fin 2).val + l.val, by have := l.isLt; simp; omega⟩) * a2 (ix3 0 l c) := fun c => by
    have k0 := rate0_at x12 c
    have k1 := fun l => lora0_at x13 l c
    unfold k0_pay11 k0_pay10
    generalize rate0 x12 = y0 at k0
    generalize lora0 x13 = y1 at k1
    pointwise [k0, k1, h12, h13, h5]
    refine congrArg _ (Finset.sum_congr rfl fun l _ => ?_)
    refine congrArg (fun i => z (ix2 R i) * _) (Fin.ext ?_)
    simp; omega
  have e1 : ∀ c : Fin 512, k0_pay13 (F := Ideal) x5 (rate1 x12) (lora1 x13) (ix2 r c)
      = 0 - (a0 (ix2 1 c) + ∑ l : Fin 64, z (ix2 R ⟨7040 + 64 * (1 : Fin 2).val + l.val, by have := l.isLt; simp; omega⟩) * a2 (ix3 1 l c)) := fun c => by
    have k0 := rate1_at x12 c
    have k1 := fun l => lora1_at x13 l c
    unfold k0_pay13
    generalize rate1 x12 = y0 at k0
    generalize lora1 x13 = y1 at k1
    pointwise [k0, k1, h12, h13, h5]
    refine congrArg (fun s => 0 - (_ + s)) (Finset.sum_congr rfl fun l _ => ?_)
    refine congrArg (fun i => z (ix2 R i) * _) (Fin.ext ?_)
    simp; omega
  unfold Run.heads
  rw [bonus1_at z a0 a2 g2 ka rk R r 1 (hr 1) x5 _ _ _ _ _ _ x15 x16 x14 g0 g1 g2' e1
    (fun l => (h5 _).trans (congrArg (fun i => z (ix2 R i)) (Fin.ext (by simp; omega)))) h14 h15 h16 (by rw [pay8_at]; exact h19) c]
  unfold bonus0
  rw [bonus0_at z a0 a2 ka rk R r 0 (hr 0) _ _ _ _ _ _ _ x15 x16 g0 g1 g2' e0 h15 h16 (by rw [pay8_at]; exact h19) c,
    normed_at p q lg lb R r hp hq x20 x7 x8 x17 x18 h7 h8 h17 h18 h20 c]
  unfold MixMid.heads
  rw [add_assoc]

end Cert.MixPay

end
-- ==== Proof.MixTile.lean ====
/- The rows of the mix that a tile of 256 rows computes, from the blocks it reads: the convolution with its neighbours across the
   tile's first and last row, the merged branches, and the gated sum on the stream. -/
module

public import proofs.«01_k».proof.Proof.MixPay

@[expose] public section

set_option maxRecDepth 16384

noncomputable section

open Idealize.ShloMosaic Idealize.ShloMosaic.TcCoe Idealize.SL.Sem

namespace Cert.MixPay

open Cert.MixIdeal Cert.MixIdeal.Gen Cert.MixIdeal.Run Cert.MixMid

variable (x : Vec Ideal S20480x1024 .f32) (z : Vec Ideal S20480x7296 .f32) (p q : Vec Ideal S20480x512 .f32) (ya : Vec Ideal S20480x512 .bf16)
  (mo : Vec Ideal S16x6x1024 .f32) (cw : Vec Ideal S3x512 .f32) (a0 : Vec Ideal S2x512 .f32) (a2 : Vec Ideal S2x64x512 .f32) (g2 : Vec Ideal S128x512 .f32)
  (ka rk lg lb : Vec Ideal S512 .f32) (wa wb wc : Vec Ideal S512x1024 .bf16) (wo : Vec Ideal S1024x1024 .bf16)

theorem isFirst : ∀ r : Fin 256, IntOp.cmpi .eq (BitVec.ofNat 32 r.val) 0#32 = if r.val = 0 then 1#1 else 0#1 := by decide +kernel
theorem isLast : ∀ r : Fin 256, IntOp.cmpi .eq (BitVec.ofNat 32 r.val) 255#32 = if r.val = 255 then 1#1 else 0#1 := by decide +kernel

/-- The convolution's value at an entry of the tile, over the words that say where the tile lies in its sequence. -/
theorem conv_entry (pw qw : BitVec 32) (b : BitVec 1) (x1 : Vec Ideal S256x1536 .f32) (y : FVec Ideal S256x512 .f32) (x3 : Vec Ideal S8x1536 .f32)
    (s : FVec Ideal S1x512 .f32) (w : Vec Ideal S3x512 .f32) (r : Fin 256) (c : Fin 512) :
    k0_pay4 (F := Ideal) pw qw x1 y x3 b s w (ix2 r c)
      = x1 (ix2 r ⟨512 + c.val, by omega⟩) * (w (ix2 0 c) * Scalar.select (IntOp.cmpi .eq (BitVec.ofNat 32 r.val) 0#32) (Scalar.select b (s (ix2 0 c)) 0)
            (y (ix2 ⟨(r.val + 256 - 1) % 256, Nat.mod_lt _ (by decide)⟩ c))
          + w (ix2 1 c) * y (ix2 r c)
          + w (ix2 2 c) * Scalar.select (IntOp.cmpi .eq (BitVec.ofNat 32 r.val) 255#32)
              (Scalar.select (Scalar.cmpi .slt pw (Scalar.subi qw 1#32)) (x3 (ix2 0 ⟨1024 + c.val, by omega⟩) * x3 (ix2 0 ⟨c.val, by omega⟩)) 0)
              (y (ix2 ⟨(r.val + 256 - 255) % 256, Nat.mod_lt _ (by decide)⟩ c))) := by
  unfold k0_pay4
  pointwise

theorem conv_at (i : grid0.Coords) (T : ℕ) (hT : T < 80) (r : Fin 256)
    (x1 : Vec Ideal S256x1536 .f32) (x2 x3 : Vec Ideal S8x1536 .f32) (x11 : Vec Ideal S3x512 .f32)
    (hb : Scalar.cmpi .sgt (pos i) 0#32 = if (256 * T) % len (256 * T) = 0 then 0#1 else 1#1)
    (he : Scalar.cmpi .slt (pos i) (Scalar.subi (per i) 1#32) = if (256 * T + 256) % len (256 * T) = 0 then 0#1 else 1#1)
    (h1 : ∀ (r : Fin 256) (c : Fin 1536), x1 (ix2 r c) = z (ix2 ⟨256 * T + r.val, by omega⟩ ⟨1536 + c.val, by omega⟩))
    (h2 : ¬ (256 * T) % len (256 * T) = 0 → ∀ c : Fin 1536, x2 (ix2 7 c) = z (ix2 ⟨256 * T - 1, by omega⟩ ⟨1536 + c.val, by omega⟩))
    (h3 : ¬ (256 * T + 256) % len (256 * T) = 0 →
      ∀ c : Fin 1536, x3 (ix2 0 c) = z (ix2 ⟨(256 * T + 256) % 20480, Nat.mod_lt _ (by decide)⟩ ⟨1536 + c.val, by omega⟩))
    (h11 : ∀ (a : Fin 3) (c : Fin 512), x11 (ix2 a c) = cw (ix2 a c)) (c : Fin 512) :
    Run.conv i x1 x2 x3 x11 (ix2 r c) = MixMid.conv z cw ⟨256 * T + r.val, by omega⟩ c := by
  have hu : ∀ r : Fin 256, k0_pay2 (F := Ideal) x1 (ix2 r c) = u z ⟨256 * T + r.val, by omega⟩ c := fun r => by
    rw [pay2_at, h1, h1]
    exact congrArg₂ (· * ·) (congrArg (fun k => z (ix2 _ k)) (Fin.ext (by show 1536 + (1024 + c.val) = 2560 + c.val; omega))) rfl
  have hlen : len (256 * T + r.val) = len (256 * T) := by
    unfold len
    by_cases h : 256 * T < 4096
    · rw [if_pos h, if_pos (show 256 * T + r.val < 4096 by omega)]
    · rw [if_neg h, if_neg (show ¬ 256 * T + r.val < 4096 by omega)]
  have hl : len (256 * T) = 256 ∨ len (256 * T) = 2048 := by unfold len; split <;> simp
  have hbefore : Scalar.select (IntOp.cmpi .eq (BitVec.ofNat 32 r.val) 0#32) (Scalar.select (Scalar.cmpi .sgt (pos i) 0#32) (k0_pay3 (F := Ideal) x2 (ix2 0 c)) 0)
      (k0_pay2 (F := Ideal) x1 (ix2 ⟨(r.val + 256 - 1) % 256, Nat.mod_lt _ (by decide)⟩ c)) = before z ⟨256 * T + r.val, by omega⟩ c := by
    rw [isFirst, hb]
    unfold before
    by_cases h : r.val = 0
    · rw [if_pos h]
      by_cases h' : (256 * T) % len (256 * T) = 0
      · have e : (256 * T + r.val) % len (256 * T + r.val) = 0 := by rw [hlen, h]; exact h'
        rw [if_pos h', if_pos e]; rfl
      · have e : ¬ (256 * T + r.val) % len (256 * T + r.val) = 0 := by rw [hlen, h]; exact h'
        rw [if_neg h', if_neg e]
        show k0_pay3 (F := Ideal) x2 (ix2 0 c) = _
        rw [pay3_at, h2 h', h2 h']
        have e' : (⟨256 * T - 1, by omega⟩ : Fin 20480) = ⟨256 * T + r.val - 1, by omega⟩ := Fin.ext (by dsimp only; omega)
        rw [e']
        exact congrArg₂ (· * ·) (congrArg (fun k => z (ix2 _ k)) (Fin.ext (by show 1536 + (1024 + c.val) = 2560 + c.val; omega))) rfl
    · have e : ¬ (256 * T + r.val) % len (256 * T + r.val) = 0 := by rw [hlen]; rcases hl with hl | hl <;> rw [hl] <;> omega
      rw [if_neg h, if_neg e]
      show k0_pay2 (F := Ideal) x1 (ix2 ⟨(r.val + 256 - 1) % 256, _⟩ c) = _
      rw [hu]
      exact congrArg (fun k => u z k c) (Fin.ext (by show 256 * T + (r.val + 256 - 1) % 256 = 256 * T + r.val - 1; omega))
  have hbehind : Scalar.select (IntOp.cmpi .eq (BitVec.ofNat 32 r.val) 255#32)
      (Scalar.select (Scalar.cmpi .slt (pos i) (Scalar.subi (per i) 1#32)) (x3 (ix2 0 ⟨1024 + c.val, by omega⟩) * x3 (ix2 0 ⟨c.val, by omega⟩)) 0)
      (k0_pay2 (F := Ideal) x1 (ix2 ⟨(r.val + 256 - 255) % 256, Nat.mod_lt _ (by decide)⟩ c)) = behind z ⟨256 * T + r.val, by omega⟩ c := by
    rw [isLast, he]
    unfold behind
    by_cases h : r.val = 255
    · rw [if_pos h]
      have hn : 256 * T + r.val + 1 = 256 * T + 256 := by omega
      by_cases h' : (256 * T + 256) % len (256 * T) = 0
      · have e : (256 * T + r.val + 1) % len (256 * T + r.val) = 0 := by rw [hlen, hn]; exact h'
        rw [if_pos h', if_pos e]; rfl
      · have e : ¬ (256 * T + r.val + 1) % len (256 * T + r.val) = 0 := by rw [hlen, hn]; exact h'
        rw [if_neg h', if_neg e]
        show x3 (ix2 0 ⟨1024 + c.val, _⟩) * x3 (ix2 0 ⟨c.val, _⟩) = _
        rw [h3 h', h3 h']
        have e' : (⟨(256 * T + 256) % 20480, Nat.mod_lt _ (by decide)⟩ : Fin 20480) = ⟨(256 * T + r.val + 1) % 20480, Nat.mod_lt _ (by decide)⟩ :=
          Fin.ext (by dsimp only; rw [hn])
        rw [e']
        exact congrArg₂ (· * ·) (congrArg (fun k => z (ix2 _ k)) (Fin.ext (by show 1536 + (1024 + c.val) = 2560 + c.val; omega))) rfl
    · have e : ¬ (256 * T + r.val + 1) % len (256 * T + r.val) = 0 := by rw [hlen]; rcases hl with hl | hl <;> rw [hl] <;> omega
      rw [if_neg h, if_neg e]
      show k0_pay2 (F := Ideal) x1 (ix2 ⟨(r.val + 256 - 255) % 256, _⟩ c) = _
      rw [hu]
      exact congrArg (fun k => u z k c) (Fin.ext (by show 256 * T + (r.val + 256 - 255) % 256 = (256 * T + r.val + 1) % 20480; omega))
  unfold Run.conv MixMid.conv
  rw [conv_entry, hbefore, hbehind, hu, h1, h11, h11, h11]
  exact congrArg₂ (· * ·) (congrArg (fun k => z (ix2 _ k)) (Fin.ext (by show 1536 + (512 + c.val) = 2048 + c.val; omega))) rfl

theorem merged_at (R : Fin 20480) (r : Fin 256) (y1 y2 : FVec Ideal S256x512 .f32) (x6 : Vec Ideal S256x3072 .f32) (x9 : Vec Ideal S256x512 .bf16)
    (x21 x22 x23 : Vec Ideal S512x1024 .bf16) (hy1 : ∀ c : Fin 512, y1 (ix2 r c) = MixMid.conv z cw R c)
    (hy2 : ∀ c : Fin 512, y2 (ix2 r c) = MixMid.heads z p q a0 a2 g2 ka rk lg lb R c)
    (h6 : ∀ c : Fin 3072, x6 (ix2 r c) = z (ix2 R ⟨3072 + c.val, by omega⟩)) (h9 : ∀ c : Fin 512, x9 (ix2 r c) = ya (ix2 R c))
    (h21 : ∀ (c : Fin 512) (k : Fin 1024), x21 (ix2 c k) = wa (ix2 c k)) (h22 : ∀ (c : Fin 512) (k : Fin 1024), x22 (ix2 c k) = wb (ix2 c k))
    (h23 : ∀ (c : Fin 512) (k : Fin 1024), x23 (ix2 c k) = wc (ix2 c k)) (k : Fin 1024) :
    k0_pay15 (F := Ideal) y1 y2 x6 x21 x9 x22 x23 (ix2 r k) = merged z p q ya cw a0 a2 g2 ka rk lg lb wa wb wc R k := by
  have e4 : (⟨3072 + (1024 + k.val), by omega⟩ : Fin 7296) = ⟨4096 + k.val, by omega⟩ := Fin.ext (by dsimp only; omega)
  have e5 : (⟨3072 + (2048 + k.val), by omega⟩ : Fin 7296) = ⟨5120 + k.val, by omega⟩ := Fin.ext (by dsimp only; omega)
  unfold k0_pay15 merged lgs
  pointwise [hy1, hy2, h6, h9, h21, h22, h23]
  simp only [sub_eq_add_neg, zero_add, e4, e5]

theorem out_at (R : Fin 20480) (r : Fin 256) (y : FVec Ideal S256x1024 .f32) (x0 : Vec Ideal S256x1024 .f32) (x10 : Vec Ideal S1x6x1024 .f32)
    (x24 : Vec Ideal S1024x1024 .bf16) (hy : ∀ k : Fin 1024, y (ix2 r k) = merged z p q ya cw a0 a2 g2 ka rk lg lb wa wb wc R k)
    (h0 : ∀ k : Fin 1024, x0 (ix2 r k) = x (ix2 R k)) (h10 : ∀ k : Fin 1024, x10 (ix3 0 2 k) = mo (ix3 (modRow R) 2 k))
    (h24 : ∀ l k : Fin 1024, x24 (ix2 l k) = wo (ix2 l k)) (k : Fin 1024) :
    k0_pay1 (F := Ideal) y x0 (gateRow x10) x24 (ix2 r k) = MixMid.out x z p q ya mo cw a0 a2 g2 ka rk lg lb wa wb wc wo R k := by
  have hg : ∀ k : Fin 1024, gateRow x10 (ix3 0 0 k) = mo (ix3 (modRow R) 2 k) := fun k => (gateRow_at x10 k).trans (h10 k)
  unfold k0_pay1 MixMid.out
  generalize gateRow x10 = g at hg
  pointwise [hy, h0, hg, h24]

end Cert.MixPay
-- ==== Proof.MixFrame.lean ====
/- The run of the mix of the three branches over its grid, with what each window's buffer holds after each point, and the frame:
   it terminates, leaves its arguments as they were and every semaphore at zero. -/
module

public import proofs.«01_k».proof.Proof.MixRun
public import proofs.«01_k».proof.Proof.Gen.MixIdeal.Frame.Runs
public import Idealize.ShloMosaic.Lib.Pipeline.FrameBody
public import Idealize.ShloMosaic.Lib.Pipeline.ValueKit

@[expose] public section

set_option maxRecDepth 16384

noncomputable section

namespace Cert.MixIdeal.Run

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (l : Loc nD τ sig) → Buf (Elt F) l) (ρ : Dev nD → PrngReg)

/-- The rows that point `t` stores. -/
def rows (c : Dev nD) (t : Fin cfg0.N) : Vec F S256x1024 .f32 :=
  out (grid0.coords t) (iblk m c 0 t) (X0_1 m c t) (X0_2 m c t) (X0_3 m c t) (X0_4 m c t) (iblk m c 5 t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)

/-- After point `t` each input's buffer holds its block, and the output's the rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => X0_4 m c t
    | ⟨5, _⟩ => iblk m c 5 t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => rows m c t
    | ⟨_ + 26, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = X0_1 m c t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = X0_6 m c t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = iblk m c 24 t := by dsimp only [dats]
theorem after_25 (c : Dev nD) (t : Fin cfg0.N) : (dats m 0 c).after 25 t = rows m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = X0_1 m c t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = X0_3 m c t :=
  before0_3_of m (dats m 0 c) (A_eq m c 3) (after_3 m c) t d
theorem before_4 (c : Dev nD) (t : Fin cfg0.N) (d) : (dats m 0 c).before 4 t d = X0_4 m c t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = X0_6 m c t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d
theorem before_24 (c : Dev nD) (t : Fin cfg0.N) (d) : (dats m 0 c).before 24 t d = iblk m c 24 t :=
  before0_24_of m (dats m 0 c) (A_eq m c 24) (after_24 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25]
  unfold rows
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (run c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (X0_1 m c t) (X0_2 m c t) (X0_3 m c t) (X0_4 m c t) (iblk m c 5 t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

/-- The run with its result array: what the points' rows leave it at, over the whole grid. -/
theorem run_rows : θ_run defs (onTc (τ := τ) (main (F := F))) ⟨m, fun _ => 0, ρ⟩ (fun r => ∀ c : Dev nD,
      r.2.mem ((c.tc : Thread nD τ).loc main_v18) = (dats m 0 c).arrAt 25 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r h c => ⟨?_, h.2 c⟩) (θ_run_and (run_main m ρ) (unchanged m ρ))
  exact (h.1 c).1 25

end Cert.MixIdeal.Run

end
-- ==== Proof.MixRead.lean ====
/- The blocks that the mix reads at a tile, as entries of its arguments, and the constant matrices and rows that the host computes first. -/
module

public import proofs.«01_k».proof.Proof.MixTile
public import proofs.«01_k».proof.Proof.MixFrame

@[expose] public section

set_option maxRecDepth 16384

noncomputable section

open Idealize.ShloMosaic Idealize.ShloMosaic.TcCoe Idealize.SL.Sem
open Idealize.ShloMosaic.Pipeline (Dat)

namespace Cert.MixIdeal.Out

open Cert.MixIdeal Cert.MixIdeal.Gen Cert.MixIdeal.Run

variable (m : (ℓ : Loc nD τ sig) → Buf (Elt Ideal) ℓ) (ρ : Dev nD → PrngReg)

/-- Where each window's block lies at a grid point. -/
theorem idx_0 : ∀ t : Fin cfg0.N, win0_0.index t = ![t.val, 0] := (by decide +kernel : ∀ t : Fin grid0.N, _)
theorem idx_1 : ∀ t : Fin cfg0.N, win0_1.index t = ![t.val, 1] := (by decide +kernel : ∀ t : Fin grid0.N, _)
theorem idx_2 : ∀ t : Fin cfg0.N, win0_2.index t = ![32 * t.val - 1, 1] := (by decide +kernel : ∀ t : Fin grid0.N, _)
theorem idx_3 : ∀ t : Fin cfg0.N, win0_3.index t = ![min (32 * t.val + 32) 2559, 1] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 18] := (by decide +kernel : ∀ t : Fin grid0.N, _)
theorem idx_6 : ∀ t : Fin cfg0.N, win0_6.index t = ![t.val, 1] := (by decide +kernel : ∀ t : Fin grid0.N, _)
theorem idx_7 : ∀ t : Fin cfg0.N, win0_7.index t = ![t.val, 0] := (by decide +kernel : ∀ t : Fin grid0.N, _)
theorem idx_8 : ∀ t : Fin cfg0.N, win0_8.index t = ![t.val, 0] := (by decide +kernel : ∀ t : Fin grid0.N, _)
theorem idx_9 : ∀ t : Fin cfg0.N, win0_9.index t = ![t.val, 0] := (by decide +kernel : ∀ t : Fin grid0.N, _)
theorem idx_10 : ∀ t : Fin cfg0.N, win0_10.index t = ![if t.val < 16 then 0 else (t.val - 16) / 8 + 1, 0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![0, 0] := (by decide +kernel : ∀ t : Fin grid0.N, _)
theorem idx_16 : ∀ t : Fin cfg0.N, win0_16.index t = ![0, 0] := (by decide +kernel : ∀ t : Fin grid0.N, _)
theorem idx_17 : ∀ t : Fin cfg0.N, win0_17.index t = ![0, 0] := (by decide +kernel : ∀ t : Fin grid0.N, _)
theorem idx_18 : ∀ t : Fin cfg0.N, win0_18.index t = ![0, 0] := (by decide +kernel : ∀ t : Fin grid0.N, _)
theorem idx_19 : ∀ t : Fin cfg0.N, win0_19.index t = ![0, 0] := (by decide +kernel : ∀ t : Fin grid0.N, _)
theorem idx_20 : ∀ t : Fin cfg0.N, win0_20.index t = ![0, 0] := (by decide +kernel : ∀ t : Fin grid0.N, _)
theorem idx_21 : ∀ t : Fin cfg0.N, win0_21.index t = ![0, 0] := (by decide +kernel : ∀ t : Fin grid0.N, _)
theorem idx_22 : ∀ t : Fin cfg0.N, win0_22.index t = ![0, 0] := (by decide +kernel : ∀ t : Fin grid0.N, _)
theorem idx_23 : ∀ t : Fin cfg0.N, win0_23.index t = ![0, 0] := (by decide +kernel : ∀ t : Fin grid0.N, _)
theorem idx_24 : ∀ t : Fin cfg0.N, win0_24.index t = ![0, 0] := (by decide +kernel : ∀ t : Fin grid0.N, _)
theorem idx_25 : ∀ t : Fin cfg0.N, win0_25.index t = ![t.val, 0] := (by decide +kernel : ∀ t : Fin grid0.N, _)

theorem tlt (t : Fin cfg0.N) : t.val < 80 := lt_of_lt_of_eq t.isLt N_0

/-- Whether a tile begins, or ends, its sequence, as the words that the kernel compares. -/
theorem begins : ∀ t : Fin cfg0.N, Scalar.cmpi .sgt (pos (grid0.coords t)) 0#32 = if (256 * t.val) % MixMid.len (256 * t.val) = 0 then 0#1 else 1#1 :=
  (by decide +kernel : ∀ t : Fin grid0.N, _)
theorem ends : ∀ t : Fin cfg0.N, Scalar.cmpi .slt (pos (grid0.coords t)) (Scalar.subi (per (grid0.coords t)) 1#32)
    = if (256 * t.val + 256) % MixMid.len (256 * t.val) = 0 then 0#1 else 1#1 :=
  (by decide +kernel : ∀ t : Fin grid0.N, _)

theorem blk_0 (c : Dev nD) (t : Fin cfg0.N) (r : Fin 256) (k : Fin 1024) :
    iblk m c 0 t (ix2 r k) = m ((c : Thread nD τ).loc main_arg0) (ix2 ⟨256 * t.val + r.val, by have := tlt t; omega⟩ k) := by
  have ht := tlt t
  have e : (win0_0.blk t).view.emb (ix2 r k) = ix2 ⟨256 * t.val + r.val, by have := tlt t; omega⟩ k := by blk_ext [idx_0 t]
  exact (congrArg (V m c main_arg0) e).trans (congrFun (V_main_arg0 m c) _)
theorem blk_1 (c : Dev nD) (t : Fin cfg0.N) (r : Fin 256) (k : Fin 1536) :
    X0_1 m c t (ix2 r k) = m ((c : Thread nD τ).loc main_arg1) (ix2 ⟨256 * t.val + r.val, by have := tlt t; omega⟩ ⟨1536 + k.val, by omega⟩) := by
  have ht := tlt t
  unfold X0_1 Pipeline.Window.fill
  rw [dif_pos (moved0_1 t _)]
  refine Eq.trans (congrArg (V m c main_arg1) (?_ : _ = ix2 ⟨256 * t.val + r.val, by have := tlt t; omega⟩ ⟨1536 + k.val, by omega⟩)) (congrFun (V_main_arg1 m c) _)
  blk_ext [idx_1 t]
theorem blk_2 (c : Dev nD) (t : Fin cfg0.N) (h : ¬ t.val = 0) (k : Fin 1536) :
    X0_2 m c t (ix2 7 k) = m ((c : Thread nD τ).loc main_arg1) (ix2 ⟨256 * t.val - 1, by have := tlt t; omega⟩ ⟨1536 + k.val, by omega⟩) := by
  have ht := tlt t
  unfold X0_2 Pipeline.Window.fill
  rw [dif_pos (moved0_2 t _)]
  refine Eq.trans (congrArg (V m c main_arg1) (?_ : _ = ix2 ⟨256 * t.val - 1, by have := tlt t; omega⟩ ⟨1536 + k.val, by omega⟩)) (congrFun (V_main_arg1 m c) _)
  blk_ext [idx_2 t]
theorem blk_3 (c : Dev nD) (t : Fin cfg0.N) (h : ¬ t.val = 79) (k : Fin 1536) :
    X0_3 m c t (ix2 0 k) = m ((c : Thread nD τ).loc main_arg1) (ix2 ⟨(256 * t.val + 256) % 20480, Nat.mod_lt _ (by decide)⟩ ⟨1536 + k.val, by omega⟩) := by
  have ht := tlt t
  unfold X0_3 Pipeline.Window.fill
  rw [dif_pos (moved0_3 t _)]
  refine Eq.trans (congrArg (V m c main_arg1) (?_ : _ = ix2 ⟨(256 * t.val + 256) % 20480, Nat.mod_lt _ (by decide)⟩ ⟨1536 + k.val, by omega⟩)) (congrFun (V_main_arg1 m c) _)
  blk_ext [idx_3 t]
theorem blk_4 (c : Dev nD) (t : Fin cfg0.N) (r : Fin 256) (k : Fin 1536) :
    X0_4 m c t (ix2 r k) = m ((c : Thread nD τ).loc main_arg1) (ix2 ⟨256 * t.val + r.val, by have := tlt t; omega⟩ ⟨k.val, by omega⟩) := by
  have ht := tlt t
  unfold X0_4 Pipeline.Window.fill
  rw [dif_pos (moved0_4 t _)]
  refine Eq.trans (congrArg (V m c main_arg1) (?_ : _ = ix2 ⟨256 * t.val + r.val, by have := tlt t; omega⟩ ⟨k.val, by omega⟩)) (congrFun (V_main_arg1 m c) _)
  blk_ext [idx_4 t]
theorem blk_5 (c : Dev nD) (t : Fin cfg0.N) (r : Fin 256) (k : Fin 384) :
    iblk m c 5 t (ix2 r k) = m ((c : Thread nD τ).loc main_arg1) (ix2 ⟨256 * t.val + r.val, by have := tlt t; omega⟩ ⟨6912 + k.val, by omega⟩) := by
  have ht := tlt t
  have e : (win0_5.blk t).view.emb (ix2 r k) = ix2 ⟨256 * t.val + r.val, by have := tlt t; omega⟩ ⟨6912 + k.val, by omega⟩ := by blk_ext [idx_5 t]
  exact (congrArg (V m c main_arg1) e).trans (congrFun (V_main_arg1 m c) _)
theorem blk_6 (c : Dev nD) (t : Fin cfg0.N) (r : Fin 256) (k : Fin 3072) :
    X0_6 m c t (ix2 r k) = m ((c : Thread nD τ).loc main_arg1) (ix2 ⟨256 * t.val + r.val, by have := tlt t; omega⟩ ⟨3072 + k.val, by omega⟩) := by
  have ht := tlt t
  unfold X0_6 Pipeline.Window.fill
  rw [dif_pos (moved0_6 t _)]
  refine Eq.trans (congrArg (V m c main_arg1) (?_ : _ = ix2 ⟨256 * t.val + r.val, by have := tlt t; omega⟩ ⟨3072 + k.val, by omega⟩)) (congrFun (V_main_arg1 m c) _)
  blk_ext [idx_6 t]
theorem blk_7 (c : Dev nD) (t : Fin cfg0.N) (r : Fin 256) (k : Fin 512) :
    iblk m c 7 t (ix2 r k) = m ((c : Thread nD τ).loc main_arg2) (ix2 ⟨256 * t.val + r.val, by have := tlt t; omega⟩ k) := by
  have ht := tlt t
  have e : (win0_7.blk t).view.emb (ix2 r k) = ix2 ⟨256 * t.val + r.val, by have := tlt t; omega⟩ k := by blk_ext [idx_7 t]
  exact (congrArg (V m c main_arg2) e).trans (congrFun (V_main_arg2 m c) _)
theorem blk_8 (c : Dev nD) (t : Fin cfg0.N) (r : Fin 256) (k : Fin 512) :
    iblk m c 8 t (ix2 r k) = m ((c : Thread nD τ).loc main_arg3) (ix2 ⟨256 * t.val + r.val, by have := tlt t; omega⟩ k) := by
  have ht := tlt t
  have e : (win0_8.blk t).view.emb (ix2 r k) = ix2 ⟨256 * t.val + r.val, by have := tlt t; omega⟩ k := by blk_ext [idx_8 t]
  exact (congrArg (V m c main_arg3) e).trans (congrFun (V_main_arg3 m c) _)
theorem blk_9 (c : Dev nD) (t : Fin cfg0.N) (r : Fin 256) (k : Fin 512) :
    iblk m c 9 t (ix2 r k) = m ((c : Thread nD τ).loc main_arg4) (ix2 ⟨256 * t.val + r.val, by have := tlt t; omega⟩ k) := by
  have ht := tlt t
  have e : (win0_9.blk t).view.emb (ix2 r k) = ix2 ⟨256 * t.val + r.val, by have := tlt t; omega⟩ k := by blk_ext [idx_9 t]
  exact (congrArg (V m c main_arg4) e).trans (congrFun (V_main_arg4 m c) _)
theorem blk_10 (c : Dev nD) (t : Fin cfg0.N) (r : Fin 256) (a : Fin 6) (k : Fin 1024) :
    iblk m c 10 t (ix3 0 a k) = m ((c : Thread nD τ).loc main_arg5) (ix3 (MixMid.modRow ⟨256 * t.val + r.val, by have := tlt t; omega⟩) a k) := by
  have ht := tlt t
  have e : (win0_10.blk t).view.emb (ix3 0 a k) = ix3 (MixMid.modRow ⟨256 * t.val + r.val, by have := tlt t; omega⟩) a k := by
    blk_ext [idx_10 t]
    show _ = if 256 * t.val + r.val < 4096 then 0 else (256 * t.val + r.val - 4096) / 2048 + 1
    split_ifs <;> omega
  exact (congrArg (V m c main_arg5) e).trans (congrFun (V_main_arg5 m c) _)
theorem blk_11 (c : Dev nD) (t : Fin cfg0.N) (a : Fin 3) (k : Fin 512) :
    iblk m c 11 t (ix2 a k) = m ((c : Thread nD τ).loc main_arg6) (ix2 a k) := by
  have ht := tlt t
  have e : (win0_11.blk t).view.emb (ix2 a k) = ix2 a k := by blk_ext [idx_11 t]
  exact (congrArg (V m c main_arg6) e).trans (congrFun (V_main_arg6 m c) _)
theorem blk_12 (c : Dev nD) (t : Fin cfg0.N) (a : Fin 2) (k : Fin 512) :
    iblk m c 12 t (ix2 a k) = m ((c : Thread nD τ).loc main_arg7) (ix2 a k) := by
  have ht := tlt t
  have e : (win0_12.blk t).view.emb (ix2 a k) = ix2 a k := by blk_ext [idx_12 t]
  exact (congrArg (V m c main_arg7) e).trans (congrFun (V_main_arg7 m c) _)
theorem blk_13 (c : Dev nD) (t : Fin cfg0.N) (a : Fin 2) (l : Fin 64) (k : Fin 512) :
    iblk m c 13 t (ix3 a l k) = m ((c : Thread nD τ).loc main_arg8) (ix3 a l k) := by
  have ht := tlt t
  have e : (win0_13.blk t).view.emb (ix3 a l k) = ix3 a l k := by blk_ext [idx_13 t]
  exact (congrArg (V m c main_arg8) e).trans (congrFun (V_main_arg8 m c) _)
theorem blk_14 (c : Dev nD) (t : Fin cfg0.N) (a : Fin 128) (k : Fin 512) :
    iblk m c 14 t (ix2 a k) = m ((c : Thread nD τ).loc main_arg9) (ix2 a k) := by
  have ht := tlt t
  have e : (win0_14.blk t).view.emb (ix2 a k) = ix2 a k := by blk_ext [idx_14 t]
  exact (congrArg (V m c main_arg9) e).trans (congrFun (V_main_arg9 m c) _)
theorem blk_21 (c : Dev nD) (t : Fin cfg0.N) (a : Fin 512) (k : Fin 1024) :
    iblk m c 21 t (ix2 a k) = m ((c : Thread nD τ).loc main_arg14) (ix2 a k) := by
  have ht := tlt t
  have e : (win0_21.blk t).view.emb (ix2 a k) = ix2 a k := by blk_ext [idx_21 t]
  exact (congrArg (V m c main_arg14) e).trans (congrFun (V_main_arg14 m c) _)
theorem blk_22 (c : Dev nD) (t : Fin cfg0.N) (a : Fin 512) (k : Fin 1024) :
    iblk m c 22 t (ix2 a k) = m ((c : Thread nD τ).loc main_arg15) (ix2 a k) := by
  have ht := tlt t
  have e : (win0_22.blk t).view.emb (ix2 a k) = ix2 a k := by blk_ext [idx_22 t]
  exact (congrArg (V m c main_arg15) e).trans (congrFun (V_main_arg15 m c) _)
theorem blk_23 (c : Dev nD) (t : Fin cfg0.N) (a : Fin 512) (k : Fin 1024) :
    iblk m c 23 t (ix2 a k) = m ((c : Thread nD τ).loc main_arg16) (ix2 a k) := by
  have ht := tlt t
  have e : (win0_23.blk t).view.emb (ix2 a k) = ix2 a k := by blk_ext [idx_23 t]
  exact (congrArg (V m c main_arg16) e).trans (congrFun (V_main_arg16 m c) _)
theorem blk_24 (c : Dev nD) (t : Fin cfg0.N) (a k : Fin 1024) :
    iblk m c 24 t (ix2 a k) = m ((c : Thread nD τ).loc main_arg17) (ix2 a k) := by
  have ht := tlt t
  have e : (win0_24.blk t).view.emb (ix2 a k) = ix2 a k := by blk_ext [idx_24 t]
  exact (congrArg (V m c main_arg17) e).trans (congrFun (V_main_arg17 m c) _)
theorem row_v14 (c : Dev nD) : V m c main_v14 = shapeCast S1x512 (m ((c : Thread nD τ).loc main_arg10)) shapeCasts_S512_S1x512 := by
  unfold_abbrev_sides
  after_results
  rfl
theorem blk_15 (c : Dev nD) (t : Fin cfg0.N) (k : Fin 512) : iblk m c 15 t (ix2 0 k) = m ((c : Thread nD τ).loc main_arg10) (ix1 k) := by
  have e : (win0_15.blk t).view.emb (ix2 0 k) = ix2 0 k := by blk_ext [idx_15 t]
  refine (congrArg (V m c main_v14) e).trans ?_
  rw [row_v14]
  pointwise
theorem row_v15 (c : Dev nD) : V m c main_v15 = shapeCast S1x512 (m ((c : Thread nD τ).loc main_arg11)) shapeCasts_S512_S1x512 := by
  unfold_abbrev_sides
  after_results
  rfl
theorem blk_16 (c : Dev nD) (t : Fin cfg0.N) (k : Fin 512) : iblk m c 16 t (ix2 0 k) = m ((c : Thread nD τ).loc main_arg11) (ix1 k) := by
  have e : (win0_16.blk t).view.emb (ix2 0 k) = ix2 0 k := by blk_ext [idx_16 t]
  refine (congrArg (V m c main_v15) e).trans ?_
  rw [row_v15]
  pointwise
theorem row_v16 (c : Dev nD) : V m c main_v16 = shapeCast S1x512 (m ((c : Thread nD τ).loc main_arg12)) shapeCasts_S512_S1x512 := by
  unfold_abbrev_sides
  after_results
  rfl
theorem blk_17 (c : Dev nD) (t : Fin cfg0.N) (k : Fin 512) : iblk m c 17 t (ix2 0 k) = m ((c : Thread nD τ).loc main_arg12) (ix1 k) := by
  have e : (win0_17.blk t).view.emb (ix2 0 k) = ix2 0 k := by blk_ext [idx_17 t]
  refine (congrArg (V m c main_v16) e).trans ?_
  rw [row_v16]
  pointwise
theorem row_v17 (c : Dev nD) : V m c main_v17 = shapeCast S1x512 (m ((c : Thread nD τ).loc main_arg13)) shapeCasts_S512_S1x512 := by
  unfold_abbrev_sides
  after_results
  rfl
theorem blk_18 (c : Dev nD) (t : Fin cfg0.N) (k : Fin 512) : iblk m c 18 t (ix2 0 k) = m ((c : Thread nD τ).loc main_arg13) (ix1 k) := by
  have e : (win0_18.blk t).view.emb (ix2 0 k) = ix2 0 k := by blk_ext [idx_18 t]
  refine (congrArg (V m c main_v17) e).trans ?_
  rw [row_v17]
  pointwise

/-- The matrix that marks the columns of the same head, and the same over the number of a head's columns. -/
def ones : FVec Ideal S512x512 .bf16 :=
  truncf .bf16 (shapeCast S512x512 (broadcastInDim S8x64x8x64 ![0, 1, 2, 3] bcast_S8x1x8x1_S8x64x8x64_0_1_2_3
    (broadcastInDim S8x1x8x1 ![0, 2] bcast_S8x8_S8x1x8x1_0_2
      (uitofp (F := Ideal) .f32 (cmpi .eq (addi (iotaInDim S8x8 32 0) (broadcastInDim S8x8 ![] bcast_S_S8x8 (constantI S_ 32 0#32))) (iotaInDim S8x8 32 1)))))
    shapeCasts_S8x64x8x64_S512x512) bitsLt_bf16_f32
def mean : FVec Ideal S512x512 .bf16 :=
  truncf .bf16 (Host.divf (extf .f32 ones bitsLt_bf16_f32) (broadcastInDim S512x512 ![] bcast_S_S512x512 (constant S_ .f32 0x42800000#32))) bitsLt_bf16_f32

theorem host_ones (c : Dev nD) : V m c main_v9 = ones := by
  unfold_abbrev_sides
  after_results
  rfl
theorem host_mean (c : Dev nD) : V m c main_v13 = mean := by
  unfold_abbrev_sides
  after_results
  rfl

theorem eye : ∀ a b : Fin 8, IntOp.cmpi .eq (IntOp.addi (BitVec.ofNat 32 a.val) 0#32) (BitVec.ofNat 32 b.val) = if a = b then 1#1 else 0#1 := by decide +kernel

theorem ones_at (l k : Fin 512) : ones (ix2 l k) = if MixMid.headOf l = MixMid.headOf k then 1 else 0 := by
  unfold ones
  pointwise
  refine (congrArg (FloatOps.uitofp (F := Ideal) FTy.f32) (eye (MixMid.headOf l) (MixMid.headOf k))).trans ?_
  split_ifs
  · show (((1#1 : BitVec 1).toNat : ℝ) : EReal) = 1
    simp
  · show (((0#1 : BitVec 1).toNat : ℝ) : EReal) = 0
    simp
theorem mean_at (l k : Fin 512) : mean (ix2 l k) = Ideal.div (if MixMid.headOf l = MixMid.headOf k then 1 else 0) MixMid.c64 := by
  have h := ones_at l k
  unfold mean
  generalize ones = y at h
  pointwise [h]

theorem blk_19 (c : Dev nD) (t : Fin cfg0.N) (l k : Fin 512) : iblk m c 19 t (ix2 l k) = (if MixMid.headOf l = MixMid.headOf k then 1 else 0 : EReal) := by
  have e : (win0_19.blk t).view.emb (ix2 l k) = ix2 l k := by blk_ext [idx_19 t]
  refine (congrArg (V m c main_v9) e).trans ?_
  rw [host_ones, ones_at]
theorem blk_20 (c : Dev nD) (t : Fin cfg0.N) (l k : Fin 512) :
    iblk m c 20 t (ix2 l k) = Ideal.div (if MixMid.headOf l = MixMid.headOf k then 1 else 0) MixMid.c64 := by
  have e : (win0_20.blk t).view.emb (ix2 l k) = ix2 l k := by blk_ext [idx_20 t]
  refine (congrArg (V m c main_v13) e).trans ?_
  rw [host_mean, mean_at]

end Cert.MixIdeal.Out
-- ==== Proof.MixOut.lean ====
/- What the mix of the three branches leaves in its output array, from the arrays it reads. -/
module

public import proofs.«01_k».proof.Proof.MixRead

@[expose] public section

set_option maxRecDepth 16384

noncomputable section

open Idealize.ShloMosaic Idealize.ShloMosaic.TcCoe Idealize.SL.Sem
open Idealize.ShloMosaic.Pipeline (Dat)

namespace Cert.MixIdeal.Out

open Cert.MixIdeal Cert.MixIdeal.Gen Cert.MixIdeal.Run

variable (m : (ℓ : Loc nD τ sig) → Buf (Elt Ideal) ℓ) (ρ : Dev nD → PrngReg)

/-- The rows that a tile stores, entry by entry. -/
theorem rows_at (c : Dev nD) (hz : ∀ (r : Fin 20480) (k : Fin 1024), ∃ a : ℝ, m ((c : Thread nD τ).loc main_arg1) (ix2 r ⟨k.val, by omega⟩) = (a : EReal))
    (hp : ∀ (r : Fin 20480) (k : Fin 512), ∃ a : ℝ, m ((c : Thread nD τ).loc main_arg2) (ix2 r k) = (a : EReal)) (hq : ∀ (r : Fin 20480) (k : Fin 512), ∃ a : ℝ, m ((c : Thread nD τ).loc main_arg3) (ix2 r k) = (a : EReal))
    (hka : ∀ k : Fin 512, ∃ a : ℝ, m ((c : Thread nD τ).loc main_arg10) (ix1 k) = (a : EReal)) (hrk : ∀ k : Fin 512, ∃ a : ℝ, m ((c : Thread nD τ).loc main_arg11) (ix1 k) = (a : EReal))
    (t : Fin cfg0.N) (r : Fin 256) (k : Fin 1024) :
    rows m c t (ix2 r k) = MixMid.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
      ⟨256 * t.val + r.val, by have := tlt t; omega⟩ k := by
  have ht := tlt t
  have hl : ∀ k, MixMid.len k = 256 ∨ MixMid.len k = 2048 := fun k => by unfold MixMid.len; split <;> simp
  unfold rows Run.out
  refine MixPay.out_at _ _ _ _ _ _ _ _ _ _ _ _ _ _ _ _ _ _ _ r _ _ _ _ (fun k => ?_) (blk_0 m c t r) (blk_10 m c t r 2) (blk_24 m c t) k
  refine MixPay.merged_at _ _ _ _ _ _ _ _ _ _ _ _ _ _ _ _ r _ _ _ _ _ _ _ (fun k => ?_) (fun k => ?_) (blk_6 m c t r) (blk_9 m c t r) (blk_21 m c t) (blk_22 m c t) (blk_23 m c t) k
  · refine MixPay.conv_at _ _ _ t.val ht r _ _ _ _ (begins t) (ends t) (blk_1 m c t) (fun h => blk_2 m c t fun h0 => h ?_) (fun h => blk_3 m c t fun h0 => h ?_) (blk_11 m c t) k
    · rw [h0]; simp
    · rw [h0]; decide
  · exact MixPay.heads_at _ _ _ _ _ _ _ _ _ _ _ r hz hka hrk hp hq _ _ _ _ _ _ _ _ _ _ _ _ _ (blk_4 m c t r) (blk_5 m c t r) (blk_7 m c t r) (blk_8 m c t r) (blk_12 m c t)
      (blk_13 m c t) (blk_14 m c t) (blk_15 m c t) (blk_16 m c t) (blk_17 m c t) (blk_18 m c t) (blk_19 m c t) (blk_20 m c t) k

theorem final (c : Dev nD) (hz : ∀ (r : Fin 20480) (k : Fin 1024), ∃ a : ℝ, m ((c : Thread nD τ).loc main_arg1) (ix2 r ⟨k.val, by omega⟩) = (a : EReal))
    (hp : ∀ (r : Fin 20480) (k : Fin 512), ∃ a : ℝ, m ((c : Thread nD τ).loc main_arg2) (ix2 r k) = (a : EReal)) (hq : ∀ (r : Fin 20480) (k : Fin 512), ∃ a : ℝ, m ((c : Thread nD τ).loc main_arg3) (ix2 r k) = (a : EReal))
    (hka : ∀ k : Fin 512, ∃ a : ℝ, m ((c : Thread nD τ).loc main_arg10) (ix1 k) = (a : EReal)) (hrk : ∀ k : Fin 512, ∃ a : ℝ, m ((c : Thread nD τ).loc main_arg11) (ix1 k) = (a : EReal)) :
    (dats m 0 c).arrAt 25 cfg0.N = MixMid.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (dats m 0 c).arrAt_eq_of_covers 25 _ (by decide +kernel) fun t hf y => ?_
  blk_simp
  rw [after_25]
  frame_out
  obtain ⟨r, k, rfl⟩ : ∃ (r : Fin 256) (k : Fin 1024), y = ix2 r k := ⟨y 0, y 1, eq_ix2 y⟩
  have ht := tlt t
  have e : (win0_25.blk t).view.emb (ix2 r k) = ix2 ⟨256 * t.val + r.val, by omega⟩ k := by
    blk_ext [idx_25 t]
  refine Eq.trans ?_ (congrArg (MixMid.G _ _ _ _ _ _ _ _ _ _ _ _ _ _ _ _ _ _) e.symm)
  exact rows_at m c hz hp hq hka hrk t r k

end Cert.MixIdeal.Out
-- ==== Proof.MixRef.lean ====
/- The reference of the mix, entry by entry: its convolution over padded sequences, its norms and bonuses over the heads as an
   axis of their own, its gates and products are the mix's. -/
module

public import proofs.«01_k».proof.Proof.MixMid
public import proofs.«01_k».proof.Proof.Gen.MixRefIdeal.Read

@[expose] public section

set_option maxRecDepth 16384

noncomputable section

open Idealize.ShloMosaic Idealize.ShloMosaic.TcCoe Idealize.SL.Sem

namespace Cert.MixRefIdeal.Pt

open Cert.MixRefIdeal Cert.MixRefIdeal.Read Cert.MixMid

variable (x : Vec Ideal S20480x1024 .f32) (z : Vec Ideal S20480x7296 .f32) (p q : Vec Ideal S20480x512 .f32) (ya : Vec Ideal S20480x512 .bf16)
  (mo : Vec Ideal S16x6x1024 .f32) (cw : Vec Ideal S3x512 .f32) (a0 : Vec Ideal S2x512 .f32) (a2 : Vec Ideal S2x64x512 .f32) (g2 : Vec Ideal S128x512 .f32)
  (ka rk lg lb : Vec Ideal S512 .f32) (wa wb wc : Vec Ideal S512x1024 .bf16) (wo : Vec Ideal S1024x1024 .bf16)

theorem col_mk (h : Fin 8) (j : Fin 64) (hh : h.val * 64 + j.val < 512) : (⟨h.val * 64 + j.val, hh⟩ : Fin 512) = col h j :=
  Fin.ext (by show h.val * 64 + j.val = 64 * h.val + j.val; omega)

theorem mu_at (r : Fin 20480) (h : Fin 8) : val_main_v73 (F := Ideal) p q (ix3 r h 0) = mu p q r h := by
  unfold val_main_v73 val_main_v72 val_main_v71 val_main_v70 val_main_v69 val_main_v68 val_main_cst val_main_cst_1 mu o
  pointwise [col_mk]

theorem dl_at (r : Fin 20480) (h : Fin 8) (j : Fin 64) : val_main_v75 (F := Ideal) p q (ix3 r h j) = dl p q r (col h j) := by
  have hm := mu_at p q r h
  unfold val_main_v75 val_main_v74 val_main_v69 val_main_v68 dl o
  generalize val_main_v73 (F := Ideal) p q = y at hm
  pointwise [hm, col_mk, headOf_col]

theorem vr_at (r : Fin 20480) (h : Fin 8) : val_main_v80 (F := Ideal) p q (ix3 r h 0) = vr p q r h := by
  have hm := dl_at p q r h
  unfold val_main_v80 val_main_v79 val_main_v78 val_main_v77 val_main_v76 val_main_cst_2 val_main_cst_3 vr
  generalize val_main_v75 (F := Ideal) p q = y at hm
  pointwise [hm]

theorem normed_at (r : Fin 20480) (c : Fin 512) : val_main_v94 (F := Ideal) p q lg lb (ix2 r c) = normed p q lg lb r c := by
  have hd : ∀ h j, val_main_v82 (F := Ideal) p q (ix3 r h j) = dl p q r (col h j) := fun h j => dl_at p q r h j
  have hv := vr_at p q r
  unfold val_main_v94 val_main_v93 val_main_v92 val_main_v91 val_main_v90 val_main_v89 val_main_v88 val_main_v87 val_main_v86 val_main_v85 val_main_v84 val_main_v83
    val_main_cst_4 normed
  generalize val_main_v82 (F := Ideal) p q = y at hd
  generalize val_main_v80 (F := Ideal) p q = w at hv
  pointwise [hd, hv]
  rw [show col ⟨c.val / 64, by omega⟩ ⟨c.val % 64, by omega⟩ = c from Fin.ext (by show 64 * (c.val / 64) + c.val % 64 = c.val; omega)]
  rfl

theorem rate0_at (r : Fin 20480) (c : Fin 512) : val_main_v108 (F := Ideal) z a0 a2 (ix2 r c) = rate z a0 a2 0 r c := by
  unfold val_main_v108 val_main_v107 val_main_v106 val_main_v105 val_main_v104 val_main_v103 val_main_v102 val_main_v101 val_main_v100 val_main_v99 val_main_v98 val_main_v97
    val_main_v96 val_main_v95 val_main_v9 val_main_cst_5 val_main_cst_6 rate lgs
  pointwise

theorem rate1_at (r : Fin 20480) (c : Fin 512) : val_main_v140 (F := Ideal) z a0 a2 (ix2 r c) = rate z a0 a2 1 r c := by
  unfold val_main_v140 val_main_v139 val_main_v138 val_main_v137 val_main_v136 val_main_v135 val_main_v134 val_main_v133 val_main_v132 val_main_v131 val_main_v130 val_main_v129
    val_main_v128 val_main_v127 val_main_v10 val_main_cst_10 val_main_cst_11 rate lgs
  pointwise

theorem zero_bits : (FloatOps.sitofp FTy.f32 (0#32 : BitVec 32) : Ideal .f32) = (0 : EReal) := by
  show (((0#32 : BitVec 32).toInt : ℝ) : EReal) = 0
  simp

/-- The convolution in the context's sequences, and in the latent ones. -/
theorem ctx_conv_at (s : Fin 16) (l : Fin 256) (c : Fin 512) : val_main_v38 (F := Ideal) z cw (ix3 s l c) = conv z cw ⟨s.val * 256 + l.val, by omega⟩ c := by
  have hl : len (s.val * 256 + l.val) = 256 := if_pos (by omega)
  unfold val_main_v38 val_main_v37 val_main_v36 val_main_v35 val_main_v34 val_main_v33 val_main_v32 val_main_v31 val_main_v30 val_main_v29 val_main_v28 val_main_v27 val_main_v26
    val_main_v25 val_main_v24 val_main_v23 val_main_v22 val_main_v21 val_main_v20 val_main_v19 val_main_v18 val_main_v17 val_main_v16 val_main_call0_v0 val_main_c val_main_v15 val_main_v14
    val_main_v13 val_main_v12 val_main_v5 val_main_v4 val_main_v3 conv before behind u
  pointwise
  simp only [hl, zero_bits]
  congr 2
  · congr 2
    by_cases h : l.val = 0
    · have h1 : ¬ (1 ≤ l.val ∧ l.val - 1 < 256) := by omega
      have h2 : (s.val * 256 + l.val) % 256 = 0 := by omega
      rw [dif_neg h1, if_pos h2]
    · have h1 : 1 ≤ l.val ∧ l.val - 1 < 256 := by omega
      have h2 : ¬ (s.val * 256 + l.val) % 256 = 0 := by omega
      rw [dif_pos h1, if_neg h2]
      have e : s.val * 256 + (l.val - 1) = s.val * 256 + l.val - 1 := by omega
      simp only [e]
  · congr 1
    by_cases h : l.val = 255
    · have h1 : ¬ (1 ≤ 2 + l.val ∧ 2 + l.val - 1 < 256) := by omega
      have h2 : (s.val * 256 + l.val + 1) % 256 = 0 := by omega
      rw [dif_neg h1, if_pos h2]
    · have h1 : 1 ≤ 2 + l.val ∧ 2 + l.val - 1 < 256 := by omega
      have h2 : ¬ (s.val * 256 + l.val + 1) % 256 = 0 := by omega
      refine (dif_pos h1).trans (Eq.trans ?_ (if_neg h2).symm)
      have e : s.val * 256 + (2 + l.val - 1) = (s.val * 256 + l.val + 1) % 20480 := by omega
      simp only [e]

theorem lat_conv_at (s : Fin 8) (l : Fin 2048) (c : Fin 512) : val_main_v65 (F := Ideal) z cw (ix3 s l c) = conv z cw ⟨4096 + (s.val * 2048 + l.val), by omega⟩ c := by
  have hl : len (4096 + (s.val * 2048 + l.val)) = 2048 := if_neg (by omega)
  unfold val_main_v65 val_main_v64 val_main_v63 val_main_v62 val_main_v61 val_main_v60 val_main_v59 val_main_v58 val_main_v57 val_main_v56 val_main_v55 val_main_v54 val_main_v53
    val_main_v52 val_main_v51 val_main_v50 val_main_v49 val_main_v48 val_main_v47 val_main_v46 val_main_v45 val_main_v44 val_main_v43 val_main_call1_v0 val_main_c_0 val_main_v42 val_main_v41
    val_main_v40 val_main_v12 val_main_v5 val_main_v4 val_main_v3 conv before behind u
  pointwise
  simp only [hl, zero_bits]
  congr 2
  · congr 2
    by_cases h : l.val = 0
    · have h1 : ¬ (1 ≤ l.val ∧ l.val - 1 < 2048) := by omega
      have h2 : (4096 + (s.val * 2048 + l.val)) % 2048 = 0 := by omega
      rw [dif_neg h1, if_pos h2]
    · have h1 : 1 ≤ l.val ∧ l.val - 1 < 2048 := by omega
      have h2 : ¬ (4096 + (s.val * 2048 + l.val)) % 2048 = 0 := by omega
      rw [dif_pos h1, if_neg h2]
      have e : 4096 + (s.val * 2048 + (l.val - 1)) = 4096 + (s.val * 2048 + l.val) - 1 := by omega
      simp only [e]
  · congr 1
    by_cases h : l.val = 2047
    · have h1 : ¬ (1 ≤ 2 + l.val ∧ 2 + l.val - 1 < 2048) := by omega
      have h2 : (4096 + (s.val * 2048 + l.val) + 1) % 2048 = 0 := by omega
      rw [dif_neg h1, if_pos h2]
    · have h1 : 1 ≤ 2 + l.val ∧ 2 + l.val - 1 < 2048 := by omega
      have h2 : ¬ (4096 + (s.val * 2048 + l.val) + 1) % 2048 = 0 := by omega
      refine (dif_pos h1).trans (Eq.trans ?_ (if_neg h2).symm)
      have e : 4096 + (s.val * 2048 + (2 + l.val - 1)) = (4096 + (s.val * 2048 + l.val) + 1) % 20480 := by omega
      simp only [e]

theorem conv_at (r : Fin 20480) (c : Fin 512) : val_main_v67 (F := Ideal) z cw (ix2 r c) = conv z cw r c := by
  have h1 := ctx_conv_at z cw
  have h2 := lat_conv_at z cw
  unfold val_main_v67 val_main_v66 val_main_v39
  generalize val_main_v38 (F := Ideal) z cw = y at h1
  generalize val_main_v65 (F := Ideal) z cw = w at h2
  pointwise [h1, h2]
  split_ifs
  · exact congrArg (fun i => conv z cw i c) (Fin.ext (by dsimp only; omega))
  · exact congrArg (fun i => conv z cw i c) (Fin.ext (by dsimp only; omega))
  · rename_i h; exact absurd rfl h

theorem prod0_at (r : Fin 20480) (c : Fin 512) : val_main_v120 (F := Ideal) z a0 a2 ka rk (ix2 r c) = MixMid.prod z a0 a2 ka rk 0 r c := by
  have h := rate0_at z a0 a2 r
  unfold val_main_v120 val_main_v119 val_main_v118 val_main_v117 val_main_v116 val_main_v115 val_main_v114 val_main_v113 val_main_v112 val_main_v111 val_main_v110 val_main_v109
    val_main_v1 val_main_v0 val_main_cst_7 val_main_cst_8 MixMid.prod
  generalize val_main_v108 (F := Ideal) z a0 a2 = y at h
  pointwise [h]

theorem prod1_at (r : Fin 20480) (c : Fin 512) : val_main_v152 (F := Ideal) z a0 a2 ka rk (ix2 r c) = MixMid.prod z a0 a2 ka rk 1 r c := by
  have h := rate1_at z a0 a2 r
  unfold val_main_v152 val_main_v151 val_main_v150 val_main_v149 val_main_v148 val_main_v147 val_main_v146 val_main_v145 val_main_v144 val_main_v143 val_main_v142 val_main_v141
    val_main_v1 val_main_v0 val_main_cst_12 val_main_cst_13 MixMid.prod
  generalize val_main_v140 (F := Ideal) z a0 a2 = y at h
  pointwise [h]

theorem bonus_at (r : Fin 20480) (h : Fin 8) (j : Fin 64) : val_main_v159 (F := Ideal) z a0 a2 ka rk (ix3 r h j)
    = bonus z a0 a2 ka rk 0 r h * z (ix2 r ⟨1024 + (col h j).val, by omega⟩) + bonus z a0 a2 ka rk 1 r h * z (ix2 r ⟨1024 + (col h j).val, by omega⟩) := by
  have h0 := prod0_at z a0 a2 ka rk r
  have h1 := prod1_at z a0 a2 ka rk r
  unfold val_main_v159 val_main_v158 val_main_v157 val_main_v156 val_main_v155 val_main_v154 val_main_v153 val_main_v126 val_main_v125 val_main_v124 val_main_v123 val_main_v122
    val_main_v121 val_main_v2 val_main_cst_9 val_main_cst_14 bonus
  generalize val_main_v120 (F := Ideal) z a0 a2 ka rk = y at h0
  generalize val_main_v152 (F := Ideal) z a0 a2 ka rk = w at h1
  pointwise [h0, h1, col_mk]

theorem col_headOf (c : Fin 512) : col ⟨c.val / 64, by omega⟩ ⟨c.val % 64, by omega⟩ = c :=
  Fin.ext (by show 64 * (c.val / 64) + c.val % 64 = c.val; omega)

theorem heads_at (r : Fin 20480) (c : Fin 512) : val_main_v169 (F := Ideal) z p q a0 a2 g2 ka rk lg lb (ix2 r c) = heads z p q a0 a2 g2 ka rk lg lb r c := by
  have hn := normed_at p q lg lb r
  have hb := bonus_at z a0 a2 ka rk r
  unfold val_main_v169 val_main_v168 val_main_v167 val_main_v166 val_main_v165 val_main_v164 val_main_v163 val_main_v162 val_main_v161 val_main_v160 val_main_v11
    val_main_cst_15 val_main_cst_16 heads lgs
  generalize val_main_v94 (F := Ideal) p q lg lb = y at hn
  generalize val_main_v159 (F := Ideal) z a0 a2 ka rk = w at hb
  pointwise [hn, hb]
  simp only [col_headOf]
  rfl

theorem merged_at (r : Fin 20480) (k : Fin 1024) : val_main_v199 (F := Ideal) z p q ya cw a0 a2 g2 ka rk lg lb wa wb wc (ix2 r k)
    = merged z p q ya cw a0 a2 g2 ka rk lg lb wa wb wc r k := by
  have hc := conv_at z cw r
  have hh := heads_at z p q a0 a2 g2 ka rk lg lb r
  unfold val_main_v199 val_main_v198 val_main_v197 val_main_v196 val_main_v195 val_main_v194 val_main_v193 val_main_v192 val_main_v191 val_main_v190 val_main_v189 val_main_v188
    val_main_v187 val_main_v186 val_main_v185 val_main_v184 val_main_v183 val_main_v182 val_main_v181 val_main_v180 val_main_v179 val_main_v178 val_main_v177 val_main_v176
    val_main_v175 val_main_v174 val_main_v173 val_main_v172 val_main_v171 val_main_v170 val_main_v6 val_main_v7 val_main_v8 val_main_cst_17 val_main_cst_18 val_main_cst_19
    val_main_cst_20 val_main_cst_21 val_main_cst_22 merged lgs
  generalize val_main_v67 (F := Ideal) z cw = y at hc
  generalize val_main_v169 (F := Ideal) z p q a0 a2 g2 ka rk lg lb = w at hh
  pointwise [hc, hh]

theorem gate_at (r : Fin 20480) (k : Fin 1024) : val_main_v210 (F := Ideal) mo (ix2 r k) = mo (ix3 (modRow r) 2 k) := by
  unfold val_main_v210 val_main_v209 val_main_v208 val_main_v207 val_main_v206 val_main_v205 val_main_v204 val_main_v203 val_main_v202 val_main_v201 val_main_v200
  pointwise
  split_ifs with h h'
  · exact congrArg (fun i => mo (ix3 i 2 k)) (Fin.ext (if_pos h).symm)
  all_goals first | exact absurd rfl h' | skip
  all_goals exact congrArg (fun i => mo (ix3 i 2 k)) (Fin.ext ((Nat.add_comm _ _).trans (if_neg h).symm))

theorem val_eq : val_main_v214 (F := Ideal) x z p q ya mo cw a0 a2 g2 ka rk lg lb wa wb wc wo = G x z p q ya mo cw a0 a2 g2 ka rk lg lb wa wb wc wo := by
  funext i
  obtain ⟨r, k, rfl⟩ : ∃ (r : Fin 20480) (k : Fin 1024), i = ix2 r k := ⟨i 0, i 1, eq_ix2 i⟩
  have hm := merged_at z p q ya cw a0 a2 g2 ka rk lg lb wa wb wc r
  have hg := gate_at mo r
  unfold val_main_v214 val_main_v213 val_main_v212 val_main_v211 G out
  generalize val_main_v199 (F := Ideal) z p q ya cw a0 a2 g2 ka rk lg lb wa wb wc = y at hm
  generalize val_main_v210 (F := Ideal) mo = w at hg
  pointwise [hm, hg]

end Cert.MixRefIdeal.Pt

end
-- ==== Proof.MixPre.lean ====
/- What the mix's precondition says of its arguments: the values that its head sums run over are real. -/
module

public import proofs.«01_k».proof.Proof.Gen.Pre_finite_heads
public import proofs.«01_k».proof.Pre_finite_heads
public import Idealize.ShloMosaic.Lib.Pointwise
public import Idealize.ShloMosaic.Lib.Pipeline.ValueKit
public import Idealize.ShloMosaic.Lib.ReduceAll

@[expose] public section

set_option maxRecDepth 16384

noncomputable section

open Idealize.ShloMosaic Idealize.ShloMosaic.TcCoe Idealize.SL.Sem

namespace Cert.MixPre

open Cert.Pre_finite_heads

theorem of_pre (x0 : Vec Ideal S20480x1024 .f32) (x1 : Vec Ideal S20480x7296 .f32) (x2 x3 : Vec Ideal S20480x512 .f32) (x4 : Vec Ideal S20480x512 .bf16)
    (x5 : Vec Ideal S16x6x1024 .f32) (x6 : Vec Ideal S3x512 .f32) (x7 : Vec Ideal S2x512 .f32) (x8 : Vec Ideal S2x64x512 .f32) (x9 : Vec Ideal S128x512 .f32)
    (x10 x11 x12 x13 : Vec Ideal S512 .f32) (x14 x15 x16 : Vec Ideal S512x1024 .bf16) (x17 : Vec Ideal S1024x1024 .bf16)
    (h : fn (F := Ideal) x0 x1 x2 x3 x4 x5 x6 x7 x8 x9 x10 x11 x12 x13 x14 x15 x16 x17 = fun _ => 1#1) :
    (∀ (r : Fin 20480) (k : Fin 1024), ∃ a : ℝ, x1 (ix2 r ⟨k.val, by omega⟩) = (a : EReal))
      ∧ (∀ (r : Fin 20480) (k : Fin 512), ∃ a : ℝ, x2 (ix2 r k) = (a : EReal)) ∧ (∀ (r : Fin 20480) (k : Fin 512), ∃ a : ℝ, x3 (ix2 r k) = (a : EReal))
      ∧ (∀ k : Fin 512, ∃ a : ℝ, x10 (ix1 k) = (a : EReal)) ∧ ∀ k : Fin 512, ∃ a : ℝ, x11 (ix1 k) = (a : EReal) := by
  have real : ∀ x : EReal, BitVec.ofBool (decide (max x (-x) < (⊤ : EReal))) = 1#1 → ∃ r : ℝ, x = r := fun x hx => by
    have hx : max x (-x) < (⊤ : EReal) := by
      by_contra hn
      simp [hn] at hx
    have h1 : x ≠ ⊤ := (lt_of_le_of_lt (le_max_left _ _) hx).ne
    have h2 : x ≠ ⊥ := fun e => by simp [e] at hx
    exact ⟨x.toReal, (EReal.coe_toReal h1 h2).symm⟩
  have top : Ideal.ofBits .f32 0x7F800000#32 = (⊤ : EReal) := by simp [Ideal.ofBits, Ideal.ieee]
  have hk := IntOp.andi_eq_one.1 (congrFun h (fun a => a.elim0))
  have hp := IntOp.andi_eq_one.1 (IntOp.andi_eq_one.1 hk.2).1
  have hw := IntOp.andi_eq_one.1 (IntOp.andi_eq_one.1 hk.2).2
  refine ⟨fun r k => real _ ?_, fun r k => real _ ?_, fun r k => real _ ?_, fun k => real _ ?_, fun k => real _ ?_⟩
  · have := Host.reduce_andi_all _ _ _ _ _ hk.1 (ix2 r k)
    pointwise at this
    rw [top] at this
    exact this
  · have := Host.reduce_andi_all _ _ _ _ _ hp.1 (ix2 r k)
    pointwise at this
    rw [top] at this
    exact this
  · have := Host.reduce_andi_all _ _ _ _ _ hp.2 (ix2 r k)
    pointwise at this
    rw [top] at this
    exact this
  · have := Host.reduce_andi_all _ _ _ _ _ hw.1 (ix1 k)
    pointwise at this
    rw [top] at this
    exact this
  · have := Host.reduce_andi_all _ _ _ _ _ hw.2 (ix1 k)
    pointwise at this
    rw [top] at this
    exact this

end Cert.MixPre

end
-- ==== Proof.MoeRun.lean ====
/- The experts' kernel body at one grid point, on any staging buffers: what it leaves in the output block and in the two
   scratch buffers that hold the cast weights, in each of its four cases (the block is its expert's first or not; it has
   rows in use or not). -/
module

public import proofs.«01_k».proof.Proof.Gen.MoeIdeal.Skeleton
public import proofs.«01_k».proof.Proof.Gen.MoeIdeal.Launch
public import Idealize.ShloMosaic.Lib.Pipeline.FrameBody
public import Idealize.ShloMosaic.Lib.Pipeline.ValueKit
public import Idealize.ShloMosaic.Lib.Ring
public import Idealize.ShloMosaic.Lib.VecWindow
public import Idealize.ShloMosaic.Lib.Tactic
public import Idealize.ShloMosaic.Lib.WordCmp

@[expose] public section

set_option maxRecDepth 16384
set_option maxHeartbeats 4000000

noncomputable section

namespace Cert.MoeIdeal.Run

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three tables as the body is handed them: each block's expert, whether it is that expert's first, and the number
    of blocks in use. -/
abbrev tabE : Memref sig .tc .smem S352 .i32 := Memref.whole main_arg2
abbrev tabF : Memref sig .tc .smem S352 .i32 := Memref.whole main_arg3
abbrev tabN : Memref sig .tc .smem S1 .i32 := Memref.whole main_arg4

/-- A table's contents, and the table held, read-only, at half of the full share. -/
abbrev TblBuf (c : Dev nD) {S : Shape} {e : EltTy} (M : Memref sig .tc .smem S e) : Type := Buf (Elt F) (M.view.loc (c : Thread nD τ))
abbrev tblHalf (c : Dev nD) {S : Shape} {e : EltTy} (M : Memref sig .tc .smem S e) (f : TblBuf (F := F) c M) : sProp 𝕄 :=
  M.view.loc (c : Thread nD τ) ↦{fullShare.right} f

/-- The word the body reads to know whether the block is its expert's first, and the number of blocks in use. -/
abbrev wordF {c : Dev nD} (i : grid0.Coords) (t1 : TblBuf (F := F) c tabF) : BitVec 32 :=
  tabF.view.readAt (Elt F) (Rect.unit (s := S352) (k0_off1 i) S1.size (k0_off1_inb i)).toLoadRect t1 (Shape.Idx.first (numel1_S1.symm ▸ Nat.one_pos))
abbrev wordN {c : Dev nD} (t2 : TblBuf (F := F) c tabN) : BitVec 32 :=
  tabN.view.readAt (Elt F) (Rect.unit (s := S1) ![0] S1.size inb_S1_S1_0).toLoadRect t2 (Shape.Idx.first (numel1_S1.symm ▸ Nat.one_pos))

/-- The body's test of the first word. -/
abbrev isFirst (v : BitVec 32) : Prop := (Scalar.cmpi .ne (Scalar.extui (Scalar.cmpi .eq v 1#32)) 0#32) = 1#1

/-- A block is in use when its number is below the number of blocks in use. -/
theorem cond2_iff (i : grid0.Coords) (v : BitVec 32) : k0_cond2 i v = 1#1 ↔ (BitVec.ofNat 32 (i 0).val).toInt < v.toInt := by
  unfold k0_cond2
  generalize BitVec.ofNat 32 (i 0).val = a
  by_cases h : a.toInt < v.toInt <;> simp [Scalar.cmpi, Scalar.extui, IntOp.cmpi, BitVec.slt, h]

/-- A block is either in use or not: the last test of the body is the negation of the one before. -/
theorem cond3_iff (i : grid0.Coords) (v : BitVec 32) : k0_cond3 i v = 1#1 ↔ ¬k0_cond2 i v = 1#1 := by
  rw [cond2_iff]
  unfold k0_cond3
  generalize BitVec.ofNat 32 (i 0).val = a
  by_cases h : a.toInt < v.toInt
  · have h' : ¬v.toInt ≤ a.toInt := by omega
    simp [Scalar.cmpi, Scalar.extui, IntOp.cmpi, BitVec.sle, h, h']
  · have h' : v.toInt ≤ a.toInt := by omega
    simp [Scalar.cmpi, Scalar.extui, IntOp.cmpi, BitVec.sle, h']

/-- A block that is its expert's first and has rows in use: the weights are cast into the scratch, then used. -/
theorem run_first_used (c : Dev nD) (i : grid0.Coords) (arg4 : Memref sig .tc .vmem S256x1024 .bf16) (harg4 : arg4.IsWhole) (arg5 : Memref sig .tc .vmem S256x1 .f32) (harg5 : arg5.IsWhole) (arg6 : Memref sig .tc .vmem S1x1024x2048 .f32) (harg6 : arg6.IsWhole) (arg7 : Memref sig .tc .vmem S1x1x2048 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x2048 .bf16) (harg11 : arg11.IsWhole) (arg12 : Memref sig .tc .vmem S1024x1024 .bf16) (harg12 : arg12.IsWhole)
    (x0 : Vec F S256x1024 .bf16) (x1 : Vec F S256x1 .f32) (x2 : Vec F S1x1024x2048 .f32) (x3 : Vec F S1x1x2048 .f32) (x4 : Vec F S1x1024x1024 .f32) (x5 : Vec F S1x1x1024 .f32) (s0 : Vec F S1024x2048 .bf16) (s1 : Vec F S1024x1024 .bf16)
    (t0 : TblBuf (F := F) c tabE) (t1 : TblBuf (F := F) c tabF) (t2 : TblBuf (F := F) c tabN)
    (hf : isFirst (wordF i t1)) (hu : k0_cond2 i (wordN (F := F) t2) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d)
        ∗ owns (c : Thread nD τ) arg11 fullShare s0 ∗ owns (c : Thread nD τ) arg12 fullShare s1 ∗ tblHalf c tabE t0 ∗ tblHalf c tabF t1 ∗ tblHalf c tabN t2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (k0_pay3 (k0_pay5 x0 (k0_pay1 x2) x3 (k0_pay2 x4) x5) x1)
            ∗ owns (c : Thread nD τ) arg11 fullShare (k0_pay1 x2) ∗ owns (c : Thread nD τ) arg12 fullShare (k0_pay2 x4) ∗ tblHalf c tabE t0 ∗ tblHalf c tabF t1 ∗ tblHalf c tabN t2) -∗ K ⟨⟩))
      ⊢ wp frame (wpE (defs₀ (F := F)) Variants.none c none) E (cc0_moe i tabE (Memref.isWhole_whole _) tabF (Memref.isWhole_whole _) tabN (Memref.isWhole_whole _) arg4 harg4 arg5 harg5 arg6 harg6 arg7 harg7 arg8 harg8 arg9 harg9 arg10 harg10 arg11 harg11 arg12 harg12) K := by
  have h3 := (cond3_iff i (wordN (F := F) t2)).not.mpr (not_not.mpr hu)
  simp only [cc0_moe_eq_skeleton]; unfold cc0_moe_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT0, HT1, HT2, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hs0; obtain rfl := harg12.eq_unread hs1
  sl_exec (disch := first | sl_exact hf | sl_exact hu | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro; refine (View.read_writes_full _ _ _ _ _).trans ?_
    frame_out
  isplitl [HS0]
  · iexists _; isplitr
    swap; · iexact HS0
    ipureintro; refine (View.read_writes_full _ _ _ _ _).trans ?_
    frame_out
  isplitl [HS1]
  · iexists _; isplitr
    swap; · iexact HS1
    ipureintro; refine (View.read_writes_full _ _ _ _ _).trans ?_
    frame_out
  isplitl [HT0]; · iexact HT0
  isplitl [HT1]; · iexact HT1
  iexact HT2

/-- A block that is its expert's first and has no row in use: the weights are cast into the scratch, the output is zero. -/
theorem run_first_idle (c : Dev nD) (i : grid0.Coords) (arg4 : Memref sig .tc .vmem S256x1024 .bf16) (harg4 : arg4.IsWhole) (arg5 : Memref sig .tc .vmem S256x1 .f32) (harg5 : arg5.IsWhole) (arg6 : Memref sig .tc .vmem S1x1024x2048 .f32) (harg6 : arg6.IsWhole) (arg7 : Memref sig .tc .vmem S1x1x2048 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x2048 .bf16) (harg11 : arg11.IsWhole) (arg12 : Memref sig .tc .vmem S1024x1024 .bf16) (harg12 : arg12.IsWhole)
    (x0 : Vec F S256x1024 .bf16) (x1 : Vec F S256x1 .f32) (x2 : Vec F S1x1024x2048 .f32) (x3 : Vec F S1x1x2048 .f32) (x4 : Vec F S1x1024x1024 .f32) (x5 : Vec F S1x1x1024 .f32) (s0 : Vec F S1024x2048 .bf16) (s1 : Vec F S1024x1024 .bf16)
    (t0 : TblBuf (F := F) c tabE) (t1 : TblBuf (F := F) c tabF) (t2 : TblBuf (F := F) c tabN)
    (hf : isFirst (wordF i t1)) (hu : ¬k0_cond2 i (wordN (F := F) t2) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d)
        ∗ owns (c : Thread nD τ) arg11 fullShare s0 ∗ owns (c : Thread nD τ) arg12 fullShare s1 ∗ tblHalf c tabE t0 ∗ tblHalf c tabF t1 ∗ tblHalf c tabN t2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (k0_pay4)
            ∗ owns (c : Thread nD τ) arg11 fullShare (k0_pay1 x2) ∗ owns (c : Thread nD τ) arg12 fullShare (k0_pay2 x4) ∗ tblHalf c tabE t0 ∗ tblHalf c tabF t1 ∗ tblHalf c tabN t2) -∗ K ⟨⟩))
      ⊢ wp frame (wpE (defs₀ (F := F)) Variants.none c none) E (cc0_moe i tabE (Memref.isWhole_whole _) tabF (Memref.isWhole_whole _) tabN (Memref.isWhole_whole _) arg4 harg4 arg5 harg5 arg6 harg6 arg7 harg7 arg8 harg8 arg9 harg9 arg10 harg10 arg11 harg11 arg12 harg12) K := by
  have h3 := (cond3_iff i (wordN (F := F) t2)).mpr hu
  simp only [cc0_moe_eq_skeleton]; unfold cc0_moe_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT0, HT1, HT2, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hs0; obtain rfl := harg12.eq_unread hs1
  sl_exec (disch := first | sl_exact hf | sl_exact hu | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro; refine (View.read_writes_full _ _ _ _ _).trans ?_
    frame_out
  isplitl [HS0]
  · iexists _; isplitr
    swap; · iexact HS0
    ipureintro; refine (View.read_writes_full _ _ _ _ _).trans ?_
    frame_out
  isplitl [HS1]
  · iexists _; isplitr
    swap; · iexact HS1
    ipureintro; refine (View.read_writes_full _ _ _ _ _).trans ?_
    frame_out
  isplitl [HT0]; · iexact HT0
  isplitl [HT1]; · iexact HT1
  iexact HT2

/-- A later block of its expert with rows in use: the weights in the scratch are used as they are. -/
theorem run_later_used (c : Dev nD) (i : grid0.Coords) (arg4 : Memref sig .tc .vmem S256x1024 .bf16) (harg4 : arg4.IsWhole) (arg5 : Memref sig .tc .vmem S256x1 .f32) (harg5 : arg5.IsWhole) (arg6 : Memref sig .tc .vmem S1x1024x2048 .f32) (harg6 : arg6.IsWhole) (arg7 : Memref sig .tc .vmem S1x1x2048 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x2048 .bf16) (harg11 : arg11.IsWhole) (arg12 : Memref sig .tc .vmem S1024x1024 .bf16) (harg12 : arg12.IsWhole)
    (x0 : Vec F S256x1024 .bf16) (x1 : Vec F S256x1 .f32) (x2 : Vec F S1x1024x2048 .f32) (x3 : Vec F S1x1x2048 .f32) (x4 : Vec F S1x1024x1024 .f32) (x5 : Vec F S1x1x1024 .f32) (s0 : Vec F S1024x2048 .bf16) (s1 : Vec F S1024x1024 .bf16)
    (t0 : TblBuf (F := F) c tabE) (t1 : TblBuf (F := F) c tabF) (t2 : TblBuf (F := F) c tabN)
    (hf : ¬isFirst (wordF i t1)) (hu : k0_cond2 i (wordN (F := F) t2) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d)
        ∗ owns (c : Thread nD τ) arg11 fullShare s0 ∗ owns (c : Thread nD τ) arg12 fullShare s1 ∗ tblHalf c tabE t0 ∗ tblHalf c tabF t1 ∗ tblHalf c tabN t2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (k0_pay3 (k0_pay5 x0 (s0) x3 (s1) x5) x1)
            ∗ owns (c : Thread nD τ) arg11 fullShare (s0) ∗ owns (c : Thread nD τ) arg12 fullShare (s1) ∗ tblHalf c tabE t0 ∗ tblHalf c tabF t1 ∗ tblHalf c tabN t2) -∗ K ⟨⟩))
      ⊢ wp frame (wpE (defs₀ (F := F)) Variants.none c none) E (cc0_moe i tabE (Memref.isWhole_whole _) tabF (Memref.isWhole_whole _) tabN (Memref.isWhole_whole _) arg4 harg4 arg5 harg5 arg6 harg6 arg7 harg7 arg8 harg8 arg9 harg9 arg10 harg10 arg11 harg11 arg12 harg12) K := by
  have h3 := (cond3_iff i (wordN (F := F) t2)).not.mpr (not_not.mpr hu)
  simp only [cc0_moe_eq_skeleton]; unfold cc0_moe_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT0, HT1, HT2, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hs0; obtain rfl := harg12.eq_unread hs1
  sl_exec (disch := first | sl_exact hf | sl_exact hu | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro; refine (View.read_writes_full _ _ _ _ _).trans ?_
    frame_out
  isplitl [HS0]
  · iexists _; isplitr; · ipureintro; exact harg11.read_unread _
    iexact HS0
  isplitl [HS1]
  · iexists _; isplitr; · ipureintro; exact harg12.read_unread _
    iexact HS1
  isplitl [HT0]; · iexact HT0
  isplitl [HT1]; · iexact HT1
  iexact HT2

/-- A later block of its expert with no row in use: the output is zero. -/
theorem run_later_idle (c : Dev nD) (i : grid0.Coords) (arg4 : Memref sig .tc .vmem S256x1024 .bf16) (harg4 : arg4.IsWhole) (arg5 : Memref sig .tc .vmem S256x1 .f32) (harg5 : arg5.IsWhole) (arg6 : Memref sig .tc .vmem S1x1024x2048 .f32) (harg6 : arg6.IsWhole) (arg7 : Memref sig .tc .vmem S1x1x2048 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S256x1024 .f32) (harg10 : arg10.IsWhole) (arg11 : Memref sig .tc .vmem S1024x2048 .bf16) (harg11 : arg11.IsWhole) (arg12 : Memref sig .tc .vmem S1024x1024 .bf16) (harg12 : arg12.IsWhole)
    (x0 : Vec F S256x1024 .bf16) (x1 : Vec F S256x1 .f32) (x2 : Vec F S1x1024x2048 .f32) (x3 : Vec F S1x1x2048 .f32) (x4 : Vec F S1x1024x1024 .f32) (x5 : Vec F S1x1x1024 .f32) (s0 : Vec F S1024x2048 .bf16) (s1 : Vec F S1024x1024 .bf16)
    (t0 : TblBuf (F := F) c tabE) (t1 : TblBuf (F := F) c tabF) (t2 : TblBuf (F := F) c tabN)
    (hf : ¬isFirst (wordF i t1)) (hu : ¬k0_cond2 i (wordN (F := F) t2) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d)
        ∗ owns (c : Thread nD τ) arg11 fullShare s0 ∗ owns (c : Thread nD τ) arg12 fullShare s1 ∗ tblHalf c tabE t0 ∗ tblHalf c tabF t1 ∗ tblHalf c tabN t2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (k0_pay4)
            ∗ owns (c : Thread nD τ) arg11 fullShare (s0) ∗ owns (c : Thread nD τ) arg12 fullShare (s1) ∗ tblHalf c tabE t0 ∗ tblHalf c tabF t1 ∗ tblHalf c tabN t2) -∗ K ⟨⟩))
      ⊢ wp frame (wpE (defs₀ (F := F)) Variants.none c none) E (cc0_moe i tabE (Memref.isWhole_whole _) tabF (Memref.isWhole_whole _) tabN (Memref.isWhole_whole _) arg4 harg4 arg5 harg5 arg6 harg6 arg7 harg7 arg8 harg8 arg9 harg9 arg10 harg10 arg11 harg11 arg12 harg12) K := by
  have h3 := (cond3_iff i (wordN (F := F) t2)).mpr hu
  simp only [cc0_moe_eq_skeleton]; unfold cc0_moe_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, HT0, HT1, HT2, Hk⟩
  obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hs0; obtain rfl := harg12.eq_unread hs1
  sl_exec (disch := first | sl_exact hf | sl_exact hu | sl_exact h3)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr
    swap; · iexact H6
    ipureintro; refine (View.read_writes_full _ _ _ _ _).trans ?_
    frame_out
  isplitl [HS0]
  · iexists _; isplitr; · ipureintro; exact harg11.read_unread _
    iexact HS0
  isplitl [HS1]
  · iexists _; isplitr; · ipureintro; exact harg12.read_unread _
    iexact HS1
  isplitl [HT0]; · iexact HT0
  isplitl [HT1]; · iexact HT1
  iexact HT2

end Cert.MoeIdeal.Run

end
-- ==== Proof.MoeFrame.lean ====
/- The experts' kernel over its whole grid. Given that every block's expert is one of the table's, and that a block that is
   not its expert's first has the expert of the block before it, the scratch holds the cast weights of the current block's
   expert at every point; so what each point leaves in the output block is a function of its input blocks alone. From that:
   the call runs to the end, leaves its arguments as they were, and its output array is the blocks' results. -/
module

public import proofs.«01_k».proof.Proof.MoeRun
public import Idealize.ShloMosaic.Lib.Claim

@[expose] public section

set_option maxRecDepth 16384

noncomputable section

namespace Cert.MoeIdeal.Run

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The launch -/

/-- The output block of a point is written back at that point, whatever the tables hold. -/
theorem flush_out (a : (pcfg0 (F := F)).Adm) : ∀ t : Fin (cfg0 a).N, ((cfg0 a).win 6).flush t = true :=
  (fun t => (Pipeline.Window.flushOf_reads cc0_transform_6 reads0_6 hreads0_6 0 (by decide) (by decide)
      (Pipeline.Window.sep_of_coord cc0_transform_6 0 0 (fun _ => rfl) (by decide)) (P := 1) (m := 0) (by decide) rfl t).mpr (Nat.mod_one _) :
    ∀ t : Fin grid0.N, Pipeline.Window.flushOf grid0 true cc0_transform_6 t = true)

/-- The body as the pipeline calls it at point `t`. -/
abbrev bodyAt (a : (pcfg0 (F := F)).Adm) (t : Fin (cfg0 a).N) : Prog (TpuEff nD τ sig (Elt F) Λ₀ .tc) PUnit :=
  cc0_moe (grid0.coords t) tabE (Memref.isWhole_whole _) tabF (Memref.isWhole_whole _) tabN (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (Memref.whole cc0_scratch0) (Memref.isWhole_whole _) (Memref.whole cc0_scratch1) (Memref.isWhole_whole _)

variable (m : (l : Loc nD τ sig) → Buf (Elt F) l) (ρ : Dev nD → PrngReg)

/-- The buffers as the call finds them: the reshapes before it done. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem main_prefix (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The reshapes write none but their own results. -/
theorem V_of_ne (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-- The tables' contents; the side condition of the index maps that read them; the pipeline at them. -/
def tbl : pre0.Contents (Elt F) := fun j => V m (0 : Dev nD) (pre0.ref j)
theorem V_tbl (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The body is lent half of each table. -/
theorem tables_eq (c : Dev nD) : (Pipeline.ΦT pre0 (tbl m) c : sProp 𝕄) = iprop(tblHalf c tabE (tbl m 0) ∗ tblHalf c tabF (tbl m 1) ∗ tblHalf c tabN (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The scratch buffers. -/
abbrev scr0 : Memref sig .tc .vmem S1024x2048 .bf16 := Memref.whole cc0_scratch0
abbrev scr1 : Memref sig .tc .vmem S1024x1024 .bf16 := Memref.whole cc0_scratch1

theorem scratch_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## The blocks -/

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The current block of weights, of either layer, and the staging memrefs of a point. -/
abbrev wIn (hO : Ok m) (c : Dev nD) (t : Fin (cfgM m hO).N) : Vec F S1x1024x2048 .f32 := iblk m hO c 2 t
abbrev wOut (hO : Ok m) (c : Dev nD) (t : Fin (cfgM m hO).N) : Vec F S1x1024x1024 .f32 := iblk m hO c 4 t
abbrev stg0 (hO : Ok m) (t : Fin (cfgM m hO).N) : Memref sig .tc .vmem S256x1024 .bf16 := spec0_0.stage ((cfgM m hO).slots t 0)
abbrev stg1 (hO : Ok m) (t : Fin (cfgM m hO).N) : Memref sig .tc .vmem S256x1 .f32 := spec0_1.stage ((cfgM m hO).slots t 1)
abbrev stg2 (hO : Ok m) (t : Fin (cfgM m hO).N) : Memref sig .tc .vmem S1x1024x2048 .f32 := spec0_2.stage ((cfgM m hO).slots t 2)
abbrev stg3 (hO : Ok m) (t : Fin (cfgM m hO).N) : Memref sig .tc .vmem S1x1x2048 .f32 := spec0_3.stage ((cfgM m hO).slots t 3)
abbrev stg4 (hO : Ok m) (t : Fin (cfgM m hO).N) : Memref sig .tc .vmem S1x1024x1024 .f32 := spec0_4.stage ((cfgM m hO).slots t 4)
abbrev stg5 (hO : Ok m) (t : Fin (cfgM m hO).N) : Memref sig .tc .vmem S1x1x1024 .f32 := spec0_5.stage ((cfgM m hO).slots t 5)
abbrev stg6 (hO : Ok m) (t : Fin (cfgM m hO).N) : Memref sig .tc .vmem S256x1024 .f32 := spec0_6.stage ((cfgM m hO).slots t 6)

/-- Whether the block of a point is its expert's first, and whether it has rows in use. -/
abbrev FirstAt (t : Fin grid0.N) : Prop := isFirst (wordF (F := F) (c := 0) (grid0.coords t) (tbl m 1))
abbrev UsedAt (t : Fin grid0.N) : Prop := k0_cond2 (grid0.coords t) (wordN (F := F) (c := 0) (tbl m 2)) = 1#1

/-- A block that is not its expert's first has the weights of the block before it (and there is one). -/
def Held (hO : Ok m) (c : Dev nD) : Prop :=
  ∀ t : Fin (cfgM m hO).N, FirstAt m t ∨ ∃ h : t.val ≠ 0,
    wIn m hO c ⟨t.val - 1, by omega⟩ = wIn m hO c t ∧ wOut m hO c ⟨t.val - 1, by omega⟩ = wOut m hO c t

open Classical in
/-- What a point leaves in its output block. -/
def result (hO : Ok m) (c : Dev nD) (t : Fin (cfgM m hO).N) : Vec F S256x1024 .f32 :=
  if UsedAt m t then
    k0_pay3 (k0_pay5 (iblk m hO c 0 t) (k0_pay1 (wIn m hO c t)) (iblk m hO c 3 t) (k0_pay2 (wOut m hO c t)) (iblk m hO c 5 t)) (iblk m hO c 1 t)
  else k0_pay4

/-- Between points the scratch holds the cast weights of the point just done; before the first, anything. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scr0 fullShare (k0_pay1 (wIn m hO c ⟨n, hn⟩))
        ∗ owns (c : Thread nD τ) scr1 fullShare (k0_pay2 (wOut m hO c ⟨n, hn⟩))) ∗ (∃ r, prngReg c r)) ∗ Pipeline.ΦT pre0 (tbl m) c)

theorem Inv_zero (hO : Ok m) (c : Dev nD) (n : ℕ) (h : n ≤ (cfgM m hO).N) (hz : n = 0) : Inv m hO c n h = iprop(Pipeline.ΦA spec0 c ∗ Pipeline.ΦT pre0 (tbl m) c) := by
  subst hz; rfl

theorem Inv_succ (hO : Ok m) (c : Dev nD) (n : ℕ) (hn : n < (cfgM m hO).N) :
    Inv m hO c (n + 1) hn = iprop(iprop(iprop(owns (c : Thread nD τ) scr0 fullShare (k0_pay1 (wIn m hO c ⟨n, hn⟩))
        ∗ owns (c : Thread nD τ) scr1 fullShare (k0_pay2 (wOut m hO c ⟨n, hn⟩))) ∗ (∃ r, prngReg c r)) ∗ Pipeline.ΦT pre0 (tbl m) c) := rfl

theorem Inv_pos (hO : Ok m) (c : Dev nD) (n : ℕ) (h : n ≤ (cfgM m hO).N) (hz : n ≠ 0) :
    Inv m hO c n h = iprop(iprop(iprop(owns (c : Thread nD τ) scr0 fullShare (k0_pay1 (wIn m hO c ⟨n - 1, by omega⟩))
        ∗ owns (c : Thread nD τ) scr1 fullShare (k0_pay2 (wOut m hO c ⟨n - 1, by omega⟩))) ∗ (∃ r, prngReg c r)) ∗ Pipeline.ΦT pre0 (tbl m) c) := by
  cases n with
  | zero => exact absurd rfl hz
  | succ n => rfl

/-- The pipeline's data: inputs left at their blocks, the output block at `result`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => result m hO c t
  Φ t := Inv m hO c t.val (Nat.le_of_lt_succ t.isLt)
  q _ := fullShare
  owed _ := 0

theorem dats_A (hO : Ok m) (c : Dev nD) (w : Fin (cfgM m hO).W) : (dats m hO 0 c).A w = V m c (Pipeline.arrRef spec0 w) := by
  dsimp only [dats]

theorem Inv_at (hO : Ok m) (c : Dev nD) (t : Fin (cfgM m hO).N) :
    (dats m hO 0 c).Φ t.castSucc = Inv m hO c t.val (Nat.le_of_lt t.isLt) := by
  dsimp only [dats]; exact Pipeline.Dat.Φ_castSucc (Inv m hO c) t

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = result m hO c t := by dsimp only [dats]; try rfl

/-- An input's staging buffer holds its block when the body starts, whether fetched at that point or before. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
      (fun t => by rw [after0]; unfold Dat.blockOf iblk; rw [dats_A]; try rfl) t d).trans
    (by unfold Dat.fetched Dat.blockOf iblk; rw [dats_A]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
      (fun t => by rw [after1]; unfold Dat.blockOf iblk; rw [dats_A]; try rfl) t d).trans
    (by unfold Dat.fetched Dat.blockOf iblk; rw [dats_A]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
      (fun t => by rw [after2]; unfold Dat.blockOf iblk; rw [dats_A]; try rfl) t d).trans
    (by unfold Dat.fetched Dat.blockOf iblk; rw [dats_A]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
      (fun t => by rw [after3]; unfold Dat.blockOf iblk; rw [dats_A]; try rfl) t d).trans
    (by unfold Dat.fetched Dat.blockOf iblk; rw [dats_A]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
      (fun t => by rw [after4]; unfold Dat.blockOf iblk; rw [dats_A]; try rfl) t d).trans
    (by unfold Dat.fetched Dat.blockOf iblk; rw [dats_A]; try rfl)
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl)
      (fun t => by rw [after5]; unfold Dat.blockOf iblk; rw [dats_A]; try rfl) t d).trans
    (by unfold Dat.fetched Dat.blockOf iblk; rw [dats_A]; try rfl)

/-! ## The body at a point -/

/-- What the body is called with, and what it hands back. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d))
    ∗ (∃ d, owns (c : Thread nD τ) (stg5 m hO t) fullShare ((dats m hO 0 c).before 5 t d))
    ∗ (∃ d, owns (c : Thread nD τ) (stg6 m hO t) fullShare ((dats m hO 0 c).before 6 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t)
    ∗ owns (c : Thread nD τ) (stg5 m hO t) fullShare ((dats m hO 0 c).after 5 t)
    ∗ owns (c : Thread nD τ) (stg6 m hO t) fullShare ((dats m hO 0 c).after 6 t))

/-- The body at any point, from scratch contents that are the current weights' casts unless it writes them itself. -/
theorem body_run (hO : Ok m) (c : Dev nD) (t : Fin (cfgM m hO).N) (s0 : Vec F S1024x2048 .bf16) (s1 : Vec F S1024x1024 .bf16)
    (hs : FirstAt m t ∨ s0 = k0_pay1 (wIn m hO c t) ∧ s1 = k0_pay2 (wOut m hO c t)) (E : Set ℕ) (K : PUnit → sProp 𝕄) :
    iprop(owns (c : Thread nD τ) (stg0 m hO t) fullShare (iblk m hO c 0 t) ∗ owns (c : Thread nD τ) (stg1 m hO t) fullShare (iblk m hO c 1 t) ∗ owns (c : Thread nD τ) (stg2 m hO t) fullShare (iblk m hO c 2 t) ∗ owns (c : Thread nD τ) (stg3 m hO t) fullShare (iblk m hO c 3 t) ∗ owns (c : Thread nD τ) (stg4 m hO t) fullShare (iblk m hO c 4 t) ∗ owns (c : Thread nD τ) (stg5 m hO t) fullShare (iblk m hO c 5 t)
        ∗ (∃ d, owns (c : Thread nD τ) (stg6 m hO t) fullShare d) ∗ owns (c : Thread nD τ) scr0 fullShare s0 ∗ owns (c : Thread nD τ) scr1 fullShare s1
        ∗ tblHalf c tabE (tbl m 0) ∗ tblHalf c tabF (tbl m 1) ∗ tblHalf c tabN (tbl m 2)
        ∗ (iprop(owns (c : Thread nD τ) (stg0 m hO t) fullShare (iblk m hO c 0 t) ∗ owns (c : Thread nD τ) (stg1 m hO t) fullShare (iblk m hO c 1 t) ∗ owns (c : Thread nD τ) (stg2 m hO t) fullShare (iblk m hO c 2 t) ∗ owns (c : Thread nD τ) (stg3 m hO t) fullShare (iblk m hO c 3 t) ∗ owns (c : Thread nD τ) (stg4 m hO t) fullShare (iblk m hO c 4 t) ∗ owns (c : Thread nD τ) (stg5 m hO t) fullShare (iblk m hO c 5 t)
            ∗ owns (c : Thread nD τ) (stg6 m hO t) fullShare (result m hO c t)
            ∗ owns (c : Thread nD τ) scr0 fullShare (k0_pay1 (wIn m hO c t)) ∗ owns (c : Thread nD τ) scr1 fullShare (k0_pay2 (wOut m hO c t))
            ∗ tblHalf c tabE (tbl m 0) ∗ tblHalf c tabF (tbl m 1) ∗ tblHalf c tabN (tbl m 2)) -∗ K ⟨⟩))
      ⊢ wp frame (wpE (defs₀ (F := F)) Variants.none c none) E (bodyAt (adm m hO) t) K := by
  obtain rfl : c = 0 := Subsingleton.elim _ _
  by_cases hu : UsedAt m t
  · rw [show result m hO 0 t = _ from if_pos hu]
    by_cases hf : FirstAt m t
    · exact run_first_used 0 (grid0.coords t) _ _ _ _ _ _ _ _ _ _ _ _ _ _ _ _ _ _ (iblk m hO 0 0 t) (iblk m hO 0 1 t) (iblk m hO 0 2 t) (iblk m hO 0 3 t) (iblk m hO 0 4 t) (iblk m hO 0 5 t) s0 s1 (tbl m 0) (tbl m 1) (tbl m 2) hf hu E K
    · obtain ⟨rfl, rfl⟩ := hs.resolve_left hf
      exact run_later_used 0 (grid0.coords t) _ _ _ _ _ _ _ _ _ _ _ _ _ _ _ _ _ _ (iblk m hO 0 0 t) (iblk m hO 0 1 t) (iblk m hO 0 2 t) (iblk m hO 0 3 t) (iblk m hO 0 4 t) (iblk m hO 0 5 t) _ _ (tbl m 0) (tbl m 1) (tbl m 2) hf hu E K
  · rw [show result m hO 0 t = _ from if_neg hu]
    by_cases hf : FirstAt m t
    · exact run_first_idle 0 (grid0.coords t) _ _ _ _ _ _ _ _ _ _ _ _ _ _ _ _ _ _ (iblk m hO 0 0 t) (iblk m hO 0 1 t) (iblk m hO 0 2 t) (iblk m hO 0 3 t) (iblk m hO 0 4 t) (iblk m hO 0 5 t) s0 s1 (tbl m 0) (tbl m 1) (tbl m 2) hf hu E K
    · obtain ⟨rfl, rfl⟩ := hs.resolve_left hf
      exact run_later_idle 0 (grid0.coords t) _ _ _ _ _ _ _ _ _ _ _ _ _ _ _ _ _ _ (iblk m hO 0 0 t) (iblk m hO 0 1 t) (iblk m hO 0 2 t) (iblk m hO 0 3 t) (iblk m hO 0 4 t) (iblk m hO 0 5 t) _ _ (tbl m 0) (tbl m 1) (tbl m 2) hf hu E K

set_option maxHeartbeats 4000000 in
/-- The body's triple at any point, in the pipeline's terms. -/
theorem body_sound (hO : Ok m) (c : Dev nD) (hH : Held m hO c) (t : Fin (cfgM m hO).N) :
    bodyPre m hO c t ⊢ wp frame (wpE (defs₀ (F := F)) Variants.none c none) Set.univ (bodyAt (adm m hO) t) (fun _ => bodyPost m hO c t) := by
  unfold bodyPre bodyPost
  simp only [before0, before1, before2, before3, before4, before5]
  rw [show (dats m hO 0 c).owesAt () t.succ = (dats m hO 0 c).owesAt () t.castSucc from rfl,
    after0, after1, after2, after3, after4, after5, after6]
  rw [show (dats m hO 0 c).Φ t.succ = Inv m hO c (t.val + 1) t.isLt from rfl, Inv_succ, tables_eq, Inv_at m hO c t]
  by_cases hz : t.val = 0
  · rw [Inv_zero m hO c _ _ hz, tables_eq, scratch_eq]
    have hs : FirstAt m t := (hH t).resolve_right fun ⟨h, _⟩ => h hz
    iintro ⟨⟨⟨⟨⟨%e0, HS0⟩, ⟨%e1, HS1⟩⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩⟩
    iapply (body_run m hO c t e0 e1 (Or.inl hs) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HT0]; · iexact HT0
    isplitl [HT1]; · iexact HT1
    isplitl [HT2]; · iexact HT2
    iintro ⟨H0, H1, H2, H3, H4, H5, H6, HS0, HS1, HT0, HT1, HT2⟩
    isplitl [HS0 HS1 Hg HT0 HT1 HT2]
    · isplitl [HS0 HS1 Hg]
      · isplitl [HS0 HS1]
        · isplitl [HS0]; · iexact HS0
          iexact HS1
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Inv_pos m hO c _ _ hz, tables_eq]
    have hs : FirstAt m t ∨ k0_pay1 (wIn m hO c ⟨t.val - 1, by omega⟩) = k0_pay1 (wIn m hO c t) ∧ k0_pay2 (wOut m hO c ⟨t.val - 1, by omega⟩) = k0_pay2 (wOut m hO c t) :=
      (hH t).imp id fun ⟨_, h2, h4⟩ => ⟨congrArg k0_pay1 h2, congrArg k0_pay2 h4⟩
    iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩⟩
    iapply (body_run m hO c t _ _ hs Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HT0]; · iexact HT0
    isplitl [HT1]; · iexact HT1
    isplitl [HT2]; · iexact HT2
    iintro ⟨H0, H1, H2, H3, H4, H5, H6, HS0, HS1, HT0, HT1, HT2⟩
    isplitl [HS0 HS1 Hg HT0 HT1 HT2]
    · isplitl [HS0 HS1 Hg]
      · isplitl [HS0 HS1]
        · isplitl [HS0]; · iexact HS0
          iexact HS1
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The pipeline's obligation. Whether or not the output is counted idle at a point, its block is written back there, so the
    body owes `result` in either case. -/
theorem body_obligation (hO : Ok m) (c : Dev nD) (hH : Held m hO c) : BodyObligation (dats (F := F) m hO 0 c) (defs₀ (F := F)) Variants.none () Set.univ := fun t => by
  rw [bigSep_W0, bigSep_W0, body_row m hO]
  refine triple_restated (body_sound m hO c hH t) rfl .rfl fun _ => ?_
  unfold bodyPost
  refine sep_mono .rfl (sep_mono .rfl (sep_mono .rfl (sep_mono .rfl (sep_mono .rfl (sep_mono .rfl (sep_mono .rfl (sep_mono .rfl ?_)))))))
  dsimp only
  split
  · split
    · rename_i h; exact absurd (h.symm.trans (flush_out (adm m hO) t)) Bool.false_ne_true
    · exact .rfl
  · exact .rfl

theorem enter (hO : Ok m) (c : Dev nD) : iprop(Pipeline.ΦA spec0 c ∗ Pipeline.ΦT pre0 (tbl m) c) ⊢ (dats m hO 0 c).Φ 0 := by
  rw [show (dats m hO 0 c).Φ 0 = Inv m hO c 0 (Nat.zero_le _) from rfl, Inv_zero m hO c 0 _ rfl]
  try exact Idealize.SL.BI.Entails.refl _

theorem leave (hO : Ok m) (c : Dev nD) : (dats m hO 0 c).Φ (Fin.last (cfgM m hO).N) ⊢ Pipeline.ΦA spec0 c := by
  have hN : (cfgM m hO).N = 352 := N_0
  rw [show (dats m hO 0 c).Φ (Fin.last (cfgM m hO).N) = Inv m hO c (cfgM m hO).N (Nat.le_refl _) from rfl, Inv_pos m hO c _ _ (by omega), scratch_eq]
  iintro ⟨⟨⟨HS0, HS1⟩, Hg⟩, -⟩
  isplitl [HS0 HS1]
  · isplitl [HS0]
    · iexists _; iexact HS0
    iexists _; iexact HS1
  iexact Hg

/-! ## The run -/

-- the launch theorem's implicit arguments are found through plain definitions
set_option backward.isDefEq.respectTransparency.types false in
/-- Every execution ends with the arrays at what the blocks' results make of them, and every counter at zero. -/
theorem run_all (hO : Ok m) (hH : ∀ c, Held m hO c) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c (hH c)).loose) (hshare := fun c => (dats m hO 0 c).share_full fun _ => rfl)
    (howed := fun _ _ => rfl) (V := V m) (hmain := main_prefix m Variants.none) (hA := dats_A m hO) (hpf := V_tbl m)
    (hin := enter m hO) (hout := leave m hO)

/-- The arguments are left as they were, and no counter is left raised. -/
theorem frame (hO : Ok m) (hH : ∀ c, Held m hO c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨
      ((h.1 c).1 0).trans (((dats m hO 0 c).arrAt_in 0 rfl _).trans ((dats_A m hO c 0).trans (V_of_ne m c main_arg0 (by decide) (by decide) (by decide)))),
      ((h.1 c).2 main_arg1 (by decide : main_arg1 ∈ Pipeline.restRefs sig spec0)).trans (V_of_ne m c main_arg1 (by decide) (by decide) (by decide)),
      ((h.1 c).2 main_arg2 (by decide : main_arg2 ∈ Pipeline.restRefs sig spec0)).trans (V_of_ne m c main_arg2 (by decide) (by decide) (by decide)),
      ((h.1 c).2 main_arg3 (by decide : main_arg3 ∈ Pipeline.restRefs sig spec0)).trans (V_of_ne m c main_arg3 (by decide) (by decide) (by decide)),
      ((h.1 c).2 main_arg4 (by decide : main_arg4 ∈ Pipeline.restRefs sig spec0)).trans (V_of_ne m c main_arg4 (by decide) (by decide) (by decide)),
      ((h.1 c).1 2).trans (((dats m hO 0 c).arrAt_in 2 rfl _).trans ((dats_A m hO c 2).trans (V_of_ne m c main_arg5 (by decide) (by decide) (by decide)))),
      ((h.1 c).2 main_arg6 (by decide : main_arg6 ∈ Pipeline.restRefs sig spec0)).trans (V_of_ne m c main_arg6 (by decide) (by decide) (by decide)),
      ((h.1 c).1 4).trans (((dats m hO 0 c).arrAt_in 4 rfl _).trans ((dats_A m hO c 4).trans (V_of_ne m c main_arg7 (by decide) (by decide) (by decide)))),
      ((h.1 c).2 main_arg8 (by decide : main_arg8 ∈ Pipeline.restRefs sig spec0)).trans (V_of_ne m c main_arg8 (by decide) (by decide) (by decide))⟩, h.2⟩) (run_all m ρ hO hH)

end Cert.MoeIdeal.Run

end
-- ==== Proof.MoePre.lean ====
/- What the precondition on the experts' tables says, word by word. -/
module

public import proofs.«01_k».proof.Pre_expert_tables
public import Idealize.ShloMosaic.Lib.Pipeline.Value
public import Idealize.ShloMosaic.Lib.ValueIdx
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.MoePre

open Cert.Pre_expert_tables

/-- The shapes in the precondition fit together. -/
instance facts : Cert.Pre_expert_tables.Facts where
  bcast_S_S352 := by decide
  slices_S352_S1_0 := by decide
  bcast_S_S1 := by decide
  slices_S352_S351_0 := by decide
  concatenates_S1_S351_S352_d0 := by decide

theorem ori_eq_one (a b : BitVec 1) (h : IntOp.ori a b = 1#1) : a = 1#1 ∨ b = 1#1 := by
  unfold IntOp.ori at h
  revert a b; decide

theorem slt_of (a b : BitVec 32) (h : IntOp.cmpi .slt a b = 1#1) : a.toInt < b.toInt := by
  by_contra hn
  simp [IntOp.cmpi, BitVec.slt, hn] at h

theorem sge_of (a b : BitVec 32) (h : IntOp.cmpi .sge a b = 1#1) : b.toInt ≤ a.toInt := by
  by_contra hn
  simp [IntOp.cmpi, BitVec.sle, hn] at h

theorem eq_of (a b : BitVec 32) (h : IntOp.cmpi .eq a b = 1#1) : a = b := by
  by_contra hn
  have hb : (a == b) = false := beq_eq_false_iff_ne.2 hn
  simp [IntOp.cmpi, hb] at h

/-- The tables' condition: every block's expert is one of the 32, and a block is marked as its expert's first unless it has
    the expert of the block before it. -/
def Tables (e f : IVec S352 32) : Prop :=
  ∀ i : Fin 352, (e (ix1 i)).toNat < 32
    ∧ (f (ix1 i) = 1#32 ∨ ∃ h : i.val ≠ 0, e (ix1 i) = e (ix1 ⟨i.val - 1, by omega⟩))

theorem toNat_lt (a : BitVec 32) (h0 : 0 ≤ a.toInt) (h1 : a.toInt < 32) : a.toNat < 32 := by
  rw [BitVec.toInt_eq_toNat_cond] at h0 h1
  have := a.isLt
  split_ifs at h0 h1 <;> omega

variable {F : FTy → Type} [FloatOps F]

theorem of_pre (x0 : FVec F S90112x1024 .bf16) (x1 : FVec F S90112 .f32) (e f : IVec S352 32) (n : IVec S1 32) (x5 : FVec F S32x1024x2048 .f32)
    (x6 : FVec F S32x2048 .f32) (x7 : FVec F S32x1024x1024 .f32) (x8 : FVec F S32x1024 .f32)
    (h : Cert.Pre_expert_tables.fn x0 x1 e f n x5 x6 x7 x8 = fun _ => 1#1) : Tables e f := by
  intro i
  have hi := congrFun h (ix1 i)
  obtain ⟨hr, hs⟩ := IntOp.andi_eq_one.1 hi
  obtain ⟨h0, h1⟩ := IntOp.andi_eq_one.1 hr
  refine ⟨toNat_lt _ (sge_of _ _ h0) (slt_of _ _ h1), ?_⟩
  rcases ori_eq_one _ _ hs with hp | hf
  · have hp := eq_of _ _ hp
    by_cases hz : i.val = 0
    · exfalso
      have hi0 : i = 0 := Fin.ext hz
      subst hi0
      have hc := hp.trans (concatenate_pair_apply_left (t := S352) (s₁ := S1) (s₂ := S351) 0 _ _ Facts.concatenates_S1_S351_S352_d0 (ix1 0) rfl (ix1 0)
        (fun b => by obtain rfl : b = 0 := Subsingleton.elim _ _; rfl))
      have hs : extractStridedSlice S1 ![0] e Facts.slices_S352_S1_0 (ix1 0) = e (ix1 0) :=
        congrArg e (funext fun a => by obtain rfl : a = 0 := Subsingleton.elim _ _; rfl)
      have hd : e (ix1 0) = e (ix1 0) - 1#32 := hc.trans (congrArg (fun v => v - 1#32) hs)
      generalize e (ix1 0) = a at hd
      bv_omega
    · refine Or.inr ⟨hz, ?_⟩
      have hs : extractStridedSlice S351 ![0] e Facts.slices_S352_S351_0 (ix1 ⟨i.val - 1, by omega⟩) = e (ix1 ⟨i.val - 1, by omega⟩) :=
        congrArg e (funext fun a => by obtain rfl : a = 0 := Subsingleton.elim _ _; exact Fin.ext (Nat.zero_add _))
      refine Eq.trans (hp.trans ?_) hs
      exact (concatenate_pair_apply_right (t := S352) (s₁ := S1) (s₂ := S351) 0 _ _ Facts.concatenates_S1_S351_S352_d0 (ix1 i) rfl rfl (ix1 ⟨i.val - 1, by omega⟩)
        (fun b hb => absurd (Subsingleton.elim _ _) hb) (by show i.val - 1 + 1 = i.val; omega))
  · exact Or.inl (eq_of _ _ hf)

end Cert.MoePre

end
-- ==== Proof.MoeHeld.lean ====
/- What the precondition on the tables gives the experts' kernel: the tables name blocks inside the weights, and a block that
   is not its expert's first has the weights of the block before it. The input blocks of a point, read at an index. -/
module

public import proofs.«01_k».proof.Proof.MoeFrame
public import proofs.«01_k».proof.Proof.MoePre
public import Idealize.ShloMosaic.Lib.Pipeline.ValueKit.Held

@[expose] public section

set_option maxRecDepth 16384

noncomputable section

namespace Cert.MoeIdeal.Run

open Cert.MoeIdeal Cert.MoeIdeal.Gen
open Idealize.ShloMosaic Idealize.ShloMosaic.TcCoe Idealize.SL.Sem
open Idealize.ShloMosaic.Pipeline (Dat)

variable {F : FTy → Type} [FloatOps F]
variable (m : (l : Loc nD τ sig) → Buf (Elt F) l)

/-! ## The tables' words -/

/-- The three tables. -/
abbrev expertOf : IVec S352 32 := m (((0 : Dev nD) : Thread nD τ).loc main_arg2)
abbrev firstOf : IVec S352 32 := m (((0 : Dev nD) : Thread nD τ).loc main_arg3)
abbrev usedOf : IVec S1 32 := m (((0 : Dev nD) : Thread nD τ).loc main_arg4)

theorem tbl_expert : tbl m 0 = expertOf m := V_of_ne m 0 main_arg2 (by decide) (by decide) (by decide)
theorem tbl_first : tbl m 1 = firstOf m := V_of_ne m 0 main_arg3 (by decide) (by decide) (by decide)
theorem tbl_used : tbl m 2 = usedOf m := V_of_ne m 0 main_arg4 (by decide) (by decide) (by decide)

theorem coord : ∀ t : Fin grid0.N, (grid0.coords t 0).val = t.val := by decide +kernel

theorem tlt (t : Fin grid0.N) : t.val < 352 := lt_of_lt_of_eq t.isLt N_0

theorem off (i : grid0.Coords) : (BitVec.ofNat 32 (i 0).val).toNat = (i 0).val := by
  have h : (i 0).val < 352 := (i 0).isLt
  rw [BitVec.toNat_ofNat]; omega

/-- The word of a table of 352 a point reads: the point's own. -/
theorem word_at (f : IVec S352 32) (i : grid0.Coords) (q : (Rect.unit (s := S352) (k0_off1 i) S1.size (k0_off1_inb i)).shape.Idx) :
    f ((Rect.unit (s := S352) (k0_off1 i) S1.size (k0_off1_inb i)).emb q) = f (ix1 (i 0)) := by
  refine congrArg f (funext fun a => ?_)
  obtain rfl : a = 0 := Subsingleton.elim _ _
  refine Fin.ext ?_
  have hq : (q 0).val < 1 := (q 0).isLt
  show (BitVec.ofNat 32 (i 0).val).toNat + 1 * (q 0).val = (i 0).val
  rw [off]; omega

theorem wordE_at (i : grid0.Coords) : (tbl m).at 0 (Rect.unit (s := S352) (k0_off1 i) S1.size (k0_off1_inb i)) numel1_S1 = expertOf m (ix1 (i 0)) :=
  (congrFun (tbl_expert m) _).trans (word_at (expertOf m) i _)

theorem wordF_at (i : grid0.Coords) : wordF (F := F) (c := 0) i (tbl m 1) = firstOf m (ix1 (i 0)) := by
  rw [tbl_first]
  exact word_at (firstOf m) i _

theorem wordN_at : wordN (F := F) (c := 0) (tbl m 2) = usedOf m (ix1 0) := by
  rw [tbl_used]
  have one : ∀ x y : S1.Idx, x = y := fun x y => funext fun a => by
    obtain rfl : a = 0 := Subsingleton.elim _ _
    exact Subsingleton.elim (α := Fin 1) _ _
  exact congrArg (usedOf m) (one _ _)

/-! ## The side condition on the tables, and the blocks -/

theorem tr2 (i : grid0.Coords) : cc0_transform_2 k0_off1_inb numel1_S1 (tbl m) i = ![(expertOf m (ix1 (i 0))).toNat, 0, 0] := by
  rw [← wordE_at]; rfl
theorem tr3 (i : grid0.Coords) : cc0_transform_3 k0_off1_inb numel1_S1 (tbl m) i = ![(expertOf m (ix1 (i 0))).toNat, 0, 0] := by
  rw [← wordE_at]; rfl
theorem tr4 (i : grid0.Coords) : cc0_transform_4 k0_off1_inb numel1_S1 (tbl m) i = ![(expertOf m (ix1 (i 0))).toNat, 0, 0] := by
  rw [← wordE_at]; rfl
theorem tr5 (i : grid0.Coords) : cc0_transform_5 k0_off1_inb numel1_S1 (tbl m) i = ![(expertOf m (ix1 (i 0))).toNat, 0, 0] := by
  rw [← wordE_at]; rfl

variable (hT : Cert.MoePre.Tables (expertOf m) (firstOf m))
include hT

theorem ok_of_tables : Ok m := by
  refine ⟨fun i => ⟨fun a => ?_, .inl rfl⟩, fun i => ⟨fun a => ?_, .inl rfl⟩, fun i => ⟨fun a => ?_, .inl rfl⟩, fun i => ⟨fun a => ?_, .inl rfl⟩⟩
  · rw [tr2]; have h := (hT (i 0)).1
    match a with
    | ⟨0, _⟩ => show ((expertOf m (ix1 (i 0))).toNat + 1) * 1 ≤ 32; omega
    | ⟨1, _⟩ => show (0 + 1) * 1024 ≤ 1024; omega
    | ⟨2, _⟩ => show (0 + 1) * 2048 ≤ 2048; omega
  · rw [tr3]; have h := (hT (i 0)).1
    match a with
    | ⟨0, _⟩ => show ((expertOf m (ix1 (i 0))).toNat + 1) * 1 ≤ 32; omega
    | ⟨1, _⟩ => show (0 + 1) * 1 ≤ 1; omega
    | ⟨2, _⟩ => show (0 + 1) * 2048 ≤ 2048; omega
  · rw [tr4]; have h := (hT (i 0)).1
    match a with
    | ⟨0, _⟩ => show ((expertOf m (ix1 (i 0))).toNat + 1) * 1 ≤ 32; omega
    | ⟨1, _⟩ => show (0 + 1) * 1024 ≤ 1024; omega
    | ⟨2, _⟩ => show (0 + 1) * 1024 ≤ 1024; omega
  · rw [tr5]; have h := (hT (i 0)).1
    match a with
    | ⟨0, _⟩ => show ((expertOf m (ix1 (i 0))).toNat + 1) * 1 ≤ 32; omega
    | ⟨1, _⟩ => show (0 + 1) * 1 ≤ 1; omega
    | ⟨2, _⟩ => show (0 + 1) * 1024 ≤ 1024; omega

/-- The expert of a block. -/
def exp (t : Fin 352) : Fin 32 := ⟨(expertOf m (ix1 t)).toNat, (hT t).1⟩

/-- The number of a point. -/
abbrev blockNo (t : Fin grid0.N) : Fin 352 := ⟨t.val, tlt t⟩

omit hT in
theorem coord_eq (t : Fin grid0.N) : grid0.coords t 0 = blockNo t := Fin.ext (coord t)

theorem wIn_at (hO : Ok m) (c : Dev nD) (t : Fin (cfgM m hO).N) (k : Fin 1024) (n : Fin 2048) :
    wIn m hO c t (ix3 0 k n) = m ((c : Thread nD τ).loc main_arg5) (ix3 (exp m hT (blockNo t)) k n) := by
  refine (congrFun (V_of_ne m c main_arg5 (by decide) (by decide) (by decide)) _).trans (congrArg (m ((c : Thread nD τ).loc main_arg5)) ?_)
  have hi : ((cfgM m hO).win 2).index t = ![(expertOf m (ix1 (blockNo t))).toNat, 0, 0] :=
    (tr2 m (grid0.coords t)).trans (by rw [coord_eq])
  blk_ext [hi]
  exact Nat.add_zero _

theorem wOut_at (hO : Ok m) (c : Dev nD) (t : Fin (cfgM m hO).N) (k : Fin 1024) (n : Fin 1024) :
    wOut m hO c t (ix3 0 k n) = m ((c : Thread nD τ).loc main_arg7) (ix3 (exp m hT (blockNo t)) k n) := by
  refine (congrFun (V_of_ne m c main_arg7 (by decide) (by decide) (by decide)) _).trans (congrArg (m ((c : Thread nD τ).loc main_arg7)) ?_)
  have hi : ((cfgM m hO).win 4).index t = ![(expertOf m (ix1 (blockNo t))).toNat, 0, 0] :=
    (tr4 m (grid0.coords t)).trans (by rw [coord_eq])
  blk_ext [hi]
  exact Nat.add_zero _

theorem held_of_tables (hO : Ok m) (c : Dev nD) : Held m hO c := by
  intro t
  rcases (hT (blockNo t)).2 with h | ⟨hz, he⟩
  · refine Or.inl ?_
    show isFirst _
    rw [wordF_at, coord_eq, h]
    decide
  · refine Or.inr ⟨hz, ?_, ?_⟩
    · funext y
      obtain ⟨a, k, n, rfl⟩ : ∃ (a : Fin 1) (k : Fin 1024) (n : Fin 2048), y = ix3 a k n := ⟨y 0, y 1, y 2, eq_ix3 y⟩
      obtain rfl : a = 0 := Subsingleton.elim _ _
      rw [wIn_at m hT, wIn_at m hT]
      exact congrArg (fun e => m ((c : Thread nD τ).loc main_arg5) (ix3 e k n)) (Fin.ext (congrArg BitVec.toNat he).symm)
    · funext y
      obtain ⟨a, k, n, rfl⟩ : ∃ (a : Fin 1) (k : Fin 1024) (n : Fin 1024), y = ix3 a k n := ⟨y 0, y 1, y 2, eq_ix3 y⟩
      obtain rfl : a = 0 := Subsingleton.elim _ _
      rw [wOut_at m hT, wOut_at m hT]
      exact congrArg (fun e => m ((c : Thread nD τ).loc main_arg7) (ix3 e k n)) (Fin.ext (congrArg BitVec.toNat he).symm)

end Cert.MoeIdeal.Run

end
-- ==== Proof.MoeOut.lean ====
/- What the experts' kernel leaves in its output array, from the arrays it reads. -/
module

public import proofs.«01_k».proof.Proof.MoeHeld
public import Idealize.ShloMosaic.Lib.Pipeline.Covers
public import Idealize.ShloMosaic.Lib.Pointwise

@[expose] public section

set_option maxRecDepth 16384

noncomputable section

namespace Cert.MoeIdeal.Out

open Cert.MoeIdeal Cert.MoeIdeal.Gen Cert.MoeIdeal.Run
open Idealize.ShloMosaic Idealize.ShloMosaic.TcCoe Idealize.SL.Sem
open Idealize.ShloMosaic.Pipeline (Dat)

/-- The experts' activation of two pre-activations: the first clipped from above, times its logistic at 1.702, times the
    second clipped on both sides plus one. -/
def act (a b : EReal) : EReal :=
  min a (Ideal.ofBits .f32 0x40E00000#32)
    * Ideal.div (Ideal.ofBits .f32 0x3F800000#32)
        (Ideal.ofBits .f32 0x3F800000#32 + Ideal.exp (-(Ideal.ofBits .f32 0x3FD9DB23#32 * min a (Ideal.ofBits .f32 0x40E00000#32))))
    * (min (Ideal.ofBits .f32 0x40E00000#32) (max (Ideal.ofBits .f32 0xC0E00000#32) b) + Ideal.ofBits .f32 0x3F800000#32)

theorem pay5_apply (x : Vec Ideal S256x1024 .bf16) (s0 : Vec Ideal S1024x2048 .bf16) (b1 : Vec Ideal S1x1x2048 .f32) (s1 : Vec Ideal S1024x1024 .bf16)
    (b2 : Vec Ideal S1x1x1024 .f32) (r : Fin 256) (d : Fin 1024) :
    k0_pay5 x s0 b1 s1 b2 (ix2 r d)
      = (∑ j : Fin 1024, act ((∑ k : Fin 1024, x (ix2 r k) * s0 (ix2 k ⟨j.val, by omega⟩)) + b1 (ix3 0 0 ⟨j.val, by omega⟩))
            ((∑ k : Fin 1024, x (ix2 r k) * s0 (ix2 k ⟨1024 + j.val, by omega⟩)) + b1 (ix3 0 0 ⟨1024 + j.val, by omega⟩)) * s1 (ix2 j d))
          + b2 (ix3 0 0 d) := by
  unfold k0_pay5 act
  pointwise
  simp only [sub_eq_add_neg, zero_add]

/-- The expert a block's table word names. -/
def ex (e : IVec S352 32) (t : Fin 352) : Fin 32 := ⟨(e (ix1 t)).toNat % 32, Nat.mod_lt _ (by decide)⟩

/-- The block a row lies in. -/
abbrev blockOf (r : Fin 90112) : Fin 352 := ⟨r.val / 256, by omega⟩

/-- The pre-activation `n` of a row, at its block's expert. -/
def pre (x : Vec Ideal S90112x1024 .bf16) (e : IVec S352 32) (w1 : Vec Ideal S32x1024x2048 .f32) (b1 : Vec Ideal S32x2048 .f32) (r : Fin 90112) (n : Fin 2048) : EReal :=
  (∑ k : Fin 1024, x (ix2 r k) * w1 (ix3 (ex e (blockOf r)) k n)) + b1 (ix2 (ex e (blockOf r)) n)

/-- The experts' result in a row: in the blocks in use its expert's, gated; zero in the others. -/
def row (x : Vec Ideal S90112x1024 .bf16) (g : Vec Ideal S90112 .f32) (e : IVec S352 32) (u : IVec S1 32) (w1 : Vec Ideal S32x1024x2048 .f32)
    (b1 : Vec Ideal S32x2048 .f32) (w2 : Vec Ideal S32x1024x1024 .f32) (b2 : Vec Ideal S32x1024 .f32) (r : Fin 90112) (d : Fin 1024) : EReal :=
  if (BitVec.ofNat 32 (blockOf r).val).toInt < (u (ix1 0)).toInt then
    ((∑ j : Fin 1024, act (pre x e w1 b1 r ⟨j.val, by omega⟩) (pre x e w1 b1 r ⟨1024 + j.val, by omega⟩) * w2 (ix3 (ex e (blockOf r)) j d))
      + b2 (ix2 (ex e (blockOf r)) d)) * g (ix1 r)
  else 0

def G (x : Vec Ideal S90112x1024 .bf16) (g : Vec Ideal S90112 .f32) (e : IVec S352 32) (u : IVec S1 32) (w1 : Vec Ideal S32x1024x2048 .f32)
    (b1 : Vec Ideal S32x2048 .f32) (w2 : Vec Ideal S32x1024x1024 .f32) (b2 : Vec Ideal S32x1024 .f32) : Vec Ideal S90112x1024 .f32 := fun i =>
  row x g e u w1 b1 w2 b2 (i 0) (i 1)

theorem pay3_apply (y : Vec Ideal S256x1024 .f32) (g : Vec Ideal S256x1 .f32) (r : Fin 256) (d : Fin 1024) :
    k0_pay3 y g (ix2 r d) = y (ix2 r d) * g (ix2 r 0) := by
  unfold k0_pay3; pointwise

theorem pay1_apply (w : Vec Ideal S1x1024x2048 .f32) (k : Fin 1024) (n : Fin 2048) : k0_pay1 w (ix2 k n) = w (ix3 0 k n) := by
  unfold k0_pay1; pointwise

theorem pay2_apply (w : Vec Ideal S1x1024x1024 .f32) (k : Fin 1024) (n : Fin 1024) : k0_pay2 w (ix2 k n) = w (ix3 0 k n) := by
  unfold k0_pay2; pointwise

variable (m : (l : Loc nD τ sig) → Buf (Elt Ideal) l)

/-- The operands reshaped before the call. -/
theorem gates (c : Dev nD) : V m c main_v0 = shapeCast S90112x1 (m ((c : Thread nD τ).loc main_arg1)) shapeCasts_S90112_S90112x1 := by
  unfold_abbrev_sides; after_results; rfl
theorem bias1 (c : Dev nD) : V m c main_v1 = shapeCast S32x1x2048 (m ((c : Thread nD τ).loc main_arg6)) shapeCasts_S32x2048_S32x1x2048 := by
  unfold_abbrev_sides; after_results; rfl
theorem bias2 (c : Dev nD) : V m c main_v2 = shapeCast S32x1x1024 (m ((c : Thread nD τ).loc main_arg8)) shapeCasts_S32x1024_S32x1x1024 := by
  unfold_abbrev_sides; after_results; rfl

variable (hT : Cert.MoePre.Tables (expertOf m) (firstOf m)) (hO : Ok m)

theorem idx0 (t : Fin (cfgM m hO).N) : ((cfgM m hO).win 0).index t = ![t.val, 0] :=
  (by decide +kernel : ∀ t : Fin grid0.N, cc0_transform_0 (grid0.coords t) = ![t.val, 0]) t
theorem idx1 (t : Fin (cfgM m hO).N) : ((cfgM m hO).win 1).index t = ![t.val, 0] :=
  (by decide +kernel : ∀ t : Fin grid0.N, cc0_transform_1 (grid0.coords t) = ![t.val, 0]) t
theorem idx6 (t : Fin (cfgM m hO).N) : ((cfgM m hO).win 6).index t = ![t.val, 0] :=
  (by decide +kernel : ∀ t : Fin grid0.N, cc0_transform_6 (grid0.coords t) = ![t.val, 0]) t

theorem rows_at (c : Dev nD) (t : Fin (cfgM m hO).N) (r : Fin 256) (k : Fin 1024) :
    iblk m hO c 0 t (ix2 r k) = m ((c : Thread nD τ).loc main_arg0) (ix2 ⟨256 * t.val + r.val, by have := tlt t; omega⟩ k) := by
  refine (congrFun (V_of_ne m c main_arg0 (by decide) (by decide) (by decide)) _).trans (congrArg (m ((c : Thread nD τ).loc main_arg0)) ?_)
  blk_ext [idx0 m hO t]

theorem gate_at (c : Dev nD) (t : Fin (cfgM m hO).N) (r : Fin 256) :
    iblk m hO c 1 t (ix2 r 0) = m ((c : Thread nD τ).loc main_arg1) (ix1 ⟨256 * t.val + r.val, by have := tlt t; omega⟩) := by
  have e : (((cfgM m hO).win 1).blk t).view.emb (ix2 r 0) = ix2 ⟨256 * t.val + r.val, by have := tlt t; omega⟩ 0 := by
    blk_ext [idx1 m hO t]
  refine (congrArg (V m c main_v0) e).trans ?_
  rw [gates]
  pointwise

include hT in
theorem bias1_at (c : Dev nD) (t : Fin (cfgM m hO).N) (n : Fin 2048) :
    iblk m hO c 3 t (ix3 0 0 n) = m ((c : Thread nD τ).loc main_arg6) (ix2 (exp m hT (blockNo t)) n) := by
  have hi : ((cfgM m hO).win 3).index t = ![(expertOf m (ix1 (blockNo t))).toNat, 0, 0] :=
    (tr3 m (grid0.coords t)).trans (by rw [coord_eq])
  have e : (((cfgM m hO).win 3).blk t).view.emb (ix3 0 0 n) = ix3 (exp m hT (blockNo t)) 0 n := by
    blk_ext [hi]
    exact Nat.add_zero _
  refine (congrArg (V m c main_v1) e).trans ?_
  rw [bias1]
  pointwise

include hT in
theorem bias2_at (c : Dev nD) (t : Fin (cfgM m hO).N) (n : Fin 1024) :
    iblk m hO c 5 t (ix3 0 0 n) = m ((c : Thread nD τ).loc main_arg8) (ix2 (exp m hT (blockNo t)) n) := by
  have hi : ((cfgM m hO).win 5).index t = ![(expertOf m (ix1 (blockNo t))).toNat, 0, 0] :=
    (tr5 m (grid0.coords t)).trans (by rw [coord_eq])
  have e : (((cfgM m hO).win 5).blk t).view.emb (ix3 0 0 n) = ix3 (exp m hT (blockNo t)) 0 n := by
    blk_ext [hi]
    exact Nat.add_zero _
  refine (congrArg (V m c main_v2) e).trans ?_
  rw [bias2]
  pointwise

theorem covers : ((cfgM m hO).win 6).Covers := by
  refine Pipeline.Window.covers_of_index_surj _ rfl (fun a => ?_) fun β => ?_
  · exact (by decide : ∀ a : Fin 2, 0 < S256x1024.size a) a
  · have e0 : ((cfgM m hO).win 6).nblk (0 : Fin 2) = 352 := (by decide : (90112 + 256 - 1) / 256 = 352)
    have e1 : ((cfgM m hO).win 6).nblk (1 : Fin 2) = 1 := (by decide : (1024 + 1024 - 1) / 1024 = 1)
    have h0 : (β (0 : Fin 2)).val < 352 := lt_of_lt_of_eq (β (0 : Fin 2)).isLt e0
    have h1 : (β (1 : Fin 2)).val < 1 := lt_of_lt_of_eq (β (1 : Fin 2)).isLt e1
    refine ⟨⟨(β (0 : Fin 2)).val, lt_of_lt_of_eq h0 N_0.symm⟩, fun a => ?_⟩
    rw [idx6]
    match a with
    | ⟨0, _⟩ => rfl
    | ⟨1, _⟩ => exact (Nat.lt_one_iff.1 h1).symm

theorem ex_eq (t : Fin (cfgM m hO).N) : exp m hT (blockNo t) = ex (expertOf m) (blockNo t) :=
  Fin.ext (Nat.mod_eq_of_lt (hT (blockNo t)).1).symm

/-- The arrays the call reads. -/
abbrev aX : Vec Ideal S90112x1024 .bf16 := m (((0 : Dev nD) : Thread nD τ).loc main_arg0)
abbrev aG : Vec Ideal S90112 .f32 := m (((0 : Dev nD) : Thread nD τ).loc main_arg1)
abbrev aW1 : Vec Ideal S32x1024x2048 .f32 := m (((0 : Dev nD) : Thread nD τ).loc main_arg5)
abbrev aB1 : Vec Ideal S32x2048 .f32 := m (((0 : Dev nD) : Thread nD τ).loc main_arg6)
abbrev aW2 : Vec Ideal S32x1024x1024 .f32 := m (((0 : Dev nD) : Thread nD τ).loc main_arg7)
abbrev aB2 : Vec Ideal S32x1024 .f32 := m (((0 : Dev nD) : Thread nD τ).loc main_arg8)

/-- The blocks of a point. -/
def bX (t : Fin (cfgM m hO).N) : Vec Ideal S256x1024 .bf16 := iblk m hO 0 0 t
def bG (t : Fin (cfgM m hO).N) : Vec Ideal S256x1 .f32 := iblk m hO 0 1 t
def bW1 (t : Fin (cfgM m hO).N) : Vec Ideal S1x1024x2048 .f32 := iblk m hO 0 2 t
def bB1 (t : Fin (cfgM m hO).N) : Vec Ideal S1x1x2048 .f32 := iblk m hO 0 3 t
def bW2 (t : Fin (cfgM m hO).N) : Vec Ideal S1x1024x1024 .f32 := iblk m hO 0 4 t
def bB2 (t : Fin (cfgM m hO).N) : Vec Ideal S1x1x1024 .f32 := iblk m hO 0 5 t

theorem bX_at (t : Fin (cfgM m hO).N) (r : Fin 256) (k : Fin 1024) : bX m hO t (ix2 r k) = aX m (ix2 ⟨256 * t.val + r.val, by have := tlt t; omega⟩ k) :=
  rows_at m hO 0 t r k
theorem bG_at (t : Fin (cfgM m hO).N) (r : Fin 256) : bG m hO t (ix2 r 0) = aG m (ix1 ⟨256 * t.val + r.val, by have := tlt t; omega⟩) :=
  gate_at m hO 0 t r
include hT in
theorem bW1_at (t : Fin (cfgM m hO).N) (k : Fin 1024) (n : Fin 2048) : bW1 m hO t (ix3 0 k n) = aW1 m (ix3 (ex (expertOf m) (blockNo t)) k n) :=
  (wIn_at m hT hO 0 t k n).trans (congrArg (fun e => aW1 m (ix3 e k n)) (ex_eq m hT hO t))
include hT in
theorem bB1_at (t : Fin (cfgM m hO).N) (n : Fin 2048) : bB1 m hO t (ix3 0 0 n) = aB1 m (ix2 (ex (expertOf m) (blockNo t)) n) :=
  (bias1_at m hT hO 0 t n).trans (congrArg (fun e => aB1 m (ix2 e n)) (ex_eq m hT hO t))
include hT in
theorem bW2_at (t : Fin (cfgM m hO).N) (k : Fin 1024) (n : Fin 1024) : bW2 m hO t (ix3 0 k n) = aW2 m (ix3 (ex (expertOf m) (blockNo t)) k n) :=
  (wOut_at m hT hO 0 t k n).trans (congrArg (fun e => aW2 m (ix3 e k n)) (ex_eq m hT hO t))
include hT in
theorem bB2_at (t : Fin (cfgM m hO).N) (n : Fin 1024) : bB2 m hO t (ix3 0 0 n) = aB2 m (ix2 (ex (expertOf m) (blockNo t)) n) :=
  (bias2_at m hT hO 0 t n).trans (congrArg (fun e => aB2 m (ix2 e n)) (ex_eq m hT hO t))

open Classical in
theorem result_eq (t : Fin (cfgM m hO).N) : result m hO 0 t
    = if UsedAt m t then k0_pay3 (k0_pay5 (bX m hO t) (k0_pay1 (bW1 m hO t)) (bB1 m hO t) (k0_pay2 (bW2 m hO t)) (bB2 m hO t)) (bG m hO t) else k0_pay4 := rfl

include hT in
theorem result_apply (t : Fin (cfgM m hO).N) (r : Fin 256) (d : Fin 1024) :
    result m hO 0 t (ix2 r d) = row (aX m) (aG m) (expertOf m) (usedOf m) (aW1 m) (aB1 m) (aW2 m) (aB2 m) ⟨256 * t.val + r.val, by have := tlt t; omega⟩ d := by
  have ht := tlt t
  have hb : blockOf ⟨256 * t.val + r.val, by omega⟩ = blockNo t := Fin.ext (by show (256 * t.val + r.val) / 256 = t.val; omega)
  have hu : UsedAt m t ↔ (BitVec.ofNat 32 t.val).toInt < (usedOf m (ix1 0)).toInt := by
    unfold UsedAt
    rw [cond2_iff, wordN_at, coord]
  have hx := bX_at m hO t r
  have hg := bG_at m hO t r
  have hw1 := bW1_at m hT hO t
  have hb1 := bB1_at m hT hO t
  have hw2 := bW2_at m hT hO t
  have hb2 := bB2_at m hT hO t
  rw [result_eq]
  generalize bX m hO t = x at hx
  generalize bG m hO t = g at hg
  generalize bW1 m hO t = w1 at hw1
  generalize bB1 m hO t = b1 at hb1
  generalize bW2 m hO t = w2 at hw2
  generalize bB2 m hO t = b2 at hb2
  unfold row pre
  rw [hb]
  by_cases h : UsedAt m t
  · rw [if_pos (hu.1 h), if_pos h, pay3_apply, pay5_apply]
    simp only [pay1_apply, pay2_apply, hx, hg, hw1, hb1, hw2, hb2]
  · rw [if_neg fun hn => h (hu.2 hn), if_neg h]
    unfold k0_pay4
    pointwise

include hT in
theorem final : (dats m hO 0 0).arrAt 6 (cfgM m hO).N = G (aX m) (aG m) (expertOf m) (usedOf m) (aW1 m) (aB1 m) (aW2 m) (aB2 m) := by
  refine (dats m hO 0 0).arrAt_eq_of_covers 6 _ (covers m hO) fun t hf y => ?_
  blk_simp
  rw [after6]
  obtain ⟨r, k, rfl⟩ : ∃ (r : Fin 256) (k : Fin 1024), y = ix2 r k := ⟨y (0 : Fin 2), y (1 : Fin 2), eq_ix2 (n0 := 256) (n1 := 1024) y⟩
  have ht := tlt t
  have e : (((cfgM m hO).win 6).blk t).view.emb (ix2 r k) = ix2 ⟨256 * t.val + r.val, by omega⟩ k := by
    blk_ext [idx6 m hO t]
  refine Eq.trans ?_ (congrArg (G (aX m) (aG m) (expertOf m) (usedOf m) (aW1 m) (aB1 m) (aW2 m) (aB2 m)) e.symm)
  exact result_apply m hT hO t r k

omit hO in
include hT in
/-- The run's result and its arguments. -/
theorem run_value (ρ : Dev nD → PrngReg) : θ_run defs (onTc (τ := τ) (main (F := Ideal))) ⟨m, fun _ => 0, ρ⟩ (fun r =>
      r.2.mem (((0 : Dev nD).tc : Thread nD τ).loc main_v3) = G (aX m) (aG m) (expertOf m) (usedOf m) (aW1 m) (aB1 m) (aW2 m) (aB2 m)
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)
      ∧ r.2.mem (((0 : Dev nD).tc : Thread nD τ).loc main_arg4) = m (((0 : Dev nD).tc : Thread nD τ).loc main_arg4)
      ∧ r.2.mem (((0 : Dev nD).tc : Thread nD τ).loc main_arg5) = m (((0 : Dev nD).tc : Thread nD τ).loc main_arg5)
      ∧ r.2.mem (((0 : Dev nD).tc : Thread nD τ).loc main_arg6) = m (((0 : Dev nD).tc : Thread nD τ).loc main_arg6)
      ∧ r.2.mem (((0 : Dev nD).tc : Thread nD τ).loc main_arg7) = m (((0 : Dev nD).tc : Thread nD τ).loc main_arg7)
      ∧ r.2.mem (((0 : Dev nD).tc : Thread nD τ).loc main_arg8) = m (((0 : Dev nD).tc : Thread nD τ).loc main_arg8)) :=
  (θ_run defs _ _).mono (fun r h =>
    have hO := ok_of_tables m hT
    ⟨((h.1 0).1 6).trans (final m hT hO),
      ((h.1 0).1 0).trans (((dats m hO 0 0).arrAt_in 0 rfl _).trans ((dats_A m hO 0 0).trans (V_of_ne m 0 main_arg0 (by decide) (by decide) (by decide)))),
      ((h.1 0).2 main_arg1 (by decide : main_arg1 ∈ Pipeline.restRefs sig spec0)).trans (V_of_ne m 0 main_arg1 (by decide) (by decide) (by decide)),
      ((h.1 0).2 main_arg2 (by decide : main_arg2 ∈ Pipeline.restRefs sig spec0)).trans (V_of_ne m 0 main_arg2 (by decide) (by decide) (by decide)),
      ((h.1 0).2 main_arg3 (by decide : main_arg3 ∈ Pipeline.restRefs sig spec0)).trans (V_of_ne m 0 main_arg3 (by decide) (by decide) (by decide)),
      ((h.1 0).2 main_arg4 (by decide : main_arg4 ∈ Pipeline.restRefs sig spec0)).trans (V_of_ne m 0 main_arg4 (by decide) (by decide) (by decide)),
      ((h.1 0).1 2).trans (((dats m hO 0 0).arrAt_in 2 rfl _).trans ((dats_A m hO 0 2).trans (V_of_ne m 0 main_arg5 (by decide) (by decide) (by decide)))),
      ((h.1 0).2 main_arg6 (by decide : main_arg6 ∈ Pipeline.restRefs sig spec0)).trans (V_of_ne m 0 main_arg6 (by decide) (by decide) (by decide)),
      ((h.1 0).1 4).trans (((dats m hO 0 0).arrAt_in 4 rfl _).trans ((dats_A m hO 0 4).trans (V_of_ne m 0 main_arg7 (by decide) (by decide) (by decide)))),
      ((h.1 0).2 main_arg8 (by decide : main_arg8 ∈ Pipeline.restRefs sig spec0)).trans (V_of_ne m 0 main_arg8 (by decide) (by decide) (by decide))⟩)
    (run_all m ρ (ok_of_tables m hT) fun c => held_of_tables m hT _ c)

end Cert.MoeIdeal.Out

end
-- ==== Proof.MoeGather.lean ====
/- Gathers of whole rows and of whole blocks, one per start index, read at an index. -/
module

public import Idealize.ShloMosaic.Lib.ValueIdx
public import Idealize.ShloMosaic.Lib.Pointwise
public import Idealize.ShloMosaic.Lib.Pipeline.Value

@[expose] public section

set_option maxRecDepth 16384

open Idealize.ShloMosaic Idealize.ShloMosaic.TcCoe Idealize.SL.Sem

namespace Cert.MoeGather

variable {α : Type}

/-- One block of `A` by `B` out of `N`, for each of `R` start indices. -/
abbrev blocks (N A B R : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- One row of `A` out of `N`, for each of `R` start indices. -/
abbrev rows (N A R : Nat) (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

/-- A start index in range is not clamped: the gather reads the block it names. -/
theorem blocks_apply {N A B R w : Nat} (wf) (x : (⟨3, ![N, A, B]⟩ : Shape).Idx → α) (idx : IVec ⟨2, ![R, 1]⟩ w) (t : Fin R) (a : Fin A) (b : Fin B)
    (e : Fin N) (he : (idx (ix2 t 0)).toInt = e.val) : Host.gather (blocks N A B R wf) x idx (ix3 t a b) = x (ix3 e a b) := by
  unfold Host.gather
  congr 1
  funext q
  refine Fin.ext ?_
  show (blocks N A B R wf).start (ix3 t a b) idx q + (blocks N A B R wf).batchCoord (ix3 t a b) q + (blocks N A B R wf).offCoord (ix3 t a b) q = _
  rw [GatherDims.batchCoord_eq_zero _ _ _ List.not_mem_nil, Nat.add_zero]
  have hq : q = 0 ∨ q = 1 ∨ q = 2 := by
    match q with
    | ⟨0, _⟩ => exact Or.inl rfl
    | ⟨1, _⟩ => exact Or.inr (Or.inl rfl)
    | ⟨2, _⟩ => exact Or.inr (Or.inr rfl)
  rcases hq with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (blocks N A B R wf).startIndexMap from List.mem_singleton.mpr rfl)]
    have hs : (blocks N A B R wf).siIdx (ix3 t a b) ⟨List.idxOf (0 : Fin 3) (blocks N A B R wf).startIndexMap,
        List.idxOf_lt_length_iff.2 (List.mem_singleton.mpr rfl)⟩ = ix2 t 0 := by
      funext c; refine Fin.ext ?_
      match c with
      | ⟨0, _⟩ => rfl
      | ⟨1, _⟩ => rfl
    have hm : min (idx (ix2 t 0)).toInt.toNat (N - 1) = e.val := by rw [he]; have := e.isLt; omega
    exact (congrArg (fun z => min (idx z).toInt.toNat (N - 1)) hs).trans hm
  · unfold GatherDims.start
    rw [dif_neg (show (1 : Fin 3) ∉ (blocks N A B R wf).startIndexMap from fun h => absurd (congrArg Fin.val (List.mem_singleton.1 h)) (by simp)), Nat.zero_add]
    rfl
  · unfold GatherDims.start
    rw [dif_neg (show (2 : Fin 3) ∉ (blocks N A B R wf).startIndexMap from fun h => absurd (congrArg Fin.val (List.mem_singleton.1 h)) (by simp)), Nat.zero_add]
    rfl

theorem rows_apply {N A R w : Nat} (wf) (x : (⟨2, ![N, A]⟩ : Shape).Idx → α) (idx : IVec ⟨2, ![R, 1]⟩ w) (t : Fin R) (a : Fin A)
    (e : Fin N) (he : (idx (ix2 t 0)).toInt = e.val) : Host.gather (rows N A R wf) x idx (ix2 t a) = x (ix2 e a) := by
  unfold Host.gather
  congr 1
  funext q
  refine Fin.ext ?_
  show (rows N A R wf).start (ix2 t a) idx q + (rows N A R wf).batchCoord (ix2 t a) q + (rows N A R wf).offCoord (ix2 t a) q = _
  rw [GatherDims.batchCoord_eq_zero _ _ _ List.not_mem_nil, Nat.add_zero]
  have hq : q = 0 ∨ q = 1 := by
    match q with
    | ⟨0, _⟩ => exact Or.inl rfl
    | ⟨1, _⟩ => exact Or.inr rfl
  rcases hq with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rows N A R wf).startIndexMap from List.mem_singleton.mpr rfl)]
    have hs : (rows N A R wf).siIdx (ix2 t a) ⟨List.idxOf (0 : Fin 2) (rows N A R wf).startIndexMap,
        List.idxOf_lt_length_iff.2 (List.mem_singleton.mpr rfl)⟩ = ix2 t 0 := by
      funext c; refine Fin.ext ?_
      match c with
      | ⟨0, _⟩ => rfl
      | ⟨1, _⟩ => rfl
    have hm : min (idx (ix2 t 0)).toInt.toNat (N - 1) = e.val := by rw [he]; have := e.isLt; omega
    exact (congrArg (fun z => min (idx z).toInt.toNat (N - 1)) hs).trans hm
  · unfold GatherDims.start
    rw [dif_neg (show (1 : Fin 2) ∉ (rows N A R wf).startIndexMap from fun h => absurd (congrArg Fin.val (List.mem_singleton.1 h)) (by simp)), Nat.zero_add]
    rfl

end Cert.MoeGather
-- ==== Proof.MoeRef.lean ====
/- The reference of the experts, read at an index. -/
module

public import proofs.«01_k».proof.Proof.MoeOut
public import proofs.«01_k».proof.Proof.MoeGather
public import proofs.«01_k».proof.Proof.Gen.MoeRefIdeal.Run
public import proofs.«01_k».proof.Proof.Gen.MoeRefIdeal.Read

@[expose] public section

set_option maxRecDepth 16384

noncomputable section

open Idealize.ShloMosaic Idealize.ShloMosaic.TcCoe Idealize.SL.Sem

namespace Cert.MoeRefIdeal.Pt

open Cert.MoeRefIdeal Cert.MoeRefIdeal.Read Cert.MoeIdeal.Out

variable (x : Vec Ideal S90112x1024 .bf16) (g : Vec Ideal S90112 .f32) (e : IVec S352 32) (u : IVec S1 32) (w1 : Vec Ideal S32x1024x2048 .f32)
  (b1 : Vec Ideal S32x2048 .f32) (w2 : Vec Ideal S32x1024x1024 .f32) (b2 : Vec Ideal S32x1024 .f32)

/-- A word below 32 is not negative, so the wrapped index is the word itself. -/
theorem wrap (a : BitVec 32) (h : a.toNat < 32) : Scalar.select (IntOp.cmpi .slt a 0#32) (IntOp.addi a 32#32) a = a := by
  have hs : IntOp.cmpi .slt a 0#32 = 0#1 := by
    have h0 : a.slt 0#32 = false := by
      rw [BitVec.slt_eq_decide]
      refine decide_eq_false ?_
      rw [BitVec.toInt_eq_toNat_of_lt (by omega)]
      show ¬ ((a.toNat : Int) < 0)
      omega
    show BitVec.ofBool (a.slt 0#32) = 0#1
    rw [h0]; rfl
  rw [hs]; rfl

theorem at_ex (t : Fin 352) (h : (e (ix1 t)).toNat < 32) : (e (ix1 t)).toInt = (ex e t).val := by
  rw [BitVec.toInt_eq_toNat_of_lt (by omega)]
  show ((e (ix1 t)).toNat : Int) = (((e (ix1 t)).toNat % 32 : Nat) : Int)
  rw [Nat.mod_eq_of_lt h]

variable (he : ∀ t : Fin 352, (e (ix1 t)).toNat < 32)

include he in
theorem idx7 (t : Fin 352) : (val_main_v7 (F := Ideal) e (ix2 t 0)).toInt = (ex e t).val := by
  refine Eq.trans (congrArg BitVec.toInt ?_) (at_ex e t (he t))
  refine Eq.trans ?_ (wrap (e (ix1 t)) (he t))
  pointwise [val_main_v7, val_main_v6, val_main_v5, val_main_v4, val_main_v3, val_main_v2, val_main_c, val_main_c_0]

include he in
theorem w1_at (t : Fin 352) (k : Fin 1024) (n : Fin 2048) : val_main_v8 (F := Ideal) e w1 (ix3 t k n) = w1 (ix3 (ex e t) k n) := by
  unfold val_main_v8
  exact Cert.MoeGather.blocks_apply Facts₀.gather_S32x1024x2048_S352x1_S352x1024x2048_12_0_n_n_0_1_110242048_wf w1 _ t k n (ex e t) (idx7 e he t)

include he in
theorem b1_at (t : Fin 352) (n : Fin 2048) : val_main_v16 (F := Ideal) e b1 (ix2 t n) = b1 (ix2 (ex e t) n) := by
  unfold val_main_v16
  exact Cert.MoeGather.rows_apply Facts₀.gather_S32x2048_S352x1_S352x2048_1_0_n_n_0_1_12048_wf b1 _ t n (ex e t) (idx7 e he t)

include he in
theorem w2_at (t : Fin 352) (k : Fin 1024) (n : Fin 1024) : val_main_v43 (F := Ideal) e w2 (ix3 t k n) = w2 (ix3 (ex e t) k n) := by
  unfold val_main_v43
  exact Cert.MoeGather.blocks_apply Facts₀.gather_S32x1024x1024_S352x1_S352x1024x1024_12_0_n_n_0_1_110241024_wf w2 _ t k n (ex e t) (idx7 e he t)

include he in
theorem b2_at (t : Fin 352) (n : Fin 1024) : val_main_v51 (F := Ideal) e b2 (ix2 t n) = b2 (ix2 (ex e t) n) := by
  unfold val_main_v51
  exact Cert.MoeGather.rows_apply Facts₀.gather_S32x1024_S352x1_S352x1024_1_0_n_n_0_1_11024_wf b2 _ t n (ex e t) (idx7 e he t)

/-- Row `q` of block `t`. -/
abbrev rowAt (t : Fin 352) (q : Fin 256) : Fin 90112 := ⟨256 * t.val + q.val, by omega⟩

theorem blockOf_rowAt (t : Fin 352) (q : Fin 256) : blockOf (rowAt t q) = t := Fin.ext (by show (256 * t.val + q.val) / 256 = t.val; omega)

theorem rows_at (t : Fin 352) (q : Fin 256) (k : Fin 1024) : val_main_v1 (F := Ideal) x (ix3 t q k) = x (ix2 (rowAt t q) k) := by
  pointwise [val_main_v1, val_main_v0]
  have hr : (⟨t.val * 256 + q.val, by omega⟩ : Fin 90112) = rowAt t q := Fin.ext (by dsimp only; omega)
  simp only [hr]

include he in
theorem pre_at (t : Fin 352) (q : Fin 256) (n : Fin 2048) : val_main_v19 (F := Ideal) x e w1 b1 (ix3 t q n) = pre x e w1 b1 (rowAt t q) n := by
  unfold pre
  rw [blockOf_rowAt]
  unfold val_main_v19 val_main_v9 val_main_v18 val_main_v17
  have hx := rows_at x t q
  have hw := w1_at e w1 he t
  have hb := b1_at e b1 he t
  generalize val_main_v1 (F := Ideal) x = y at hx
  generalize val_main_v8 (F := Ideal) e w1 = z at hw
  generalize val_main_v16 (F := Ideal) e b1 = c at hb
  pointwise [hx, hw, hb]

include he in
theorem act_at (t : Fin 352) (q : Fin 256) (j : Fin 1024) : val_main_v36 (F := Ideal) x e w1 b1 (ix3 t q j)
    = act (pre x e w1 b1 (rowAt t q) ⟨j.val, by omega⟩) (pre x e w1 b1 (rowAt t q) ⟨1024 + j.val, by omega⟩) := by
  have hp := pre_at x e w1 b1 he t q
  unfold val_main_v36 val_main_v35 val_main_v34 val_main_v33 val_main_v32 val_main_v31 val_main_v30 val_main_v29 val_main_v28 val_main_v27 val_main_v26 val_main_v25
    val_main_v24 val_main_call0_v4 val_main_call0_v3 val_main_call0_v2 val_main_call0_v1 val_main_call0_v0 val_main_v23 val_main_v22 val_main_v21 val_main_v20
    val_main_cst val_main_cst_3 val_main_cst_4 val_main_cst_5 val_main_cst_6 val_main_cst_7 val_main_cst_8 act
  generalize val_main_v19 (F := Ideal) x e w1 b1 = y at hp
  simp only [id_eq]
  pointwise [hp]

include he in
theorem out_at (t : Fin 352) (q : Fin 256) (d : Fin 1024) : val_main_v57 (F := Ideal) x g e w1 b1 w2 b2 (ix3 t q d)
    = ((∑ j : Fin 1024, act (pre x e w1 b1 (rowAt t q) ⟨j.val, by omega⟩) (pre x e w1 b1 (rowAt t q) ⟨1024 + j.val, by omega⟩) * w2 (ix3 (ex e t) j d))
      + b2 (ix2 (ex e t) d)) * g (ix1 (rowAt t q)) := by
  have ha := act_at x e w1 b1 he t q
  have hw := w2_at e w2 he t
  have hb := b2_at e b2 he t
  unfold val_main_v57 val_main_v56 val_main_v55 val_main_v54 val_main_v53 val_main_v52 val_main_v44
  generalize val_main_v36 (F := Ideal) x e w1 b1 = y at ha
  generalize val_main_v43 (F := Ideal) e w2 = z at hw
  generalize val_main_v51 (F := Ideal) e b2 = c at hb
  pointwise [ha, hw, hb]
  have hr : (⟨t.val * 256 + q.val, by omega⟩ : Fin 90112) = rowAt t q := Fin.ext (by dsimp only; omega)
  simp only [hr]

theorem used_at (t : Fin 352) (q : Fin 256) (d : Fin 1024) : val_main_call1_v1 (F := Ideal) u (ix3 t q d)
    = IntOp.cmpi .slt (BitVec.ofNat 32 t.val) (u (ix1 0)) := by
  pointwise [val_main_call1_v1, val_main_v62, val_main_v61, val_main_v60, val_main_v59, val_main_v58]

theorem select_slt (a b : BitVec 32) (y : EReal) : Scalar.select (IntOp.cmpi .slt a b) y 0 = if a.toInt < b.toInt then y else 0 := by
  by_cases h : a.toInt < b.toInt
  · rw [if_pos h]
    have hc : IntOp.cmpi .slt a b = 1#1 := by simp [IntOp.cmpi, BitVec.slt, h]
    rw [hc]; rfl
  · rw [if_neg h]
    have hc : IntOp.cmpi .slt a b = 0#1 := by simp [IntOp.cmpi, BitVec.slt, h]
    rw [hc]; rfl

theorem zero_at (i : S352x256x1024.Idx) : val_main_call1_v2 (F := Ideal) i = 0 := by
  unfold val_main_call1_v2 val_main_call1_v0 val_main_cst_13
  rw [id_eq]
  pointwise

include he in
theorem val_eq : val_main_v64 (F := Ideal) x g e u w1 b1 w2 b2 = G x g e u w1 b1 w2 b2 := by
  funext i
  obtain ⟨r, d, rfl⟩ : ∃ (r : Fin 90112) (d : Fin 1024), i = ix2 r d := ⟨i 0, i 1, eq_ix2 i⟩
  obtain ⟨t, q, rfl⟩ : ∃ (t : Fin 352) (q : Fin 256), r = rowAt t q :=
    ⟨⟨r.val / 256, by omega⟩, ⟨r.val % 256, Nat.mod_lt _ (by decide)⟩, Fin.ext (by show r.val = 256 * (r.val / 256) + r.val % 256; omega)⟩
  have hi : idx_main_v64 (ix2 (rowAt t q) d) = ix3 t q d := by
    funext a
    refine Fin.ext ?_
    match a with
    | ⟨0, _⟩ => show ((256 * t.val + q.val) * 1024 + d.val) / 262144 = t.val; omega
    | ⟨1, _⟩ => show ((256 * t.val + q.val) * 1024 + d.val) / 1024 % 256 = q.val; omega
    | ⟨2, _⟩ => show ((256 * t.val + q.val) * 1024 + d.val) % 1024 = d.val; omega
  rw [val_main_v64_apply, hi, val_main_v63_apply, used_at, zero_at, out_at x g e w1 b1 w2 b2 he, select_slt]
  show _ = row x g e u w1 b1 w2 b2 (rowAt t q) d
  unfold row
  rw [blockOf_rowAt]

end Cert.MoeRefIdeal.Pt

end
-- ==== Proof.lean ====
/- The claims of this directory, put together from the modules under proof/Proof/. -/
module

public import proofs.«01_k».proof.Defs
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Moe
public import proofs.«01_k».proof.Proof.Gen.Moe.Skeleton
public import proofs.«01_k».proof.Proof.Gen.Moe.Launch
public import proofs.«01_k».proof.Proof.Gen.Moe.Flash
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Flash
public import proofs.«01_k».proof.Proof.Gen.MoeRefIdeal
public import proofs.«01_k».proof.Proof.Gen.Pre_finite_logits
public import proofs.«01_k».proof.Proof.Gen.Pre_expert_tables
public import proofs.«01_k».proof.Pre_finite_logits
public import proofs.«01_k».proof.Proof.Gen.CtxIdeal.Value
public import proofs.«01_k».proof.Proof.Gen.ProjIdeal.Value
public import proofs.«01_k».proof.Proof.Gen.CtxRefIdeal.Run
public import proofs.«01_k».proof.Proof.Gen.CtxRefIdeal.Read
public import proofs.«01_k».proof.Proof.Gen.ProjRefIdeal.Run
public import proofs.«01_k».proof.Proof.Gen.ProjRefIdeal.Read
public import proofs.«01_k».proof.Proof.CtxEq
public import proofs.«01_k».proof.Proof.ProjOut
public import proofs.«01_k».proof.Proof.ProjRef
public import proofs.«01_k».proof.Proof.Gen.MoeRefIdeal.Run
public import proofs.«01_k».proof.Proof.Gen.MoeRefIdeal.Read
public import proofs.«01_k».proof.Proof.Gen.Res
public import proofs.«01_k».proof.Proof.Gen.Res.Skeleton
public import proofs.«01_k».proof.Proof.Gen.Res.Launch
public import proofs.«01_k».proof.Proof.Gen.Res.Points
public import proofs.«01_k».proof.Proof.Gen.Res.Frame
public import proofs.«01_k».proof.Proof.Gen.ResIdeal
public import proofs.«01_k».proof.Proof.Gen.ResIdeal.Skeleton
public import proofs.«01_k».proof.Proof.Gen.ResIdeal.Launch
public import proofs.«01_k».proof.Proof.Gen.ResIdeal.Points
public import proofs.«01_k».proof.Proof.Gen.ResIdeal.Frame
public import proofs.«01_k».proof.Proof.Gen.ResRefIdeal
public import proofs.«01_k».proof.Proof.Gen.ResRefIdeal.Run
public import proofs.«01_k».proof.Proof.Gen.ResRefIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastIdeal.Value
public import proofs.«01_k».proof.Proof.Gen.LastRefIdeal
public import proofs.«01_k».proof.Proof.Gen.LastRefIdeal.Run
public import proofs.«01_k».proof.Proof.Gen.LastRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame.Runs
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame.Runs
public import proofs.«01_k».proof.Proof.Gen.MixRefIdeal
public import proofs.«01_k».proof.Proof.Gen.MixRefIdeal.Run
public import proofs.«01_k».proof.Proof.Gen.MixRefIdeal.Read
public import proofs.«01_k».proof.Proof.Gen.Pre_finite_heads
public import Idealize.ShloMosaic.Adequacy
public import Idealize.ShloMosaic.Init
public import proofs.«01_k».proof.Proof.ResBitsFrame
public import proofs.«01_k».proof.Proof.ResOut
public import proofs.«01_k».proof.Proof.ResRef
public import proofs.«01_k».proof.Proof.LastOut
public import proofs.«01_k».proof.Proof.LastRef
public import proofs.«01_k».proof.Proof.MixBitsFrame
public import proofs.«01_k».proof.Proof.MixOut
public import proofs.«01_k».proof.Proof.MixRef
public import proofs.«01_k».proof.Proof.MixPre
public import proofs.«01_k».proof.Proof.MoeHeld
public import proofs.«01_k».proof.Proof.MoeBitsHeld
public import proofs.«01_k».proof.Proof.MoeOut
public import proofs.«01_k».proof.Proof.MoeRef

@[expose] public section

noncomputable section

namespace Cert.Proof

open Idealize.ShloMosaic Idealize.ShloMosaic.TcCoe Idealize.SL.Sem

theorem ctx_algebraic : algebraic_CtxIdeal_CtxRefIdeal_pre_finite_logits := by
  intro m g m' g' hpre hagree
  refine ⟨fun c => Cert.CtxIdeal.Out.G (m ((c.tc : Thread Cert.CtxIdeal.nD Cert.CtxIdeal.τ).loc Cert.CtxIdeal.main_arg0))
    (m ((c.tc : Thread Cert.CtxIdeal.nD Cert.CtxIdeal.τ).loc Cert.CtxIdeal.main_arg1)), ?_, ?_⟩
  · refine (θ_run _ _ _).mono (fun r h c => ?_) (Cert.CtxIdeal.Value.run_blocks (F := Ideal) m g)
    exact ⟨(h c).1.trans (Cert.CtxIdeal.Out.final m c), (h c).2⟩
  · refine (θ_run _ _ _).mono (fun r h c => ?_) (Cert.CtxRefIdeal.Value.run (F := Ideal) m' g')
    refine ⟨(h c).1.trans ?_, (h c).2⟩
    rw [Cert.CtxRefIdeal.Read.val_main_v30_eq, (hagree c).1, (hagree c).2]
    exact (Cert.CtxEq.eq _ _ (hpre c)).symm

theorem proj_algebraic : algebraic_ProjIdeal_ProjRefIdeal := by
  intro m g m' g' _ hagree
  refine ⟨fun c => Cert.ProjIdeal.Out.G (m ((c.tc : Thread Cert.ProjIdeal.nD Cert.ProjIdeal.τ).loc Cert.ProjIdeal.main_arg0))
    (m ((c.tc : Thread Cert.ProjIdeal.nD Cert.ProjIdeal.τ).loc Cert.ProjIdeal.main_arg1))
    (m ((c.tc : Thread Cert.ProjIdeal.nD Cert.ProjIdeal.τ).loc Cert.ProjIdeal.main_arg2))
    (m ((c.tc : Thread Cert.ProjIdeal.nD Cert.ProjIdeal.τ).loc Cert.ProjIdeal.main_arg3)), ?_, ?_⟩
  · refine (θ_run _ _ _).mono (fun r h c => ?_) (Cert.ProjIdeal.Value.run_blocks (F := Ideal) m g)
    exact ⟨(h c).1.trans (Cert.ProjIdeal.Out.final m c), (h c).2⟩
  · refine (θ_run _ _ _).mono (fun r h c => ?_) (Cert.ProjRefIdeal.Value.run (F := Ideal) m' g')
    refine ⟨(h c).1.trans ?_, (h c).2⟩
    rw [Cert.ProjRefIdeal.Read.val_main_v60_eq, (hagree c).1, (hagree c).2.1, (hagree c).2.2.1, (hagree c).2.2.2]
    exact Cert.ProjRefIdeal.Pt.val_eq _ _ _ _

theorem res_algebraic : algebraic_ResIdeal_ResRefIdeal := by
  intro m g m' g' _ hagree
  refine ⟨fun c => Cert.ResIdeal.Out.GZ (m ((c.tc : Thread Cert.ResIdeal.nD Cert.ResIdeal.τ).loc Cert.ResIdeal.main_arg0))
      (m ((c.tc : Thread Cert.ResIdeal.nD Cert.ResIdeal.τ).loc Cert.ResIdeal.main_arg1))
      (m ((c.tc : Thread Cert.ResIdeal.nD Cert.ResIdeal.τ).loc Cert.ResIdeal.main_arg2))
      (m ((c.tc : Thread Cert.ResIdeal.nD Cert.ResIdeal.τ).loc Cert.ResIdeal.main_arg3))
      (m ((c.tc : Thread Cert.ResIdeal.nD Cert.ResIdeal.τ).loc Cert.ResIdeal.main_arg4))
      (m ((c.tc : Thread Cert.ResIdeal.nD Cert.ResIdeal.τ).loc Cert.ResIdeal.main_arg5)),
    fun c => Cert.ResIdeal.Out.GX (m ((c.tc : Thread Cert.ResIdeal.nD Cert.ResIdeal.τ).loc Cert.ResIdeal.main_arg0))
      (m ((c.tc : Thread Cert.ResIdeal.nD Cert.ResIdeal.τ).loc Cert.ResIdeal.main_arg1))
      (m ((c.tc : Thread Cert.ResIdeal.nD Cert.ResIdeal.τ).loc Cert.ResIdeal.main_arg2)), ?_, ?_⟩
  · exact (θ_run _ _ _).mono (fun r h c => ⟨(h.1 c).1, (h.1 c).2, h.2 c⟩)
      (θ_run_and (Cert.ResIdeal.Out.run_value m g) (Cert.ResIdeal.Run.unchanged m g))
  · refine (θ_run _ _ _).mono (fun r h c => ?_) (Cert.ResRefIdeal.Value.run (F := Ideal) m' g')
    obtain ⟨h0, h1, h2, h3, h4, h5⟩ := hagree c
    refine ⟨(h c).1.trans ?_, (h c).2.1.trans ?_, (h c).2.2⟩
    · rw [Cert.ResRefIdeal.Read.val_main_v80_eq, h0, h1, h2, h3, h4, h5]
      exact Cert.ResRefIdeal.Pt.product_eq _ _ _ _ _ _
    · rw [Cert.ResRefIdeal.Read.val_main_v81_eq, h0, h1, h2]
      exact Cert.ResRefIdeal.Pt.stream_eq _ _ _

theorem last_algebraic : algebraic_LastIdeal_LastRefIdeal := by
  intro m g m' g' _ hagree
  refine ⟨fun c => Cert.LastIdeal.Out.G (m ((c.tc : Thread Cert.LastIdeal.nD Cert.LastIdeal.τ).loc Cert.LastIdeal.main_arg0))
    (m ((c.tc : Thread Cert.LastIdeal.nD Cert.LastIdeal.τ).loc Cert.LastIdeal.main_arg1))
    (m ((c.tc : Thread Cert.LastIdeal.nD Cert.LastIdeal.τ).loc Cert.LastIdeal.main_arg2))
    (m ((c.tc : Thread Cert.LastIdeal.nD Cert.LastIdeal.τ).loc Cert.LastIdeal.main_arg3)), ?_, ?_⟩
  · refine (θ_run _ _ _).mono (fun r h c => ?_) (Cert.LastIdeal.Value.run_blocks (F := Ideal) m g)
    exact ⟨(h c).1.trans (Cert.LastIdeal.Out.final m c), (h c).2⟩
  · refine (θ_run _ _ _).mono (fun r h c => ?_) (Cert.LastRefIdeal.Value.run (F := Ideal) m' g')
    refine ⟨(h c).1.trans ?_, (h c).2⟩
    rw [Cert.LastRefIdeal.Read.val_main_v50_eq, (hagree c).1, (hagree c).2.1, (hagree c).2.2.1, (hagree c).2.2.2]
    exact Cert.LastRefIdeal.Pt.val_eq _ _ _ _

theorem ctxRef_frame : quiescent_CtxRefIdeal := fun m g _ =>
  (θ_run _ _ _).mono (fun r h => ⟨fun c => (h c).2, sem_eq_zero_of_no_sems rfl r.2⟩) (Cert.CtxRefIdeal.Value.run (F := Ideal) m g)

theorem projRef_frame : quiescent_ProjRefIdeal := fun m g _ =>
  (θ_run _ _ _).mono (fun r h => ⟨fun c => (h c).2, sem_eq_zero_of_no_sems rfl r.2⟩) (Cert.ProjRefIdeal.Value.run (F := Ideal) m g)

theorem resRef_frame : quiescent_ResRefIdeal := fun m g _ =>
  (θ_run _ _ _).mono (fun r h => ⟨fun c => (h c).2.2, sem_eq_zero_of_no_sems rfl r.2⟩) (Cert.ResRefIdeal.Value.run (F := Ideal) m g)

theorem lastRef_frame : quiescent_LastRefIdeal := fun m g _ =>
  (θ_run _ _ _).mono (fun r h => ⟨fun c => (h c).2, sem_eq_zero_of_no_sems rfl r.2⟩) (Cert.LastRefIdeal.Value.run (F := Ideal) m g)

theorem moeRef_frame : quiescent_MoeRefIdeal := fun m g _ =>
  (θ_run _ _ _).mono (fun r h => ⟨fun c => (h c).2, sem_eq_zero_of_no_sems rfl r.2⟩) (Cert.MoeRefIdeal.Value.run (F := Ideal) m g)

theorem moe_frame : quiescent_Moe := fun m g hpre => by
  have hT : Cert.MoePre.Tables (Cert.Moe.Run.expertOf m) (Cert.Moe.Run.firstOf m) := Cert.MoePre.of_pre _ _ _ _ _ _ _ _ _ (hpre 0)
  exact Cert.Moe.Run.frame m g (Cert.Moe.Run.ok_of_tables m hT) fun c => Cert.Moe.Run.held_of_tables m hT _ c

theorem moeIdeal_frame : quiescent_MoeIdeal := fun m g hpre => by
  have hT : Cert.MoePre.Tables (Cert.MoeIdeal.Run.expertOf m) (Cert.MoeIdeal.Run.firstOf m) := Cert.MoePre.of_pre _ _ _ _ _ _ _ _ _ (hpre 0)
  exact Cert.MoeIdeal.Run.frame m g (Cert.MoeIdeal.Run.ok_of_tables m hT) fun c => Cert.MoeIdeal.Run.held_of_tables m hT _ c

theorem moe_algebraic : algebraic_MoeIdeal_MoeRefIdeal := by
  intro m g m' g' hpre hagree
  have hT : Cert.MoePre.Tables (Cert.MoeIdeal.Run.expertOf m) (Cert.MoeIdeal.Run.firstOf m) := Cert.MoePre.of_pre _ _ _ _ _ _ _ _ _ (hpre 0)
  refine ⟨fun c => Cert.MoeIdeal.Out.G (m ((c.tc : Thread Cert.MoeIdeal.nD Cert.MoeIdeal.τ).loc Cert.MoeIdeal.main_arg0))
    (m ((c.tc : Thread Cert.MoeIdeal.nD Cert.MoeIdeal.τ).loc Cert.MoeIdeal.main_arg1))
    (m ((c.tc : Thread Cert.MoeIdeal.nD Cert.MoeIdeal.τ).loc Cert.MoeIdeal.main_arg2))
    (m ((c.tc : Thread Cert.MoeIdeal.nD Cert.MoeIdeal.τ).loc Cert.MoeIdeal.main_arg4))
    (m ((c.tc : Thread Cert.MoeIdeal.nD Cert.MoeIdeal.τ).loc Cert.MoeIdeal.main_arg5))
    (m ((c.tc : Thread Cert.MoeIdeal.nD Cert.MoeIdeal.τ).loc Cert.MoeIdeal.main_arg6))
    (m ((c.tc : Thread Cert.MoeIdeal.nD Cert.MoeIdeal.τ).loc Cert.MoeIdeal.main_arg7))
    (m ((c.tc : Thread Cert.MoeIdeal.nD Cert.MoeIdeal.τ).loc Cert.MoeIdeal.main_arg8)), ?_, ?_⟩
  · refine (θ_run _ _ _).mono (fun r h c => ?_) (Cert.MoeIdeal.Out.run_value m hT g)
    obtain rfl : c = 0 := Subsingleton.elim _ _
    exact h
  · refine (θ_run _ _ _).mono (fun r h c => ?_) (Cert.MoeRefIdeal.Value.run (F := Ideal) m' g')
    obtain rfl : c = 0 := Subsingleton.elim _ _
    obtain ⟨h0, h1, h2, _, h4, h5, h6, h7, h8⟩ := hagree 0
    refine ⟨(h 0).1.trans ?_, (h 0).2⟩
    rw [Cert.MoeRefIdeal.Read.val_main_v64_eq, h0, h1, h2, h4, h5, h6, h7, h8]
    exact Cert.MoeRefIdeal.Pt.val_eq _ _ _ _ _ _ _ _ fun t => (hT t).1

theorem mix_algebraic : algebraic_MixIdeal_MixRefIdeal_pre_finite_heads := by
  intro m g m' g' hpre hagree
  refine ⟨fun c => Cert.MixMid.G
    (m ((c.tc : Thread Cert.MixIdeal.nD Cert.MixIdeal.τ).loc Cert.MixIdeal.main_arg0))
    (m ((c.tc : Thread Cert.MixIdeal.nD Cert.MixIdeal.τ).loc Cert.MixIdeal.main_arg1))
    (m ((c.tc : Thread Cert.MixIdeal.nD Cert.MixIdeal.τ).loc Cert.MixIdeal.main_arg2))
    (m ((c.tc : Thread Cert.MixIdeal.nD Cert.MixIdeal.τ).loc Cert.MixIdeal.main_arg3))
    (m ((c.tc : Thread Cert.MixIdeal.nD Cert.MixIdeal.τ).loc Cert.MixIdeal.main_arg4))
    (m ((c.tc : Thread Cert.MixIdeal.nD Cert.MixIdeal.τ).loc Cert.MixIdeal.main_arg5))
    (m ((c.tc : Thread Cert.MixIdeal.nD Cert.MixIdeal.τ).loc Cert.MixIdeal.main_arg6))
    (m ((c.tc : Thread Cert.MixIdeal.nD Cert.MixIdeal.τ).loc Cert.MixIdeal.main_arg7))
    (m ((c.tc : Thread Cert.MixIdeal.nD Cert.MixIdeal.τ).loc Cert.MixIdeal.main_arg8))
    (m ((c.tc : Thread Cert.MixIdeal.nD Cert.MixIdeal.τ).loc Cert.MixIdeal.main_arg9))
    (m ((c.tc : Thread Cert.MixIdeal.nD Cert.MixIdeal.τ).loc Cert.MixIdeal.main_arg10))
    (m ((c.tc : Thread Cert.MixIdeal.nD Cert.MixIdeal.τ).loc Cert.MixIdeal.main_arg11))
    (m ((c.tc : Thread Cert.MixIdeal.nD Cert.MixIdeal.τ).loc Cert.MixIdeal.main_arg12))
    (m ((c.tc : Thread Cert.MixIdeal.nD Cert.MixIdeal.τ).loc Cert.MixIdeal.main_arg13))
    (m ((c.tc : Thread Cert.MixIdeal.nD Cert.MixIdeal.τ).loc Cert.MixIdeal.main_arg14))
    (m ((c.tc : Thread Cert.MixIdeal.nD Cert.MixIdeal.τ).loc Cert.MixIdeal.main_arg15))
    (m ((c.tc : Thread Cert.MixIdeal.nD Cert.MixIdeal.τ).loc Cert.MixIdeal.main_arg16))
    (m ((c.tc : Thread Cert.MixIdeal.nD Cert.MixIdeal.τ).loc Cert.MixIdeal.main_arg17)), ?_, ?_⟩
  · refine (θ_run _ _ _).mono (fun r h c => ?_) (Cert.MixIdeal.Run.run_rows (F := Ideal) m g)
    obtain ⟨hz, hp, hq, hka, hrk⟩ := Cert.MixPre.of_pre _ _ _ _ _ _ _ _ _ _ _ _ _ _ _ _ _ _ (hpre c)
    exact ⟨(h c).1.trans (Cert.MixIdeal.Out.final m c hz hp hq hka hrk), (h c).2⟩
  · refine (θ_run _ _ _).mono (fun r h c => ?_) (Cert.MixRefIdeal.Value.run (F := Ideal) m' g')
    obtain ⟨h0, h1, h2, h3, h4, h5, h6, h7, h8, h9, h10, h11, h12, h13, h14, h15, h16, h17⟩ := hagree c
    refine ⟨(h c).1.trans ?_, (h c).2⟩
    rw [Cert.MixRefIdeal.Read.val_main_v214_eq]
    refine (Cert.MixRefIdeal.Pt.val_eq _ _ _ _ _ _ _ _ _ _ _ _ _ _ _ _ _ _).trans ?_
    show Cert.MixMid.G (m' ((c.tc : Thread Cert.MixRefIdeal.nD Cert.MixRefIdeal.τ).loc Cert.MixRefIdeal.main_arg0))
      (m' ((c.tc : Thread Cert.MixRefIdeal.nD Cert.MixRefIdeal.τ).loc Cert.MixRefIdeal.main_arg1))
      (m' ((c.tc : Thread Cert.MixRefIdeal.nD Cert.MixRefIdeal.τ).loc Cert.MixRefIdeal.main_arg2))
      (m' ((c.tc : Thread Cert.MixRefIdeal.nD Cert.MixRefIdeal.τ).loc Cert.MixRefIdeal.main_arg3))
      (m' ((c.tc : Thread Cert.MixRefIdeal.nD Cert.MixRefIdeal.τ).loc Cert.MixRefIdeal.main_arg4))
      (m' ((c.tc : Thread Cert.MixRefIdeal.nD Cert.MixRefIdeal.τ).loc Cert.MixRefIdeal.main_arg5))
      (m' ((c.tc : Thread Cert.MixRefIdeal.nD Cert.MixRefIdeal.τ).loc Cert.MixRefIdeal.main_arg6))
      (m' ((c.tc : Thread Cert.MixRefIdeal.nD Cert.MixRefIdeal.τ).loc Cert.MixRefIdeal.main_arg7))
      (m' ((c.tc : Thread Cert.MixRefIdeal.nD Cert.MixRefIdeal.τ).loc Cert.MixRefIdeal.main_arg8))
      (m' ((c.tc : Thread Cert.MixRefIdeal.nD Cert.MixRefIdeal.τ).loc Cert.MixRefIdeal.main_arg9))
      (m' ((c.tc : Thread Cert.MixRefIdeal.nD Cert.MixRefIdeal.τ).loc Cert.MixRefIdeal.main_arg10))
      (m' ((c.tc : Thread Cert.MixRefIdeal.nD Cert.MixRefIdeal.τ).loc Cert.MixRefIdeal.main_arg11))
      (m' ((c.tc : Thread Cert.MixRefIdeal.nD Cert.MixRefIdeal.τ).loc Cert.MixRefIdeal.main_arg12))
      (m' ((c.tc : Thread Cert.MixRefIdeal.nD Cert.MixRefIdeal.τ).loc Cert.MixRefIdeal.main_arg13))
      (m' ((c.tc : Thread Cert.MixRefIdeal.nD Cert.MixRefIdeal.τ).loc Cert.MixRefIdeal.main_arg14))
      (m' ((c.tc : Thread Cert.MixRefIdeal.nD Cert.MixRefIdeal.τ).loc Cert.MixRefIdeal.main_arg15))
      (m' ((c.tc : Thread Cert.MixRefIdeal.nD Cert.MixRefIdeal.τ).loc Cert.MixRefIdeal.main_arg16))
      (m' ((c.tc : Thread Cert.MixRefIdeal.nD Cert.MixRefIdeal.τ).loc Cert.MixRefIdeal.main_arg17)) = _
    rw [h0, h1, h2, h3, h4, h5, h6, h7, h8, h9, h10, h11, h12, h13, h14, h15, h16, h17]

theorem mixRef_frame : quiescent_MixRefIdeal := fun m g _ =>
  (θ_run _ _ _).mono (fun r h => ⟨fun c => (h c).2, sem_eq_zero_of_no_sems rfl r.2⟩) (Cert.MixRefIdeal.Value.run (F := Ideal) m g)

theorem claim : Cert.Claim :=
  ⟨Cert.Ctx.Gen.facts, Cert.CtxIdeal.Gen.facts, Cert.CtxRefIdeal.Gen.facts, Cert.Proj.Gen.facts, Cert.ProjIdeal.Gen.facts, Cert.ProjRefIdeal.Gen.facts,
    Cert.Res.Gen.facts, Cert.ResIdeal.Gen.facts, Cert.ResRefIdeal.Gen.facts,
    Cert.Mix.Gen.facts, Cert.MixIdeal.Gen.facts, Cert.MixRefIdeal.Gen.facts, Cert.Last.Gen.facts, Cert.LastIdeal.Gen.facts, Cert.LastRefIdeal.Gen.facts,
    Cert.Moe.Gen.facts, Cert.MoeIdeal.Gen.facts, Cert.MoeRefIdeal.Gen.facts, Cert.CtxMath.facts, Cert.Pre_finite_heads.Gen.facts, Cert.MoePre.facts,
    fun m g _ => Cert.Ctx.Gen.frame m g, fun m g _ => Cert.CtxIdeal.Gen.frame m g, fun m g _ => Cert.CtxIdeal.Gen.frame m g,
    ctxRef_frame, fun m g _ => ctxRef_frame m g trivial,
    fun m g _ => Cert.Proj.Gen.frame m g, fun m g _ => Cert.ProjIdeal.Gen.frame m g, projRef_frame,
    fun m g _ => Cert.Res.Run.frame m g, fun m g _ => Cert.ResIdeal.Run.frame m g, resRef_frame,
    fun m g _ => Cert.Mix.Run.frame m g, fun m g _ => Cert.MixIdeal.Run.frame m g, fun m g _ => Cert.MixIdeal.Run.frame m g,
    mixRef_frame, fun m g _ => mixRef_frame m g trivial,
    fun m g _ => Cert.Last.Gen.frame m g, fun m g _ => Cert.LastIdeal.Gen.frame m g, lastRef_frame,
    moe_frame, moeIdeal_frame, moeRef_frame, fun m g _ => moeRef_frame m g trivial,
    trivial, ctx_algebraic, trivial, proj_algebraic, trivial, res_algebraic, trivial, mix_algebraic, trivial, last_algebraic, trivial, moe_algebraic⟩

end Cert.Proof

end
